-- ==== Defs.lean ====
def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_RefHgrnIdeal (m : (ℓ : Loc Cert.RefHgrnIdeal.nD Cert.RefHgrnIdeal.τ Cert.RefHgrnIdeal.sig) → Buf (Elt Ideal) ℓ) : Prop :=
  True

def Pre_HgrnS (m : (ℓ : Loc Cert.HgrnS.nD Cert.HgrnS.τ Cert.HgrnS.sig) → Buf (Elt Bits) ℓ) : Prop :=
  True

def Pre_HgrnSIdeal (m : (ℓ : Loc Cert.HgrnSIdeal.nD Cert.HgrnSIdeal.τ Cert.HgrnSIdeal.sig) → Buf (Elt Ideal) ℓ) : Prop :=
  True

def Pre_RefHgrnSIdeal (m : (ℓ : Loc Cert.RefHgrnSIdeal.nD Cert.RefHgrnSIdeal.τ Cert.RefHgrnSIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_RefProjSIdeal (m : (ℓ : Loc Cert.RefProjSIdeal.nD Cert.RefProjSIdeal.τ Cert.RefProjSIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_RefFfnSIdeal (m : (ℓ : Loc Cert.RefFfnSIdeal.nD Cert.RefFfnSIdeal.τ Cert.RefFfnSIdeal.sig) → Buf (Elt Ideal) ℓ) : Prop :=
  True

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_RefHgrnIdeal [hRefHgrnIdeal : Cert.RefHgrnIdeal.Facts] : Prop :=
  ∀ (m : (ℓ : Loc Cert.RefHgrnIdeal.nD Cert.RefHgrnIdeal.τ Cert.RefHgrnIdeal.sig) → Buf (Elt Ideal) ℓ) (g : Dev Cert.RefHgrnIdeal.nD → PrngReg), Pre_RefHgrnIdeal m →
    θ_run (Cert.RefHgrnIdeal.defs (F := Ideal)) (onTc (τ := Cert.RefHgrnIdeal.τ) (Cert.RefHgrnIdeal.main (F := Ideal))) ⟨m, fun _ => 0, g⟩ (fun r => (∀ c : Dev Cert.RefHgrnIdeal.nD,
      r.2.mem ((c.tc : Thread Cert.RefHgrnIdeal.nD Cert.RefHgrnIdeal.τ).loc Cert.RefHgrnIdeal.main_arg0) = m ((c.tc : Thread Cert.RefHgrnIdeal.nD Cert.RefHgrnIdeal.τ).loc Cert.RefHgrnIdeal.main_arg0)
      ∧ r.2.mem ((c.tc : Thread Cert.RefHgrnIdeal.nD Cert.RefHgrnIdeal.τ).loc Cert.RefHgrnIdeal.main_arg1) = m ((c.tc : Thread Cert.RefHgrnIdeal.nD Cert.RefHgrnIdeal.τ).loc Cert.RefHgrnIdeal.main_arg1)
      ∧ r.2.mem ((c.tc : Thread Cert.RefHgrnIdeal.nD Cert.RefHgrnIdeal.τ).loc Cert.RefHgrnIdeal.main_arg2) = m ((c.tc : Thread Cert.RefHgrnIdeal.nD Cert.RefHgrnIdeal.τ).loc Cert.RefHgrnIdeal.main_arg2))
      ∧ r.2.sem = fun _ => 0)

def quiescent_HgrnS [hHgrnS : Cert.HgrnS.Facts] : Prop :=
  ∀ (m : (ℓ : Loc Cert.HgrnS.nD Cert.HgrnS.τ Cert.HgrnS.sig) → Buf (Elt Bits) ℓ) (g : Dev Cert.HgrnS.nD → PrngReg), Pre_HgrnS m →
    θ_run (Cert.HgrnS.defs (F := Bits)) (onTc (τ := Cert.HgrnS.τ) (Cert.HgrnS.main (F := Bits))) ⟨m, fun _ => 0, g⟩ (fun r => (∀ c : Dev Cert.HgrnS.nD,
      r.2.mem ((c.tc : Thread Cert.HgrnS.nD Cert.HgrnS.τ).loc Cert.HgrnS.main_arg0) = m ((c.tc : Thread Cert.HgrnS.nD Cert.HgrnS.τ).loc Cert.HgrnS.main_arg0)
      ∧ r.2.mem ((c.tc : Thread Cert.HgrnS.nD Cert.HgrnS.τ).loc Cert.HgrnS.main_arg1) = m ((c.tc : Thread Cert.HgrnS.nD Cert.HgrnS.τ).loc Cert.HgrnS.main_arg1)
      ∧ r.2.mem ((c.tc : Thread Cert.HgrnS.nD Cert.HgrnS.τ).loc Cert.HgrnS.main_arg2) = m ((c.tc : Thread Cert.HgrnS.nD Cert.HgrnS.τ).loc Cert.HgrnS.main_arg2)
      ∧ r.2.mem ((c.tc : Thread Cert.HgrnS.nD Cert.HgrnS.τ).loc Cert.HgrnS.main_arg3) = m ((c.tc : Thread Cert.HgrnS.nD Cert.HgrnS.τ).loc Cert.HgrnS.main_arg3))
      ∧ r.2.sem = fun _ => 0)

def quiescent_HgrnSIdeal [hHgrnSIdeal : Cert.HgrnSIdeal.Facts] : Prop :=
  ∀ (m : (ℓ : Loc Cert.HgrnSIdeal.nD Cert.HgrnSIdeal.τ Cert.HgrnSIdeal.sig) → Buf (Elt Ideal) ℓ) (g : Dev Cert.HgrnSIdeal.nD → PrngReg), Pre_HgrnSIdeal m →
    θ_run (Cert.HgrnSIdeal.defs (F := Ideal)) (onTc (τ := Cert.HgrnSIdeal.τ) (Cert.HgrnSIdeal.main (F := Ideal))) ⟨m, fun _ => 0, g⟩ (fun r => (∀ c : Dev Cert.HgrnSIdeal.nD,
      r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
      ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
      ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
      ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ r.2.sem = fun _ => 0)

def quiescent_RefHgrnSIdeal [hRefHgrnSIdeal : Cert.RefHgrnSIdeal.Facts] : Prop :=
  ∀ (m : (ℓ : Loc Cert.RefHgrnSIdeal.nD Cert.RefHgrnSIdeal.τ Cert.RefHgrnSIdeal.sig) → Buf (Elt Ideal) ℓ) (g : Dev Cert.RefHgrnSIdeal.nD → PrngReg), Pre_RefHgrnSIdeal m →
    θ_run (Cert.RefHgrnSIdeal.defs (F := Ideal)) (onTc (τ := Cert.RefHgrnSIdeal.τ) (Cert.RefHgrnSIdeal.main (F := Ideal))) ⟨m, fun _ => 0, g⟩ (fun r => (∀ c : Dev Cert.RefHgrnSIdeal.nD,
      r.2.mem ((c.tc : Thread Cert.RefHgrnSIdeal.nD Cert.RefHgrnSIdeal.τ).loc Cert.RefHgrnSIdeal.main_arg0) = m ((c.tc : Thread Cert.RefHgrnSIdeal.nD Cert.RefHgrnSIdeal.τ).loc Cert.RefHgrnSIdeal.main_arg0)
      ∧ r.2.mem ((c.tc : Thread Cert.RefHgrnSIdeal.nD Cert.RefHgrnSIdeal.τ).loc Cert.RefHgrnSIdeal.main_arg1) = m ((c.tc : Thread Cert.RefHgrnSIdeal.nD Cert.RefHgrnSIdeal.τ).loc Cert.RefHgrnSIdeal.main_arg1)
      ∧ r.2.mem ((c.tc : Thread Cert.RefHgrnSIdeal.nD Cert.RefHgrnSIdeal.τ).loc Cert.RefHgrnSIdeal.main_arg2) = m ((c.tc : Thread Cert.RefHgrnSIdeal.nD Cert.RefHgrnSIdeal.τ).loc Cert.RefHgrnSIdeal.main_arg2)
      ∧ r.2.mem ((c.tc : Thread Cert.RefHgrnSIdeal.nD Cert.RefHgrnSIdeal.τ).loc Cert.RefHgrnSIdeal.main_arg3) = m ((c.tc : Thread Cert.RefHgrnSIdeal.nD Cert.RefHgrnSIdeal.τ).loc Cert.RefHgrnSIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ r.2.sem = fun _ => 0)

def quiescent_RefProjSIdeal [hRefProjSIdeal : Cert.RefProjSIdeal.Facts] : Prop :=
  ∀ (m : (ℓ : Loc Cert.RefProjSIdeal.nD Cert.RefProjSIdeal.τ Cert.RefProjSIdeal.sig) → Buf (Elt Ideal) ℓ) (g : Dev Cert.RefProjSIdeal.nD → PrngReg), Pre_RefProjSIdeal m →
    θ_run (Cert.RefProjSIdeal.defs (F := Ideal)) (onTc (τ := Cert.RefProjSIdeal.τ) (Cert.RefProjSIdeal.main (F := Ideal))) ⟨m, fun _ => 0, g⟩ (fun r => (∀ c : Dev Cert.RefProjSIdeal.nD,
      r.2.mem ((c.tc : Thread Cert.RefProjSIdeal.nD Cert.RefProjSIdeal.τ).loc Cert.RefProjSIdeal.main_arg0) = m ((c.tc : Thread Cert.RefProjSIdeal.nD Cert.RefProjSIdeal.τ).loc Cert.RefProjSIdeal.main_arg0)
      ∧ r.2.mem ((c.tc : Thread Cert.RefProjSIdeal.nD Cert.RefProjSIdeal.τ).loc Cert.RefProjSIdeal.main_arg1) = m ((c.tc : Thread Cert.RefProjSIdeal.nD Cert.RefProjSIdeal.τ).loc Cert.RefProjSIdeal.main_arg1)
      ∧ r.2.mem ((c.tc : Thread Cert.RefProjSIdeal.nD Cert.RefProjSIdeal.τ).loc Cert.RefProjSIdeal.main_arg2) = m ((c.tc : Thread Cert.RefProjSIdeal.nD Cert.RefProjSIdeal.τ).loc Cert.RefProjSIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ r.2.sem = fun _ => 0)

def quiescent_RefFfnSIdeal [hRefFfnSIdeal : Cert.RefFfnSIdeal.Facts] : Prop :=
  ∀ (m : (ℓ : Loc Cert.RefFfnSIdeal.nD Cert.RefFfnSIdeal.τ Cert.RefFfnSIdeal.sig) → Buf (Elt Ideal) ℓ) (g : Dev Cert.RefFfnSIdeal.nD → PrngReg), Pre_RefFfnSIdeal m →
    θ_run (Cert.RefFfnSIdeal.defs (F := Ideal)) (onTc (τ := Cert.RefFfnSIdeal.τ) (Cert.RefFfnSIdeal.main (F := Ideal))) ⟨m, fun _ => 0, g⟩ (fun r => (∀ c : Dev Cert.RefFfnSIdeal.nD,
      r.2.mem ((c.tc : Thread Cert.RefFfnSIdeal.nD Cert.RefFfnSIdeal.τ).loc Cert.RefFfnSIdeal.main_arg0) = m ((c.tc : Thread Cert.RefFfnSIdeal.nD Cert.RefFfnSIdeal.τ).loc Cert.RefFfnSIdeal.main_arg0)
      ∧ r.2.mem ((c.tc : Thread Cert.RefFfnSIdeal.nD Cert.RefFfnSIdeal.τ).loc Cert.RefFfnSIdeal.main_arg1) = m ((c.tc : Thread Cert.RefFfnSIdeal.nD Cert.RefFfnSIdeal.τ).loc Cert.RefFfnSIdeal.main_arg1)
      ∧ r.2.mem ((c.tc : Thread Cert.RefFfnSIdeal.nD Cert.RefFfnSIdeal.τ).loc Cert.RefFfnSIdeal.main_arg2) = m ((c.tc : Thread Cert.RefFfnSIdeal.nD Cert.RefFfnSIdeal.τ).loc Cert.RefFfnSIdeal.main_arg2)
      ∧ r.2.mem ((c.tc : Thread Cert.RefFfnSIdeal.nD Cert.RefFfnSIdeal.τ).loc Cert.RefFfnSIdeal.main_arg3) = m ((c.tc : Thread Cert.RefFfnSIdeal.nD Cert.RefFfnSIdeal.τ).loc Cert.RefFfnSIdeal.main_arg3)
      ∧ r.2.mem ((c.tc : Thread Cert.RefFfnSIdeal.nD Cert.RefFfnSIdeal.τ).loc Cert.RefFfnSIdeal.main_arg4) = m ((c.tc : Thread Cert.RefFfnSIdeal.nD Cert.RefFfnSIdeal.τ).loc Cert.RefFfnSIdeal.main_arg4))
      ∧ r.2.sem = fun _ => 0)

def preserves_Hgrn_HgrnIdeal : Prop :=
  True

def algebraic_HgrnIdeal_RefHgrnIdeal [hHgrnIdeal : Cert.HgrnIdeal.Facts] [hRefHgrnIdeal : Cert.RefHgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.RefHgrnIdeal.nD Cert.RefHgrnIdeal.τ Cert.RefHgrnIdeal.sig) → Buf (Elt Ideal) ℓ) (g' : Dev Cert.RefHgrnIdeal.nD → PrngReg), Pre_HgrnIdeal m →
    (∀ c : Dev Cert.HgrnIdeal.nD,
      m' ((c.tc : Thread Cert.RefHgrnIdeal.nD Cert.RefHgrnIdeal.τ).loc Cert.RefHgrnIdeal.main_arg0) = m ((c.tc : Thread Cert.HgrnIdeal.nD Cert.HgrnIdeal.τ).loc Cert.HgrnIdeal.main_arg0)
      ∧ m' ((c.tc : Thread Cert.RefHgrnIdeal.nD Cert.RefHgrnIdeal.τ).loc Cert.RefHgrnIdeal.main_arg1) = m ((c.tc : Thread Cert.HgrnIdeal.nD Cert.HgrnIdeal.τ).loc Cert.HgrnIdeal.main_arg1)
      ∧ m' ((c.tc : Thread Cert.RefHgrnIdeal.nD Cert.RefHgrnIdeal.τ).loc Cert.RefHgrnIdeal.main_arg2) = m ((c.tc : Thread Cert.HgrnIdeal.nD Cert.HgrnIdeal.τ).loc Cert.HgrnIdeal.main_arg2)) →
    ∃ (v0 : (c : Dev Cert.HgrnIdeal.nD) → Buf (Elt Ideal) ((c.tc : Thread Cert.HgrnIdeal.nD Cert.HgrnIdeal.τ).loc Cert.HgrnIdeal.main_v17_0)) (v1 : (c : Dev Cert.HgrnIdeal.nD) → Buf (Elt Ideal) ((c.tc : Thread Cert.HgrnIdeal.nD Cert.HgrnIdeal.τ).loc Cert.HgrnIdeal.main_v17_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v17_0) = v0 c
          ∧ r.2.mem ((c.tc : Thread Cert.HgrnIdeal.nD Cert.HgrnIdeal.τ).loc Cert.HgrnIdeal.main_v17_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ θ_run (Cert.RefHgrnIdeal.defs (F := Ideal)) (onTc (τ := Cert.RefHgrnIdeal.τ) (Cert.RefHgrnIdeal.main (F := Ideal))) ⟨m', fun _ => 0, g'⟩ (fun r => ∀ c : Dev Cert.RefHgrnIdeal.nD,
          r.2.mem ((c.tc : Thread Cert.RefHgrnIdeal.nD Cert.RefHgrnIdeal.τ).loc Cert.RefHgrnIdeal.main_v94) = v0 c
          ∧ r.2.mem ((c.tc : Thread Cert.RefHgrnIdeal.nD Cert.RefHgrnIdeal.τ).loc Cert.RefHgrnIdeal.main_v72_5) = v1 c
          ∧ r.2.mem ((c.tc : Thread Cert.RefHgrnIdeal.nD Cert.RefHgrnIdeal.τ).loc Cert.RefHgrnIdeal.main_arg0) = m' ((c.tc : Thread Cert.RefHgrnIdeal.nD Cert.RefHgrnIdeal.τ).loc Cert.RefHgrnIdeal.main_arg0)
          ∧ r.2.mem ((c.tc : Thread Cert.RefHgrnIdeal.nD Cert.RefHgrnIdeal.τ).loc Cert.RefHgrnIdeal.main_arg1) = m' ((c.tc : Thread Cert.RefHgrnIdeal.nD Cert.RefHgrnIdeal.τ).loc Cert.RefHgrnIdeal.main_arg1)
          ∧ r.2.mem ((c.tc : Thread Cert.RefHgrnIdeal.nD Cert.RefHgrnIdeal.τ).loc Cert.RefHgrnIdeal.main_arg2) = m' ((c.tc : Thread Cert.RefHgrnIdeal.nD Cert.RefHgrnIdeal.τ).loc Cert.RefHgrnIdeal.main_arg2))

def preserves_HgrnS_HgrnSIdeal : Prop :=
  True

def algebraic_HgrnSIdeal_RefHgrnSIdeal [hHgrnSIdeal : Cert.HgrnSIdeal.Facts] [hRefHgrnSIdeal : Cert.RefHgrnSIdeal.Facts] : Prop :=
  ∀ (m : (ℓ : Loc Cert.HgrnSIdeal.nD Cert.HgrnSIdeal.τ Cert.HgrnSIdeal.sig) → Buf (Elt Ideal) ℓ) (g : Dev Cert.HgrnSIdeal.nD → PrngReg)
    (m' : (ℓ : Loc Cert.RefHgrnSIdeal.nD Cert.RefHgrnSIdeal.τ Cert.RefHgrnSIdeal.sig) → Buf (Elt Ideal) ℓ) (g' : Dev Cert.RefHgrnSIdeal.nD → PrngReg), Pre_HgrnSIdeal m →
    (∀ c : Dev Cert.HgrnSIdeal.nD,
      m' ((c.tc : Thread Cert.RefHgrnSIdeal.nD Cert.RefHgrnSIdeal.τ).loc Cert.RefHgrnSIdeal.main_arg0) = m ((c.tc : Thread Cert.HgrnSIdeal.nD Cert.HgrnSIdeal.τ).loc Cert.HgrnSIdeal.main_arg0)
      ∧ m' ((c.tc : Thread Cert.RefHgrnSIdeal.nD Cert.RefHgrnSIdeal.τ).loc Cert.RefHgrnSIdeal.main_arg1) = m ((c.tc : Thread Cert.HgrnSIdeal.nD Cert.HgrnSIdeal.τ).loc Cert.HgrnSIdeal.main_arg1)
      ∧ m' ((c.tc : Thread Cert.RefHgrnSIdeal.nD Cert.RefHgrnSIdeal.τ).loc Cert.RefHgrnSIdeal.main_arg2) = m ((c.tc : Thread Cert.HgrnSIdeal.nD Cert.HgrnSIdeal.τ).loc Cert.HgrnSIdeal.main_arg2)
      ∧ m' ((c.tc : Thread Cert.RefHgrnSIdeal.nD Cert.RefHgrnSIdeal.τ).loc Cert.RefHgrnSIdeal.main_arg3) = m ((c.tc : Thread Cert.HgrnSIdeal.nD Cert.HgrnSIdeal.τ).loc Cert.HgrnSIdeal.main_arg3)) →
    ∃ (v0 : (c : Dev Cert.HgrnSIdeal.nD) → Buf (Elt Ideal) ((c.tc : Thread Cert.HgrnSIdeal.nD Cert.HgrnSIdeal.τ).loc Cert.HgrnSIdeal.main_v18_0)) (v1 : (c : Dev Cert.HgrnSIdeal.nD) → Buf (Elt Ideal) ((c.tc : Thread Cert.HgrnSIdeal.nD Cert.HgrnSIdeal.τ).loc Cert.HgrnSIdeal.main_v18_1)),
      θ_run (Cert.HgrnSIdeal.defs (F := Ideal)) (onTc (τ := Cert.HgrnSIdeal.τ) (Cert.HgrnSIdeal.main (F := Ideal))) ⟨m, fun _ => 0, g⟩ (fun r => ∀ c : Dev Cert.HgrnSIdeal.nD,
          r.2.mem ((c.tc : Thread Cert.HgrnSIdeal.nD Cert.HgrnSIdeal.τ).loc Cert.HgrnSIdeal.main_v18_0) = v0 c
          ∧ r.2.mem ((c.tc : Thread Cert.HgrnSIdeal.nD Cert.HgrnSIdeal.τ).loc Cert.HgrnSIdeal.main_v18_1) = v1 c
          ∧ r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
          ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
          ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
          ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ θ_run (Cert.RefHgrnSIdeal.defs (F := Ideal)) (onTc (τ := Cert.RefHgrnSIdeal.τ) (Cert.RefHgrnSIdeal.main (F := Ideal))) ⟨m', fun _ => 0, g'⟩ (fun r => ∀ c : Dev Cert.RefHgrnSIdeal.nD,
          r.2.mem ((c.tc : Thread Cert.RefHgrnSIdeal.nD Cert.RefHgrnSIdeal.τ).loc Cert.RefHgrnSIdeal.main_v103) = v0 c
          ∧ r.2.mem ((c.tc : Thread Cert.RefHgrnSIdeal.nD Cert.RefHgrnSIdeal.τ).loc Cert.RefHgrnSIdeal.main_v78) = v1 c
          ∧ r.2.mem ((c.tc : Thread Cert.RefHgrnSIdeal.nD Cert.RefHgrnSIdeal.τ).loc Cert.RefHgrnSIdeal.main_arg0) = m' ((c.tc : Thread Cert.RefHgrnSIdeal.nD Cert.RefHgrnSIdeal.τ).loc Cert.RefHgrnSIdeal.main_arg0)
          ∧ r.2.mem ((c.tc : Thread Cert.RefHgrnSIdeal.nD Cert.RefHgrnSIdeal.τ).loc Cert.RefHgrnSIdeal.main_arg1) = m' ((c.tc : Thread Cert.RefHgrnSIdeal.nD Cert.RefHgrnSIdeal.τ).loc Cert.RefHgrnSIdeal.main_arg1)
          ∧ r.2.mem ((c.tc : Thread Cert.RefHgrnSIdeal.nD Cert.RefHgrnSIdeal.τ).loc Cert.RefHgrnSIdeal.main_arg2) = m' ((c.tc : Thread Cert.RefHgrnSIdeal.nD Cert.RefHgrnSIdeal.τ).loc Cert.RefHgrnSIdeal.main_arg2)
          ∧ r.2.mem ((c.tc : Thread Cert.RefHgrnSIdeal.nD Cert.RefHgrnSIdeal.τ).loc Cert.RefHgrnSIdeal.main_arg3) = m' ((c.tc : Thread Cert.RefHgrnSIdeal.nD Cert.RefHgrnSIdeal.τ).loc Cert.RefHgrnSIdeal.main_arg3))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v16) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2))

def preserves_ProjS_ProjSIdeal : Prop :=
  True

def algebraic_ProjSIdeal_RefProjSIdeal [hProjSIdeal : Cert.ProjSIdeal.Facts] [hRefProjSIdeal : Cert.RefProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.RefProjSIdeal.nD Cert.RefProjSIdeal.τ Cert.RefProjSIdeal.sig) → Buf (Elt Ideal) ℓ) (g' : Dev Cert.RefProjSIdeal.nD → PrngReg), Pre_ProjSIdeal m →
    (∀ c : Dev Cert.ProjSIdeal.nD,
      m' ((c.tc : Thread Cert.RefProjSIdeal.nD Cert.RefProjSIdeal.τ).loc Cert.RefProjSIdeal.main_arg0) = m ((c.tc : Thread Cert.ProjSIdeal.nD Cert.ProjSIdeal.τ).loc Cert.ProjSIdeal.main_arg0)
      ∧ m' ((c.tc : Thread Cert.RefProjSIdeal.nD Cert.RefProjSIdeal.τ).loc Cert.RefProjSIdeal.main_arg1) = m ((c.tc : Thread Cert.ProjSIdeal.nD Cert.ProjSIdeal.τ).loc Cert.ProjSIdeal.main_arg1)
      ∧ m' ((c.tc : Thread Cert.RefProjSIdeal.nD Cert.RefProjSIdeal.τ).loc Cert.RefProjSIdeal.main_arg2) = m ((c.tc : Thread Cert.ProjSIdeal.nD Cert.ProjSIdeal.τ).loc Cert.ProjSIdeal.main_arg2)) →
    ∃ (v0 : (c : Dev Cert.ProjSIdeal.nD) → Buf (Elt Ideal) ((c.tc : Thread Cert.ProjSIdeal.nD Cert.ProjSIdeal.τ).loc Cert.ProjSIdeal.main_v5)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v5) = v0 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ θ_run (Cert.RefProjSIdeal.defs (F := Ideal)) (onTc (τ := Cert.RefProjSIdeal.τ) (Cert.RefProjSIdeal.main (F := Ideal))) ⟨m', fun _ => 0, g'⟩ (fun r => ∀ c : Dev Cert.RefProjSIdeal.nD,
          r.2.mem ((c.tc : Thread Cert.RefProjSIdeal.nD Cert.RefProjSIdeal.τ).loc Cert.RefProjSIdeal.main_v16) = v0 c
          ∧ r.2.mem ((c.tc : Thread Cert.RefProjSIdeal.nD Cert.RefProjSIdeal.τ).loc Cert.RefProjSIdeal.main_arg0) = m' ((c.tc : Thread Cert.RefProjSIdeal.nD Cert.RefProjSIdeal.τ).loc Cert.RefProjSIdeal.main_arg0)
          ∧ r.2.mem ((c.tc : Thread Cert.RefProjSIdeal.nD Cert.RefProjSIdeal.τ).loc Cert.RefProjSIdeal.main_arg1) = m' ((c.tc : Thread Cert.RefProjSIdeal.nD Cert.RefProjSIdeal.τ).loc Cert.RefProjSIdeal.main_arg1)
          ∧ r.2.mem ((c.tc : Thread Cert.RefProjSIdeal.nD Cert.RefProjSIdeal.τ).loc Cert.RefProjSIdeal.main_arg2) = m' ((c.tc : Thread Cert.RefProjSIdeal.nD Cert.RefProjSIdeal.τ).loc Cert.RefProjSIdeal.main_arg2))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)
      ∧ m' ((c.tc : Thread Cert.RefMergeIdeal.nD Cert.RefMergeIdeal.τ).loc Cert.RefMergeIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v37) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6)
          ∧ r.2.mem ((c.tc : Thread Cert.RefMergeIdeal.nD Cert.RefMergeIdeal.τ).loc Cert.RefMergeIdeal.main_arg7) = m' ((c.tc : Thread Cert.RefMergeIdeal.nD Cert.RefMergeIdeal.τ).loc Cert.RefMergeIdeal.main_arg7))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v36) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4))

def preserves_FfnS_FfnSIdeal : Prop :=
  True

def algebraic_FfnSIdeal_RefFfnSIdeal [hFfnSIdeal : Cert.FfnSIdeal.Facts] [hRefFfnSIdeal : Cert.RefFfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.RefFfnSIdeal.nD Cert.RefFfnSIdeal.τ Cert.RefFfnSIdeal.sig) → Buf (Elt Ideal) ℓ) (g' : Dev Cert.RefFfnSIdeal.nD → PrngReg), Pre_FfnSIdeal m →
    (∀ c : Dev Cert.FfnSIdeal.nD,
      m' ((c.tc : Thread Cert.RefFfnSIdeal.nD Cert.RefFfnSIdeal.τ).loc Cert.RefFfnSIdeal.main_arg0) = m ((c.tc : Thread Cert.FfnSIdeal.nD Cert.FfnSIdeal.τ).loc Cert.FfnSIdeal.main_arg0)
      ∧ m' ((c.tc : Thread Cert.RefFfnSIdeal.nD Cert.RefFfnSIdeal.τ).loc Cert.RefFfnSIdeal.main_arg1) = m ((c.tc : Thread Cert.FfnSIdeal.nD Cert.FfnSIdeal.τ).loc Cert.FfnSIdeal.main_arg1)
      ∧ m' ((c.tc : Thread Cert.RefFfnSIdeal.nD Cert.RefFfnSIdeal.τ).loc Cert.RefFfnSIdeal.main_arg2) = m ((c.tc : Thread Cert.FfnSIdeal.nD Cert.FfnSIdeal.τ).loc Cert.FfnSIdeal.main_arg2)
      ∧ m' ((c.tc : Thread Cert.RefFfnSIdeal.nD Cert.RefFfnSIdeal.τ).loc Cert.RefFfnSIdeal.main_arg3) = m ((c.tc : Thread Cert.FfnSIdeal.nD Cert.FfnSIdeal.τ).loc Cert.FfnSIdeal.main_arg3)
      ∧ m' ((c.tc : Thread Cert.RefFfnSIdeal.nD Cert.RefFfnSIdeal.τ).loc Cert.RefFfnSIdeal.main_arg4) = m ((c.tc : Thread Cert.FfnSIdeal.nD Cert.FfnSIdeal.τ).loc Cert.FfnSIdeal.main_arg4)) →
    ∃ (v0 : (c : Dev Cert.FfnSIdeal.nD) → Buf (Elt Ideal) ((c.tc : Thread Cert.FfnSIdeal.nD Cert.FfnSIdeal.τ).loc Cert.FfnSIdeal.main_v8)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v8) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ θ_run (Cert.RefFfnSIdeal.defs (F := Ideal)) (onTc (τ := Cert.RefFfnSIdeal.τ) (Cert.RefFfnSIdeal.main (F := Ideal))) ⟨m', fun _ => 0, g'⟩ (fun r => ∀ c : Dev Cert.RefFfnSIdeal.nD,
          r.2.mem ((c.tc : Thread Cert.RefFfnSIdeal.nD Cert.RefFfnSIdeal.τ).loc Cert.RefFfnSIdeal.main_v36) = v0 c
          ∧ r.2.mem ((c.tc : Thread Cert.RefFfnSIdeal.nD Cert.RefFfnSIdeal.τ).loc Cert.RefFfnSIdeal.main_arg0) = m' ((c.tc : Thread Cert.RefFfnSIdeal.nD Cert.RefFfnSIdeal.τ).loc Cert.RefFfnSIdeal.main_arg0)
          ∧ r.2.mem ((c.tc : Thread Cert.RefFfnSIdeal.nD Cert.RefFfnSIdeal.τ).loc Cert.RefFfnSIdeal.main_arg1) = m' ((c.tc : Thread Cert.RefFfnSIdeal.nD Cert.RefFfnSIdeal.τ).loc Cert.RefFfnSIdeal.main_arg1)
          ∧ r.2.mem ((c.tc : Thread Cert.RefFfnSIdeal.nD Cert.RefFfnSIdeal.τ).loc Cert.RefFfnSIdeal.main_arg2) = m' ((c.tc : Thread Cert.RefFfnSIdeal.nD Cert.RefFfnSIdeal.τ).loc Cert.RefFfnSIdeal.main_arg2)
          ∧ r.2.mem ((c.tc : Thread Cert.RefFfnSIdeal.nD Cert.RefFfnSIdeal.τ).loc Cert.RefFfnSIdeal.main_arg3) = m' ((c.tc : Thread Cert.RefFfnSIdeal.nD Cert.RefFfnSIdeal.τ).loc Cert.RefFfnSIdeal.main_arg3)
          ∧ r.2.mem ((c.tc : Thread Cert.RefFfnSIdeal.nD Cert.RefFfnSIdeal.τ).loc Cert.RefFfnSIdeal.main_arg4) = m' ((c.tc : Thread Cert.RefFfnSIdeal.nD Cert.RefFfnSIdeal.τ).loc Cert.RefFfnSIdeal.main_arg4))

def Claim : Prop :=
  ∃ (hHgrn : Cert.Hgrn.Facts) (hHgrnIdeal : Cert.HgrnIdeal.Facts) (hRefHgrnIdeal : Cert.RefHgrnIdeal.Facts) (hHgrnS : Cert.HgrnS.Facts) (hHgrnSIdeal : Cert.HgrnSIdeal.Facts) (hRefHgrnSIdeal : Cert.RefHgrnSIdeal.Facts) (hProj : Cert.Proj.Facts) (hProjIdeal : Cert.ProjIdeal.Facts) (hRefProjIdeal : Cert.RefProjIdeal.Facts) (hProjS : Cert.ProjS.Facts) (hProjSIdeal : Cert.ProjSIdeal.Facts) (hRefProjSIdeal : Cert.RefProjSIdeal.Facts) (hMerge : Cert.Merge.Facts) (hMergeIdeal : Cert.MergeIdeal.Facts) (hRefMergeIdeal : Cert.RefMergeIdeal.Facts) (hFfn : Cert.Ffn.Facts) (hFfnIdeal : Cert.FfnIdeal.Facts) (hRefFfnIdeal : Cert.RefFfnIdeal.Facts) (hFfnS : Cert.FfnS.Facts) (hFfnSIdeal : Cert.FfnSIdeal.Facts) (hRefFfnSIdeal : Cert.RefFfnSIdeal.Facts),
    quiescent_Hgrn (hHgrn := hHgrn)
    ∧ quiescent_HgrnIdeal (hHgrnIdeal := hHgrnIdeal)
    ∧ quiescent_RefHgrnIdeal (hRefHgrnIdeal := hRefHgrnIdeal)
    ∧ quiescent_HgrnS (hHgrnS := hHgrnS)
    ∧ quiescent_HgrnSIdeal (hHgrnSIdeal := hHgrnSIdeal)
    ∧ quiescent_RefHgrnSIdeal (hRefHgrnSIdeal := hRefHgrnSIdeal)
    ∧ quiescent_Proj (hProj := hProj)
    ∧ quiescent_ProjIdeal (hProjIdeal := hProjIdeal)
    ∧ quiescent_RefProjIdeal (hRefProjIdeal := hRefProjIdeal)
    ∧ quiescent_ProjS (hProjS := hProjS)
    ∧ quiescent_ProjSIdeal (hProjSIdeal := hProjSIdeal)
    ∧ quiescent_RefProjSIdeal (hRefProjSIdeal := hRefProjSIdeal)
    ∧ quiescent_Merge (hMerge := hMerge)
    ∧ quiescent_MergeIdeal (hMergeIdeal := hMergeIdeal)
    ∧ quiescent_RefMergeIdeal (hRefMergeIdeal := hRefMergeIdeal)
    ∧ quiescent_Ffn (hFfn := hFfn)
    ∧ quiescent_FfnIdeal (hFfnIdeal := hFfnIdeal)
    ∧ quiescent_RefFfnIdeal (hRefFfnIdeal := hRefFfnIdeal)
    ∧ quiescent_FfnS (hFfnS := hFfnS)
    ∧ quiescent_FfnSIdeal (hFfnSIdeal := hFfnSIdeal)
    ∧ quiescent_RefFfnSIdeal (hRefFfnSIdeal := hRefFfnSIdeal)
    ∧ preserves_Hgrn_HgrnIdeal
    ∧ algebraic_HgrnIdeal_RefHgrnIdeal (hHgrnIdeal := hHgrnIdeal) (hRefHgrnIdeal := hRefHgrnIdeal)
    ∧ preserves_HgrnS_HgrnSIdeal
    ∧ algebraic_HgrnSIdeal_RefHgrnSIdeal (hHgrnSIdeal := hHgrnSIdeal) (hRefHgrnSIdeal := hRefHgrnSIdeal)
    ∧ preserves_Proj_ProjIdeal
    ∧ algebraic_ProjIdeal_RefProjIdeal (hProjIdeal := hProjIdeal) (hRefProjIdeal := hRefProjIdeal)
    ∧ preserves_ProjS_ProjSIdeal
    ∧ algebraic_ProjSIdeal_RefProjSIdeal (hProjSIdeal := hProjSIdeal) (hRefProjSIdeal := hRefProjSIdeal)
    ∧ preserves_Merge_MergeIdeal
    ∧ algebraic_MergeIdeal_RefMergeIdeal (hMergeIdeal := hMergeIdeal) (hRefMergeIdeal := hRefMergeIdeal)
    ∧ preserves_Ffn_FfnIdeal
    ∧ algebraic_FfnIdeal_RefFfnIdeal (hFfnIdeal := hFfnIdeal) (hRefFfnIdeal := hRefFfnIdeal)
    ∧ preserves_FfnS_FfnSIdeal
    ∧ algebraic_FfnSIdeal_RefFfnSIdeal (hFfnSIdeal := hFfnSIdeal) (hRefFfnSIdeal := hRefFfnSIdeal)
-- ==== Hgrn.lean ====
abbrev S8192x11264 : Shape := ⟨2, ![8192, 11264]⟩
abbrev S2x1024 : Shape := ⟨2, ![2, 1024]⟩
abbrev S1x128 : Shape := ⟨2, ![1, 128]⟩
abbrev S_ : Shape := ⟨0, ![]⟩
abbrev S1024 : Shape := ⟨1, ![1024]⟩
abbrev S1x1024 : Shape := ⟨2, ![1, 1024]⟩
abbrev S128 : Shape := ⟨1, ![128]⟩
abbrev S8192x1024 : Shape := ⟨2, ![8192, 1024]⟩
abbrev S4x8x128x128 : Shape := ⟨4, ![4, 8, 128, 128]⟩
abbrev S256x1024 : Shape := ⟨2, ![256, 1024]⟩
abbrev S1x8x128x128 : Shape := ⟨4, ![1, 8, 128, 128]⟩
abbrev S8x128x128 : Shape := ⟨3, ![8, 128, 128]⟩
abbrev S128x128 : Shape := ⟨2, ![128, 128]⟩
abbrev S1x128x128 : Shape := ⟨3, ![1, 128, 128]⟩
abbrev S256x256 : Shape := ⟨2, ![256, 256]⟩
abbrev S64x64 : Shape := ⟨2, ![64, 64]⟩
abbrev S64x1024 : Shape := ⟨2, ![64, 1024]⟩
abbrev S64x128 : Shape := ⟨2, ![64, 128]⟩
abbrev S64 : Shape := ⟨1, ![64]⟩
abbrev S64x1 : Shape := ⟨2, ![64, 1]⟩
abbrev S1x1x128x128 : Shape := ⟨4, ![1, 1, 128, 128]⟩

abbrev nBuf : Space → Nat
  | .hbm => 27
  | .vmem => 15
  | .smem => 0
  | _ => 0

abbrev bufTy : (tb : Table) → Fin (tcTables nBuf tb) → BufTy
  | .hbm, ⟨0, _⟩ => ⟨S8192x11264, .f32⟩
  | .hbm, ⟨1, _⟩ => ⟨S2x1024, .f32⟩
  | .hbm, ⟨2, _⟩ => ⟨S1x128, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S2x1024, .f32⟩
  | .hbm, ⟨16, _⟩ => ⟨S2x1024, .f32⟩
  | .hbm, ⟨17, _⟩ => ⟨S_, .f32⟩
  | .hbm, ⟨18, _⟩ => ⟨S_, .f32⟩
  | .hbm, ⟨19, _⟩ => ⟨S2x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S128, .f32⟩
  | .hbm, ⟨24, _⟩ => ⟨S1x128, .f32⟩
  | .hbm, ⟨25, _⟩ => ⟨S8192x1024, .bf16⟩
  | .hbm, ⟨26, _⟩ => ⟨S4x8x128x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x128, .f32⟩
  | .local _ .vmem, ⟨10, _⟩ => ⟨S256x1024, .bf16⟩
  | .local _ .vmem, ⟨11, _⟩ => ⟨S256x1024, .bf16⟩
  | .local _ .vmem, ⟨12, _⟩ => ⟨S1x8x128x128, .f32⟩
  | .local _ .vmem, ⟨13, _⟩ => ⟨S1x8x128x128, .f32⟩
  | .local _ .vmem, ⟨14, _⟩ => ⟨S8x128x128, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v1615 : BitVec 1 := Scalar.cmpi .eq arg1 c7_i32
  let v1616 : BitVec 32 := Scalar.extui v1615
  let c0_i32_688 : BitVec 32 := 0#32
  let v1617 : BitVec 1 := Scalar.cmpi .ne v1616 c0_i32_688
  v1617

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RefHgrnIdeal.lean ====
abbrev S8192x11264 : Shape := ⟨2, ![8192, 11264]⟩
abbrev S2x1024 : Shape := ⟨2, ![2, 1024]⟩
abbrev S1x128 : Shape := ⟨2, ![1, 128]⟩
abbrev S_ : Shape := ⟨0, ![]⟩
abbrev S4x8x128x128 : Shape := ⟨4, ![4, 8, 128, 128]⟩
abbrev S8192x1024 : Shape := ⟨2, ![8192, 1024]⟩
abbrev S4x2048x8x128 : Shape := ⟨4, ![4, 2048, 8, 128]⟩
abbrev S1024 : Shape := ⟨1, ![1024]⟩
abbrev S1x1024 : Shape := ⟨2, ![1, 1024]⟩
abbrev S8x128 : Shape := ⟨2, ![8, 128]⟩
abbrev S1x1x8x128 : Shape := ⟨4, ![1, 1, 8, 128]⟩
abbrev S4x32x64x8x128 : Shape := ⟨5, ![4, 32, 64, 8, 128]⟩
abbrev S4x8x32x64x128 : Shape := ⟨5, ![4, 8, 32, 64, 128]⟩
abbrev S64x64 : Shape := ⟨2, ![64, 64]⟩
abbrev S4x8x32x64x64 : Shape := ⟨5, ![4, 8, 32, 64, 64]⟩
abbrev S4x8x32x1x128 : Shape := ⟨5, ![4, 8, 32, 1, 128]⟩
abbrev S4x8x32x128 : Shape := ⟨4, ![4, 8, 32, 128]⟩
abbrev S4x8x32x128x128 : Shape := ⟨5, ![4, 8, 32, 128, 128]⟩
abbrev S32x4x8x128 : Shape := ⟨4, ![32, 4, 8, 128]⟩
abbrev S32x4x8x128x128 : Shape := ⟨5, ![32, 4, 8, 128, 128]⟩
abbrev S32x4x8x64x128 : Shape := ⟨5, ![32, 4, 8, 64, 128]⟩
abbrev S1x4x8x128 : Shape := ⟨4, ![1, 4, 8, 128]⟩
abbrev S4x8x128 : Shape := ⟨3, ![4, 8, 128]⟩
abbrev S1x4x8x128x128 : Shape := ⟨5, ![1, 4, 8, 128, 128]⟩
abbrev S1x4x8x64x128 : Shape := ⟨5, ![1, 4, 8, 64, 128]⟩
abbrev S4x8x64x128 : Shape := ⟨4, ![4, 8, 64, 128]⟩
abbrev S4x8x128x1 : Shape := ⟨4, ![4, 8, 128, 1]⟩
abbrev S128 : Shape := ⟨1, ![128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩

abbrev nBuf : Space → Nat
  | .hbm => 181
  | .vmem => 0
  | .smem => 0
  | _ => 0

abbrev hbmTy0_0 (i : Nat) : BufTy := match i % 128 with
  | 0 => ⟨S8192x11264, .f32⟩
  | 1 => ⟨S2x1024, .f32⟩
  | 2 => ⟨S1x128, .f32⟩
  | 3 => ⟨S_, .f32⟩
  | 4 => ⟨S4x8x128x128, .f32⟩
  | 5 => ⟨S8192x1024, .f32⟩
  | 6 => ⟨S4x2048x8x128, .f32⟩
  | 7 => ⟨S8192x1024, .f32⟩
  | 8 => ⟨S4x2048x8x128, .f32⟩
  | 9 => ⟨S8192x1024, .f32⟩
  | 10 => ⟨S4x2048x8x128, .f32⟩
  | 11 => ⟨S_, .f32⟩
  | 12 => ⟨S1024, .f32⟩
  | 13 => ⟨S_, .f32⟩
  | 14 => ⟨S1024, .f32⟩
  | 15 => ⟨S1024, .f32⟩
  | 16 => ⟨S1x1024, .f32⟩
  | 17 => ⟨S2x1024, .f32⟩
  | 18 => ⟨S2x1024, .f32⟩
  | 19 => ⟨S2x1024, .f32⟩
  | 20 => ⟨S_, .f32⟩
  | 21 => ⟨S1024, .f32⟩
  | 22 => ⟨S1x1024, .f32⟩
  | 23 => ⟨S2x1024, .f32⟩
  | 24 => ⟨S2x1024, .f32⟩
  | 25 => ⟨S_, .f32⟩
  | 26 => ⟨S_, .f32⟩
  | 27 => ⟨S2x1024, .f32⟩
  | 28 => ⟨S1x1024, .f32⟩
  | 29 => ⟨S1024, .f32⟩
  | 30 => ⟨S8x128, .f32⟩
  | 31 => ⟨S_, .f32⟩
  | 32 => ⟨S8x128, .f32⟩
  | 33 => ⟨S8x128, .f32⟩
  | 34 => ⟨S4x2048x8x128, .f32⟩
  | 35 => ⟨S4x2048x8x128, .f32⟩
  | 36 => ⟨S_, .f32⟩
  | 37 => ⟨S4x2048x8x128, .f32⟩
  | 38 => ⟨S4x2048x8x128, .f32⟩
  | 39 => ⟨S_, .f32⟩
  | 40 => ⟨S4x2048x8x128, .f32⟩
  | 41 => ⟨S4x2048x8x128, .f32⟩
  | 42 => ⟨S1x1x8x128, .f32⟩
  | 43 => ⟨S4x2048x8x128, .f32⟩
  | 44 => ⟨S4x2048x8x128, .f32⟩
  | 45 => ⟨S1x1x8x128, .f32⟩
  | 46 => ⟨S4x2048x8x128, .f32⟩
  | 47 => ⟨S4x2048x8x128, .f32⟩
  | 48 => ⟨S4x2048x8x128, .f32⟩
  | 49 => ⟨S_, .f32⟩
  | 50 => ⟨S4x2048x8x128, .f32⟩
  | 51 => ⟨S4x2048x8x128, .f32⟩
  | 52 => ⟨S4x32x64x8x128, .f32⟩
  | 53 => ⟨S4x8x32x64x128, .f32⟩
  | 54 => ⟨S4x32x64x8x128, .f32⟩
  | 55 => ⟨S4x8x32x64x128, .f32⟩
  | 56 => ⟨S4x32x64x8x128, .f32⟩
  | 57 => ⟨S4x8x32x64x128, .f32⟩
  | 58 => ⟨S4x32x64x8x128, .f32⟩
  | 59 => ⟨S4x8x32x64x128, .f32⟩
  | 60 => ⟨S_, .f32⟩
  | 61 => ⟨S_, .f32⟩
  | 62 => ⟨S4x8x32x64x128, .f32⟩
  | 63 => ⟨S4x8x32x64x128, .f32⟩
  | 64 => ⟨S4x8x32x64x128, .f32⟩
  | 65 => ⟨S4x8x32x64x128, .f32⟩
  | 66 => ⟨S4x8x32x64x128, .f32⟩
  | 67 => ⟨S4x8x32x64x128, .f32⟩
  | 68 => ⟨S_, .i1⟩
  | 69 => ⟨S64x64, .i1⟩
  | 70 => ⟨S64x64, .i32⟩
  | 71 => ⟨S_, .i32⟩
  | 72 => ⟨S64x64, .i32⟩
  | 73 => ⟨S64x64, .i32⟩
  | 74 => ⟨S64x64, .i32⟩
  | 75 => ⟨S64x64, .i1⟩
  | 76 => ⟨S_, .i1⟩
  | 77 => ⟨S64x64, .i1⟩
  | 78 => ⟨S64x64, .i1⟩
  | 79 => ⟨S4x8x32x64x64, .f32⟩
  | 80 => ⟨S_, .f32⟩
  | 81 => ⟨S_, .f32⟩
  | 82 => ⟨S4x8x32x64x64, .i1⟩
  | 83 => ⟨S4x8x32x64x64, .f32⟩
  | 84 => ⟨S4x8x32x64x64, .f32⟩
  | 85 => ⟨S4x8x32x64x128, .f32⟩
  | 86 => ⟨S4x8x32x1x128, .f32⟩
  | 87 => ⟨S4x8x32x128, .f32⟩
  | 88 => ⟨S4x8x32x1x128, .f32⟩
  | 89 => ⟨S4x8x32x64x128, .f32⟩
  | 90 => ⟨S4x8x32x64x128, .f32⟩
  | 91 => ⟨S4x8x32x64x128, .f32⟩
  | 92 => ⟨S4x8x32x64x128, .f32⟩
  | 93 => ⟨S4x8x32x128x128, .f32⟩
  | 94 => ⟨S4x8x32x128, .f32⟩
  | 95 => ⟨S32x4x8x128, .f32⟩
  | 96 => ⟨S32x4x8x128x128, .f32⟩
  | 97 => ⟨S32x4x8x64x128, .f32⟩
  | 98 => ⟨S32x4x8x64x128, .f32⟩
  | 99 => ⟨S_, .f32⟩
  | 100 => ⟨S32x4x8x64x128, .f32⟩
  | 101 => ⟨S_, .i32⟩
  | 102 => ⟨S32x4x8x128, .f32⟩
  | 103 => ⟨S32x4x8x128x128, .f32⟩
  | 104 => ⟨S32x4x8x64x128, .f32⟩
  | 105 => ⟨S32x4x8x64x128, .f32⟩
  | 106 => ⟨S_, .i32⟩
  | 107 => ⟨S4x8x128x128, .f32⟩
  | 108 => ⟨S32x4x8x64x128, .f32⟩
  | 109 => ⟨S_, .i32⟩
  | 110 => ⟨S_, .i1⟩
  | 111 => ⟨S_, .i32⟩
  | 112 => ⟨S_, .i32⟩
  | 113 => ⟨S_, .i32⟩
  | 114 => ⟨S1x4x8x128, .f32⟩
  | 115 => ⟨S4x8x128, .f32⟩
  | 116 => ⟨S_, .i32⟩
  | 117 => ⟨S_, .i32⟩
  | 118 => ⟨S_, .i32⟩
  | 119 => ⟨S_, .i32⟩
  | 120 => ⟨S1x4x8x128x128, .f32⟩
  | 121 => ⟨S4x8x128x128, .f32⟩
  | 122 => ⟨S_, .i32⟩
  | 123 => ⟨S_, .i32⟩
  | 124 => ⟨S_, .i32⟩
  | 125 => ⟨S_, .i32⟩
  | 126 => ⟨S1x4x8x64x128, .f32⟩
  | 127 => ⟨S4x8x64x128, .f32⟩
  | _ => ⟨S8192x11264, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x4x8x64x128, .f32⟩
  | 5 => ⟨S4x8x64x128, .f32⟩
  | 6 => ⟨S4x8x128x1, .f32⟩
  | 7 => ⟨S4x8x128x128, .f32⟩
  | 8 => ⟨S4x8x128x128, .f32⟩
  | 9 => ⟨S4x8x128x128, .f32⟩
  | 10 => ⟨S4x8x64x128, .f32⟩
  | 11 => ⟨S4x8x64x128, .f32⟩
  | 12 => ⟨S1x4x8x64x128, .f32⟩
  | 13 => ⟨S_, .i32⟩
  | 14 => ⟨S_, .i32⟩
  | 15 => ⟨S_, .i32⟩
  | 16 => ⟨S_, .i32⟩
  | 17 => ⟨S32x4x8x64x128, .f32⟩
  | 18 => ⟨S_, .i32⟩
  | 19 => ⟨S_, .i32⟩
  | 20 => ⟨S4x32x64x8x128, .f32⟩
  | 21 => ⟨S4x2048x8x128, .f32⟩
  | 22 => ⟨S8192x1024, .f32⟩
  | 23 => ⟨S4x2048x8x128, .f32⟩
  | 24 => ⟨S128, .f32⟩
  | 25 => ⟨S4x2048x8x128, .f32⟩
  | 26 => ⟨S_, .f32⟩
  | 27 => ⟨S4x2048x8, .f32⟩
  | 28 => ⟨S4x2048x8x1, .f32⟩
  | 29 => ⟨S_, .f32⟩
  | 30 => ⟨S4x2048x8x1, .f32⟩
  | 31 => ⟨S4x2048x8x1, .f32⟩
  | 32 => ⟨S_, .f32⟩
  | 33 => ⟨S4x2048x8x1, .f32⟩
  | 34 => ⟨S4x2048x8x1, .f32⟩
  | 35 => ⟨S4x2048x8x1, .f32⟩
  | 36 => ⟨S4x2048x8x128, .f32⟩
  | 37 => ⟨S4x2048x8x128, .f32⟩
  | 38 => ⟨S1x1x1x128, .f32⟩
  | 39 => ⟨S4x2048x8x128, .f32⟩
  | 40 => ⟨S4x2048x8x128, .f32⟩
  | 41 => ⟨S4x2048x8x128, .f32⟩
  | 42 => ⟨S4x2048x8x128, .f32⟩
  | 43 => ⟨S_, .f32⟩
  | 44 => ⟨S4x2048x8x128, .f32⟩
  | 45 => ⟨S4x2048x8x128, .f32⟩
  | 46 => ⟨S_, .f32⟩
  | 47 => ⟨S4x2048x8x128, .f32⟩
  | 48 => ⟨S4x2048x8x128, .f32⟩
  | 49 => ⟨S4x2048x8x128, .f32⟩
  | 50 => ⟨S4x2048x8x128, .f32⟩
  | 51 => ⟨S8192x1024, .f32⟩
  | 52 => ⟨S8192x1024, .bf16⟩
  | _ => ⟨S8192x11264, .f32⟩

abbrev hbmTy (i : Nat) : BufTy := match i / 128 with
  | 0 => hbmTy0_0 i
  | 1 => hbmTy0_1 i
  | _ => ⟨S8192x11264, .f32⟩

abbrev bufTy : (tb : Table) → Fin (tcTables nBuf tb) → BufTy
  | .hbm, ⟨i, _⟩ => hbmTy i
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_call0_cst : Ref sig .tc := ⟨.hbm, 25, rfl⟩
abbrev main_call0_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_call1_call0_cst : Ref sig .tc := ⟨.hbm, 60, rfl⟩
abbrev main_call1_call0_v0 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c : Ref sig .tc := ⟨.hbm, 68, rfl⟩
abbrev main_v53 : Ref sig .tc := ⟨.hbm, 69, rfl⟩
abbrev main_call2_v0 : Ref sig .tc := ⟨.hbm, 70, rfl⟩
abbrev main_call2_c : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_c_0 : Ref sig .tc := ⟨.hbm, 76, rfl⟩
abbrev main_call2_v5 : Ref sig .tc := ⟨.hbm, 77, rfl⟩
abbrev main_v54 : Ref sig .tc := ⟨.hbm, 78, rfl⟩
abbrev main_v55 : Ref sig .tc := ⟨.hbm, 79, rfl⟩
abbrev main_cst_7 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_8 : Ref sig .tc := ⟨.hbm, 99, rfl⟩
abbrev main_v71 : Ref sig .tc := ⟨.hbm, 100, rfl⟩
abbrev main_c_9 : Ref sig .tc := ⟨.hbm, 101, rfl⟩
abbrev main_v72_0 : Ref sig .tc := ⟨.hbm, 102, rfl⟩
abbrev main_v72_1 : Ref sig .tc := ⟨.hbm, 103, rfl⟩
abbrev main_v72_2 : Ref sig .tc := ⟨.hbm, 104, rfl⟩
abbrev main_v72_3 : Ref sig .tc := ⟨.hbm, 105, rfl⟩
abbrev main_v72_4 : Ref sig .tc := ⟨.hbm, 106, rfl⟩
abbrev main_v72_5 : Ref sig .tc := ⟨.hbm, 107, rfl⟩
abbrev main_v72_6 : Ref sig .tc := ⟨.hbm, 108, rfl⟩
abbrev main_while0c_c_19 : Ref sig .tc := ⟨.hbm, 109, rfl⟩
abbrev main_while0c_v95 : Ref sig .tc := ⟨.hbm, 110, rfl⟩
abbrev main_while0b_call4_c : Ref sig .tc := ⟨.hbm, 111, rfl⟩
abbrev main_while0b_call4_c_0 : Ref sig .tc := ⟨.hbm, 112, rfl⟩
abbrev main_while0b_call4_c_1 : Ref sig .tc := ⟨.hbm, 113, rfl⟩
abbrev main_while0b_call4_v0 : Ref sig .tc := ⟨.hbm, 114, rfl⟩
abbrev main_while0b_v95 : Ref sig .tc := ⟨.hbm, 115, rfl⟩
abbrev main_while0b_call5_c : Ref sig .tc := ⟨.hbm, 116, rfl⟩
abbrev main_while0b_call5_c_0 : Ref sig .tc := ⟨.hbm, 117, rfl⟩
abbrev main_while0b_call5_c_1 : Ref sig .tc := ⟨.hbm, 118, rfl⟩
abbrev main_while0b_call5_c_2 : Ref sig .tc := ⟨.hbm, 119, rfl⟩
abbrev main_while0b_call5_v0 : Ref sig .tc := ⟨.hbm, 120, rfl⟩
abbrev main_while0b_v96 : Ref sig .tc := ⟨.hbm, 121, rfl⟩
abbrev main_while0b_call6_c : Ref sig .tc := ⟨.hbm, 122, rfl⟩
abbrev main_while0b_call6_c_0 : Ref sig .tc := ⟨.hbm, 123, rfl⟩
abbrev main_while0b_call6_c_1 : Ref sig .tc := ⟨.hbm, 124, rfl⟩
abbrev main_while0b_call6_c_2 : Ref sig .tc := ⟨.hbm, 125, rfl⟩
abbrev main_while0b_call6_v0 : Ref sig .tc := ⟨.hbm, 126, rfl⟩
abbrev main_while0b_v97 : Ref sig .tc := ⟨.hbm, 127, rfl⟩
abbrev main_while0b_call7_c : Ref sig .tc := ⟨.hbm, 128, rfl⟩
abbrev main_while0b_call7_c_0 : Ref sig .tc := ⟨.hbm, 129, rfl⟩
abbrev main_while0b_call7_c_1 : Ref sig .tc := ⟨.hbm, 130, rfl⟩
abbrev main_while0b_call7_c_2 : Ref sig .tc := ⟨.hbm, 131, rfl⟩
abbrev main_while0b_call7_v0 : Ref sig .tc := ⟨.hbm, 132, rfl⟩
abbrev main_while0b_v98 : Ref sig .tc := ⟨.hbm, 133, rfl⟩
abbrev main_while0b_v99 : Ref sig .tc := ⟨.hbm, 134, rfl⟩
abbrev main_while0b_v100 : Ref sig .tc := ⟨.hbm, 135, rfl⟩
abbrev main_while0b_v101 : Ref sig .tc := ⟨.hbm, 136, rfl⟩
abbrev main_while0b_v102 : Ref sig .tc := ⟨.hbm, 137, rfl⟩
abbrev main_while0b_v103 : Ref sig .tc := ⟨.hbm, 138, rfl⟩
abbrev main_while0b_v104 : Ref sig .tc := ⟨.hbm, 139, rfl⟩
abbrev main_while0b_call8_v0 : Ref sig .tc := ⟨.hbm, 140, rfl⟩
abbrev main_while0b_call8_c : Ref sig .tc := ⟨.hbm, 141, rfl⟩
abbrev main_while0b_call8_c_0 : Ref sig .tc := ⟨.hbm, 142, rfl⟩
abbrev main_while0b_call8_c_1 : Ref sig .tc := ⟨.hbm, 143, rfl⟩
abbrev main_while0b_call8_c_2 : Ref sig .tc := ⟨.hbm, 144, rfl⟩
abbrev main_while0b_v105 : Ref sig .tc := ⟨.hbm, 145, rfl⟩
abbrev main_while0b_c_19 : Ref sig .tc := ⟨.hbm, 146, rfl⟩
abbrev main_while0b_v106 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_cst_10 : Ref sig .tc := ⟨.hbm, 154, rfl⟩
abbrev main_v79 : Ref sig .tc := ⟨.hbm, 155, rfl⟩
abbrev main_v80 : Ref sig .tc := ⟨.hbm, 156, rfl⟩
abbrev main_cst_11 : Ref sig .tc := ⟨.hbm, 157, rfl⟩
abbrev main_v81 : Ref sig .tc := ⟨.hbm, 158, rfl⟩
abbrev main_v82 : Ref sig .tc := ⟨.hbm, 159, rfl⟩
abbrev main_cst_12 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_call9_v0 : Ref sig .tc := ⟨.hbm, 169, rfl⟩
abbrev main_call9_v1 : Ref sig .tc := ⟨.hbm, 170, rfl⟩
abbrev main_call9_cst : Ref sig .tc := ⟨.hbm, 171, rfl⟩
abbrev main_call9_v2 : Ref sig .tc := ⟨.hbm, 172, rfl⟩
abbrev main_call9_v3 : Ref sig .tc := ⟨.hbm, 173, rfl⟩
abbrev main_call9_cst_0 : Ref sig .tc := ⟨.hbm, 174, rfl⟩
abbrev main_call9_v4 : Ref sig .tc := ⟨.hbm, 175, rfl⟩
abbrev main_call9_v5 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩

abbrev nD : Nat := 1
abbrev τ : Topo := Topo.v7x

variable {F : FTy → Type} [FloatOps F]

abbrev main_while0_count : Scf.Loop 32 := ⟨0#32, 32#32, 1#32⟩
-- ==== HgrnS.lean ====
abbrev S64x11264 : Shape := ⟨2, ![64, 11264]⟩
abbrev S1x8x8x128x128 : Shape := ⟨5, ![1, 8, 8, 128, 128]⟩
abbrev S2x1024 : Shape := ⟨2, ![2, 1024]⟩
abbrev S1x128 : Shape := ⟨2, ![1, 128]⟩
abbrev S_ : Shape := ⟨0, ![]⟩
abbrev S1024 : Shape := ⟨1, ![1024]⟩
abbrev S1x1024 : Shape := ⟨2, ![1, 1024]⟩
abbrev S128 : Shape := ⟨1, ![128]⟩
abbrev S8x8x128x128 : Shape := ⟨4, ![8, 8, 128, 128]⟩
abbrev S64x1024 : Shape := ⟨2, ![64, 1024]⟩
abbrev S8x1024 : Shape := ⟨2, ![8, 1024]⟩
abbrev S1x8x128x128 : Shape := ⟨4, ![1, 8, 128, 128]⟩
abbrev S8x128x128 : Shape := ⟨3, ![8, 128, 128]⟩
abbrev S1x1x128x128 : Shape := ⟨4, ![1, 1, 128, 128]⟩
abbrev S128x128 : Shape := ⟨2, ![128, 128]⟩
abbrev S1x128x128 : Shape := ⟨3, ![1, 128, 128]⟩
abbrev S120x1024 : Shape := ⟨2, ![120, 1024]⟩
abbrev S128x1024 : Shape := ⟨2, ![128, 1024]⟩
abbrev S8x128 : Shape := ⟨2, ![8, 128]⟩
abbrev S8 : Shape := ⟨1, ![8]⟩
abbrev S8x1 : Shape := ⟨2, ![8, 1]⟩

abbrev nBuf : Space → Nat
  | .hbm => 29
  | .vmem => 17
  | .smem => 0
  | _ => 0

abbrev bufTy : (tb : Table) → Fin (tcTables nBuf tb) → BufTy
  | .hbm, ⟨0, _⟩ => ⟨S64x11264, .f32⟩
  | .hbm, ⟨1, _⟩ => ⟨S1x8x8x128x128, .f32⟩
  | .hbm, ⟨2, _⟩ => ⟨S2x1024, .f32⟩
  | .hbm, ⟨3, _⟩ => ⟨S1x128, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S2x1024, .f32⟩
  | .hbm, ⟨17, _⟩ => ⟨S2x1024, .f32⟩
  | .hbm, ⟨18, _⟩ => ⟨S_, .f32⟩
  | .hbm, ⟨19, _⟩ => ⟨S_, .f32⟩
  | .hbm, ⟨20, _⟩ => ⟨S2x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S128, .f32⟩
  | .hbm, ⟨25, _⟩ => ⟨S1x128, .f32⟩
  | .hbm, ⟨26, _⟩ => ⟨S8x8x128x128, .f32⟩
  | .hbm, ⟨27, _⟩ => ⟨S64x1024, .bf16⟩
  | .hbm, ⟨28, _⟩ => ⟨S8x8x128x128, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S1x128, .f32⟩
  | .local _ .vmem, ⟨10, _⟩ => ⟨S1x8x128x128, .f32⟩
  | .local _ .vmem, ⟨11, _⟩ => ⟨S1x8x128x128, .f32⟩
  | .local _ .vmem, ⟨12, _⟩ => ⟨S8x1024, .bf16⟩
  | .local _ .vmem, ⟨13, _⟩ => ⟨S8x1024, .bf16⟩
  | .local _ .vmem, ⟨14, _⟩ => ⟨S1x8x128x128, .f32⟩
  | .local _ .vmem, ⟨15, _⟩ => ⟨S1x8x128x128, .f32⟩
  | .local _ .vmem, ⟨16, _⟩ => ⟨S8x128x128, .f32⟩
  | _, _ => ⟨S64x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_190 : BitVec 32 := 0#32
  let v498 : BitVec 1 := Scalar.cmpi .eq arg1 c0_i32_190
  let v499 : BitVec 32 := Scalar.extui v498
  let c0_i32_191 : BitVec 32 := 0#32
  let v500 : BitVec 1 := Scalar.cmpi .ne v499 c0_i32_191
  v500

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RefHgrnSIdeal.lean ====
abbrev S64x11264 : Shape := ⟨2, ![64, 11264]⟩
abbrev S1x8x8x128x128 : Shape := ⟨5, ![1, 8, 8, 128, 128]⟩
abbrev S2x1024 : Shape := ⟨2, ![2, 1024]⟩
abbrev S1x128 : Shape := ⟨2, ![1, 128]⟩
abbrev S8x8x128x128 : Shape := ⟨4, ![8, 8, 128, 128]⟩
abbrev S64x1024 : Shape := ⟨2, ![64, 1024]⟩
abbrev S8x8x8x128 : Shape := ⟨4, ![8, 8, 8, 128]⟩
abbrev S_ : Shape := ⟨0, ![]⟩
abbrev S1024 : Shape := ⟨1, ![1024]⟩
abbrev S1x1024 : Shape := ⟨2, ![1, 1024]⟩
abbrev S8x128 : Shape := ⟨2, ![8, 128]⟩
abbrev S1x1x8x128 : Shape := ⟨4, ![1, 1, 8, 128]⟩
abbrev S8x1x8x8x128 : Shape := ⟨5, ![8, 1, 8, 8, 128]⟩
abbrev S8x8x1x8x128 : Shape := ⟨5, ![8, 8, 1, 8, 128]⟩
abbrev S8x8 : Shape := ⟨2, ![8, 8]⟩
abbrev S8x8x1x8x8 : Shape := ⟨5, ![8, 8, 1, 8, 8]⟩
abbrev S8x8x1x1x128 : Shape := ⟨5, ![8, 8, 1, 1, 128]⟩
abbrev S8x8x1x128 : Shape := ⟨4, ![8, 8, 1, 128]⟩
abbrev S8x8x1x128x128 : Shape := ⟨5, ![8, 8, 1, 128, 128]⟩
abbrev S1x8x8x128 : Shape := ⟨4, ![1, 8, 8, 128]⟩
abbrev S1x8x8x8x128 : Shape := ⟨5, ![1, 8, 8, 8, 128]⟩
abbrev S8x8x128 : Shape := ⟨3, ![8, 8, 128]⟩
abbrev S8x8x128x1 : Shape := ⟨4, ![8, 8, 128, 1]⟩
abbrev S128 : Shape := ⟨1, ![128]⟩
abbrev S8x8x8 : Shape := ⟨3, ![8, 8, 8]⟩
abbrev S8x8x8x1 : Shape := ⟨4, ![8, 8, 8, 1]⟩
abbrev S1x1x1x128 : Shape := ⟨4, ![1, 1, 1, 128]⟩

abbrev nBuf : Space → Nat
  | .hbm => 143
  | .vmem => 0
  | .smem => 0
  | _ => 0

abbrev hbmTy0_0 (i : Nat) : BufTy := match i % 128 with
  | 0 => ⟨S64x11264, .f32⟩
  | 1 => ⟨S1x8x8x128x128, .f32⟩
  | 2 => ⟨S2x1024, .f32⟩
  | 3 => ⟨S1x128, .f32⟩
  | 4 => ⟨S8x8x128x128, .f32⟩
  | 5 => ⟨S64x1024, .f32⟩
  | 6 => ⟨S8x8x8x128, .f32⟩
  | 7 => ⟨S64x1024, .f32⟩
  | 8 => ⟨S8x8x8x128, .f32⟩
  | 9 => ⟨S64x1024, .f32⟩
  | 10 => ⟨S8x8x8x128, .f32⟩
  | 11 => ⟨S_, .f32⟩
  | 12 => ⟨S1024, .f32⟩
  | 13 => ⟨S_, .f32⟩
  | 14 => ⟨S1024, .f32⟩
  | 15 => ⟨S1024, .f32⟩
  | 16 => ⟨S1x1024, .f32⟩
  | 17 => ⟨S2x1024, .f32⟩
  | 18 => ⟨S2x1024, .f32⟩
  | 19 => ⟨S2x1024, .f32⟩
  | 20 => ⟨S_, .f32⟩
  | 21 => ⟨S1024, .f32⟩
  | 22 => ⟨S1x1024, .f32⟩
  | 23 => ⟨S2x1024, .f32⟩
  | 24 => ⟨S2x1024, .f32⟩
  | 25 => ⟨S_, .f32⟩
  | 26 => ⟨S_, .f32⟩
  | 27 => ⟨S2x1024, .f32⟩
  | 28 => ⟨S1x1024, .f32⟩
  | 29 => ⟨S1024, .f32⟩
  | 30 => ⟨S8x128, .f32⟩
  | 31 => ⟨S_, .f32⟩
  | 32 => ⟨S8x128, .f32⟩
  | 33 => ⟨S8x128, .f32⟩
  | 34 => ⟨S8x8x8x128, .f32⟩
  | 35 => ⟨S8x8x8x128, .f32⟩
  | 36 => ⟨S_, .f32⟩
  | 37 => ⟨S8x8x8x128, .f32⟩
  | 38 => ⟨S8x8x8x128, .f32⟩
  | 39 => ⟨S_, .f32⟩
  | 40 => ⟨S8x8x8x128, .f32⟩
  | 41 => ⟨S8x8x8x128, .f32⟩
  | 42 => ⟨S1x1x8x128, .f32⟩
  | 43 => ⟨S8x8x8x128, .f32⟩
  | 44 => ⟨S8x8x8x128, .f32⟩
  | 45 => ⟨S1x1x8x128, .f32⟩
  | 46 => ⟨S8x8x8x128, .f32⟩
  | 47 => ⟨S8x8x8x128, .f32⟩
  | 48 => ⟨S8x8x8x128, .f32⟩
  | 49 => ⟨S_, .f32⟩
  | 50 => ⟨S8x8x8x128, .f32⟩
  | 51 => ⟨S8x8x8x128, .f32⟩
  | 52 => ⟨S8x1x8x8x128, .f32⟩
  | 53 => ⟨S8x8x1x8x128, .f32⟩
  | 54 => ⟨S8x1x8x8x128, .f32⟩
  | 55 => ⟨S8x8x1x8x128, .f32⟩
  | 56 => ⟨S8x1x8x8x128, .f32⟩
  | 57 => ⟨S8x8x1x8x128, .f32⟩
  | 58 => ⟨S8x1x8x8x128, .f32⟩
  | 59 => ⟨S8x8x1x8x128, .f32⟩
  | 60 => ⟨S_, .f32⟩
  | 61 => ⟨S_, .f32⟩
  | 62 => ⟨S8x8x1x8x128, .f32⟩
  | 63 => ⟨S8x8x1x8x128, .f32⟩
  | 64 => ⟨S8x8x1x8x128, .f32⟩
  | 65 => ⟨S8x8x1x8x128, .f32⟩
  | 66 => ⟨S8x8x1x8x128, .f32⟩
  | 67 => ⟨S8x8x1x8x128, .f32⟩
  | 68 => ⟨S_, .i1⟩
  | 69 => ⟨S8x8, .i1⟩
  | 70 => ⟨S8x8, .i32⟩
  | 71 => ⟨S_, .i32⟩
  | 72 => ⟨S8x8, .i32⟩
  | 73 => ⟨S8x8, .i32⟩
  | 74 => ⟨S8x8, .i32⟩
  | 75 => ⟨S8x8, .i1⟩
  | 76 => ⟨S_, .i1⟩
  | 77 => ⟨S8x8, .i1⟩
  | 78 => ⟨S8x8, .i1⟩
  | 79 => ⟨S8x8x1x8x8, .f32⟩
  | 80 => ⟨S_, .f32⟩
  | 81 => ⟨S_, .f32⟩
  | 82 => ⟨S8x8x1x8x8, .i1⟩
  | 83 => ⟨S8x8x1x8x8, .f32⟩
  | 84 => ⟨S8x8x1x8x8, .f32⟩
  | 85 => ⟨S8x8x1x8x128, .f32⟩
  | 86 => ⟨S8x8x1x1x128, .f32⟩
  | 87 => ⟨S8x8x1x128, .f32⟩
  | 88 => ⟨S8x8x1x1x128, .f32⟩
  | 89 => ⟨S8x8x1x8x128, .f32⟩
  | 90 => ⟨S8x8x1x8x128, .f32⟩
  | 91 => ⟨S8x8x1x8x128, .f32⟩
  | 92 => ⟨S8x8x1x8x128, .f32⟩
  | 93 => ⟨S8x8x1x128x128, .f32⟩
  | 94 => ⟨S8x8x1x128, .f32⟩
  | 95 => ⟨S1x8x8x128, .f32⟩
  | 96 => ⟨S1x8x8x128x128, .f32⟩
  | 97 => ⟨S1x8x8x8x128, .f32⟩
  | 98 => ⟨S1x8x8x8x128, .f32⟩
  | 99 => ⟨S8x8x128, .f32⟩
  | 100 => ⟨S8x8x128x128, .f32⟩
  | 101 => ⟨S8x8x8x128, .f32⟩
  | 102 => ⟨S8x8x8x128, .f32⟩
  | 103 => ⟨S8x8x128x1, .f32⟩
  | 104 => ⟨S8x8x128x128, .f32⟩
  | 105 => ⟨S8x8x128x128, .f32⟩
  | 106 => ⟨S8x8x128x128, .f32⟩
  | 107 => ⟨S8x8x8x128, .f32⟩
  | 108 => ⟨S8x8x8x128, .f32⟩
  | 109 => ⟨S1x8x8x8x128, .f32⟩
  | 110 => ⟨S8x1x8x8x128, .f32⟩
  | 111 => ⟨S8x8x8x128, .f32⟩
  | 112 => ⟨S64x1024, .f32⟩
  | 113 => ⟨S8x8x8x128, .f32⟩
  | 114 => ⟨S128, .f32⟩
  | 115 => ⟨S8x8x8x128, .f32⟩
  | 116 => ⟨S_, .f32⟩
  | 117 => ⟨S8x8x8, .f32⟩
  | 118 => ⟨S8x8x8x1, .f32⟩
  | 119 => ⟨S_, .f32⟩
  | 120 => ⟨S8x8x8x1, .f32⟩
  | 121 => ⟨S8x8x8x1, .f32⟩
  | 122 => ⟨S_, .f32⟩
  | 123 => ⟨S8x8x8x1, .f32⟩
  | 124 => ⟨S8x8x8x1, .f32⟩
  | 125 => ⟨S8x8x8x1, .f32⟩
  | 126 => ⟨S8x8x8x128, .f32⟩
  | 127 => ⟨S8x8x8x128, .f32⟩
  | _ => ⟨S64x11264, .f32⟩

abbrev hbmTy0_1 (i : Nat) : BufTy := match i % 128 with
  | 0 => ⟨S1x1x1x128, .f32⟩
  | 1 => ⟨S8x8x8x128, .f32⟩
  | 2 => ⟨S8x8x8x128, .f32⟩
  | 3 => ⟨S8x8x8x128, .f32⟩
  | 4 => ⟨S8x8x8x128, .f32⟩
  | 5 => ⟨S_, .f32⟩
  | 6 => ⟨S8x8x8x128, .f32⟩
  | 7 => ⟨S8x8x8x128, .f32⟩
  | 8 => ⟨S_, .f32⟩
  | 9 => ⟨S8x8x8x128, .f32⟩
  | 10 => ⟨S8x8x8x128, .f32⟩
  | 11 => ⟨S8x8x8x128, .f32⟩
  | 12 => ⟨S8x8x8x128, .f32⟩
  | 13 => ⟨S64x1024, .f32⟩
  | 14 => ⟨S64x1024, .bf16⟩
  | _ => ⟨S64x11264, .f32⟩

abbrev hbmTy (i : Nat) : BufTy := match i / 128 with
  | 0 => hbmTy0_0 i
  | 1 => hbmTy0_1 i
  | _ => ⟨S64x11264, .f32⟩

abbrev bufTy : (tb : Table) → Fin (tcTables nBuf tb) → BufTy
  | .hbm, ⟨i, _⟩ => hbmTy i
  | _, _ => ⟨S64x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_call0_cst : Ref sig .tc := ⟨.hbm, 25, rfl⟩
abbrev main_call0_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_call1_call0_cst : Ref sig .tc := ⟨.hbm, 60, rfl⟩
abbrev main_call1_call0_v0 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c : Ref sig .tc := ⟨.hbm, 68, rfl⟩
abbrev main_v53 : Ref sig .tc := ⟨.hbm, 69, rfl⟩
abbrev main_call2_v0 : Ref sig .tc := ⟨.hbm, 70, rfl⟩
abbrev main_call2_c : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_c_0 : Ref sig .tc := ⟨.hbm, 76, rfl⟩
abbrev main_call2_v5 : Ref sig .tc := ⟨.hbm, 77, rfl⟩
abbrev main_v54 : Ref sig .tc := ⟨.hbm, 78, rfl⟩
abbrev main_v55 : Ref sig .tc := ⟨.hbm, 79, rfl⟩
abbrev main_cst_6 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_7 : Ref sig .tc := ⟨.hbm, 116, rfl⟩
abbrev main_v88 : Ref sig .tc := ⟨.hbm, 117, rfl⟩
abbrev main_v89 : Ref sig .tc := ⟨.hbm, 118, rfl⟩
abbrev main_cst_8 : Ref sig .tc := ⟨.hbm, 119, rfl⟩
abbrev main_v90 : Ref sig .tc := ⟨.hbm, 120, rfl⟩
abbrev main_v91 : Ref sig .tc := ⟨.hbm, 121, rfl⟩
abbrev main_cst_9 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_call4_v0 : Ref sig .tc := ⟨.hbm, 131, rfl⟩
abbrev main_call4_v1 : Ref sig .tc := ⟨.hbm, 132, rfl⟩
abbrev main_call4_cst : Ref sig .tc := ⟨.hbm, 133, rfl⟩
abbrev main_call4_v2 : Ref sig .tc := ⟨.hbm, 134, rfl⟩
abbrev main_call4_v3 : Ref sig .tc := ⟨.hbm, 135, rfl⟩
abbrev main_call4_cst_0 : Ref sig .tc := ⟨.hbm, 136, rfl⟩
abbrev main_call4_v4 : Ref sig .tc := ⟨.hbm, 137, rfl⟩
abbrev main_call4_v5 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩

abbrev nD : Nat := 1
abbrev τ : Topo := Topo.v7x

variable {F : FTy → Type} [FloatOps F]
-- ==== Proj.lean ====
abbrev S4x2048x2048 : Shape := ⟨3, ![4, 2048, 2048]⟩
abbrev S1x2048 : Shape := ⟨2, ![1, 2048]⟩
abbrev S1x2048x11264 : Shape := ⟨3, ![1, 2048, 11264]⟩
abbrev S8192x2048 : Shape := ⟨2, ![8192, 2048]⟩
abbrev S2048 : Shape := ⟨1, ![2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x11264, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S2048x11264, .f32⟩
  | .hbm, ⟨7, _⟩ => ⟨S2048x11264, .bf16⟩
  | .hbm, ⟨8, _⟩ => ⟨S8192x11264, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefProjIdeal.lean ====
abbrev S4x2048x2048 : Shape := ⟨3, ![4, 2048, 2048]⟩
abbrev S1x2048 : Shape := ⟨2, ![1, 2048]⟩
abbrev S1x2048x11264 : Shape := ⟨3, ![1, 2048, 11264]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x11264 : Shape := ⟨2, ![2048, 11264]⟩
abbrev S4x2048x11264 : Shape := ⟨3, ![4, 2048, 11264]⟩
abbrev S8192x11264 : Shape := ⟨2, ![8192, 11264]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x11264, .f32⟩
  | .hbm, ⟨3, _⟩ => ⟨S2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S2048x11264, .f32⟩
  | .hbm, ⟨21, _⟩ => ⟨S4x2048x11264, .f32⟩
  | .hbm, ⟨22, _⟩ => ⟨S8192x11264, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== ProjS.lean ====
abbrev S8x8x2048 : Shape := ⟨3, ![8, 8, 2048]⟩
abbrev S1x2048 : Shape := ⟨2, ![1, 2048]⟩
abbrev S1x2048x11264 : Shape := ⟨3, ![1, 2048, 11264]⟩
abbrev S64x2048 : Shape := ⟨2, ![64, 2048]⟩
abbrev S2048 : Shape := ⟨1, ![2048]⟩
abbrev S2048x11264 : Shape := ⟨2, ![2048, 11264]⟩
abbrev S64x11264 : Shape := ⟨2, ![64, 11264]⟩
abbrev S2048x1024 : Shape := ⟨2, ![2048, 1024]⟩
abbrev S64x1024 : Shape := ⟨2, ![64, 1024]⟩
abbrev S64 : Shape := ⟨1, ![64]⟩
abbrev S64x1 : Shape := ⟨2, ![64, 1]⟩

abbrev nBuf : Space → Nat
  | .hbm => 9
  | .vmem => 7
  | .smem => 0
  | _ => 0

abbrev bufTy : (tb : Table) → Fin (tcTables nBuf tb) → BufTy
  | .hbm, ⟨0, _⟩ => ⟨S8x8x2048, .f32⟩
  | .hbm, ⟨1, _⟩ => ⟨S1x2048, .f32⟩
  | .hbm, ⟨2, _⟩ => ⟨S1x2048x11264, .f32⟩
  | .hbm, ⟨3, _⟩ => ⟨S64x2048, .f32⟩
  | .hbm, ⟨4, _⟩ => ⟨S2048, .f32⟩
  | .hbm, ⟨5, _⟩ => ⟨S1x2048, .f32⟩
  | .hbm, ⟨6, _⟩ => ⟨S2048x11264, .f32⟩
  | .hbm, ⟨7, _⟩ => ⟨S2048x11264, .bf16⟩
  | .hbm, ⟨8, _⟩ => ⟨S64x11264, .f32⟩
  | .local _ .vmem, ⟨0, _⟩ => ⟨S64x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S64x1024, .f32⟩
  | .local _ .vmem, ⟨5, _⟩ => ⟨S64x1024, .f32⟩
  | .local _ .vmem, ⟨6, _⟩ => ⟨S64x2048, .bf16⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefProjSIdeal.lean ====
abbrev S8x8x2048 : Shape := ⟨3, ![8, 8, 2048]⟩
abbrev S1x2048 : Shape := ⟨2, ![1, 2048]⟩
abbrev S1x2048x11264 : Shape := ⟨3, ![1, 2048, 11264]⟩
abbrev S2048 : Shape := ⟨1, ![2048]⟩
abbrev S_ : Shape := ⟨0, ![]⟩
abbrev S8x8 : Shape := ⟨2, ![8, 8]⟩
abbrev S8x8x1 : Shape := ⟨3, ![8, 8, 1]⟩
abbrev S1x1x2048 : Shape := ⟨3, ![1, 1, 2048]⟩
abbrev S2048x11264 : Shape := ⟨2, ![2048, 11264]⟩
abbrev S8x8x11264 : Shape := ⟨3, ![8, 8, 11264]⟩
abbrev S64x11264 : Shape := ⟨2, ![64, 11264]⟩

abbrev nBuf : Space → Nat
  | .hbm => 23
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S1x2048, .f32⟩
  | .hbm, ⟨2, _⟩ => ⟨S1x2048x11264, .f32⟩
  | .hbm, ⟨3, _⟩ => ⟨S2048, .f32⟩
  | .hbm, ⟨4, _⟩ => ⟨S8x8x2048, .f32⟩
  | .hbm, ⟨5, _⟩ => ⟨S_, .f32⟩
  | .hbm, ⟨6, _⟩ => ⟨S8x8, .f32⟩
  | .hbm, ⟨7, _⟩ => ⟨S8x8x1, .f32⟩
  | .hbm, ⟨8, _⟩ => ⟨S_, .f32⟩
  | .hbm, ⟨9, _⟩ => ⟨S8x8x1, .f32⟩
  | .hbm, ⟨10, _⟩ => ⟨S8x8x1, .f32⟩
  | .hbm, ⟨11, _⟩ => ⟨S_, .f32⟩
  | .hbm, ⟨12, _⟩ => ⟨S8x8x1, .f32⟩
  | .hbm, ⟨13, _⟩ => ⟨S8x8x1, .f32⟩
  | .hbm, ⟨14, _⟩ => ⟨S8x8x1, .f32⟩
  | .hbm, ⟨15, _⟩ => ⟨S8x8x2048, .f32⟩
  | .hbm, ⟨16, _⟩ => ⟨S8x8x2048, .f32⟩
  | .hbm, ⟨17, _⟩ => ⟨S1x1x2048, .f32⟩
  | .hbm, ⟨18, _⟩ => ⟨S8x8x2048, .f32⟩
  | .hbm, ⟨19, _⟩ => ⟨S8x8x2048, .f32⟩
  | .hbm, ⟨20, _⟩ => ⟨S2048x11264, .f32⟩
  | .hbm, ⟨21, _⟩ => ⟨S8x8x11264, .f32⟩
  | .hbm, ⟨22, _⟩ => ⟨S64x11264, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Merge.lean ====
abbrev S8192x1024 : Shape := ⟨2, ![8192, 1024]⟩
abbrev S8192x11264 : Shape := ⟨2, ![8192, 11264]⟩
abbrev S8192x2048 : Shape := ⟨2, ![8192, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1024x2048 : Shape := ⟨2, ![1024, 2048]⟩
abbrev S2048x2048 : Shape := ⟨2, ![2048, 2048]⟩
abbrev S2048 : Shape := ⟨1, ![2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x11264, .f32⟩
  | .hbm, ⟨3, _⟩ => ⟨S8192x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1024x2048, .f32⟩
  | .hbm, ⟨9, _⟩ => ⟨S1024x2048, .bf16⟩
  | .hbm, ⟨10, _⟩ => ⟨S1024x2048, .f32⟩
  | .hbm, ⟨11, _⟩ => ⟨S1024x2048, .bf16⟩
  | .hbm, ⟨12, _⟩ => ⟨S2048x2048, .f32⟩
  | .hbm, ⟨13, _⟩ => ⟨S2048x2048, .bf16⟩
  | .hbm, ⟨14, _⟩ => ⟨S2048, .f32⟩
  | .hbm, ⟨15, _⟩ => ⟨S1x2048, .f32⟩
  | .hbm, ⟨16, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x2048, .f32⟩
  | .local _ .vmem, ⟨13, _⟩ => ⟨S256x2048, .f32⟩
  | .local _ .vmem, ⟨14, _⟩ => ⟨S1024x2048, .bf16⟩
  | .local _ .vmem, ⟨15, _⟩ => ⟨S1024x2048, .bf16⟩
  | .local _ .vmem, ⟨16, _⟩ => ⟨S2048x2048, .bf16⟩
  | .local _ .vmem, ⟨17, _⟩ => ⟨S1x2048, .f32⟩
  | .local _ .vmem, ⟨18, _⟩ => ⟨S256x2048, .f32⟩
  | .local _ .vmem, ⟨19, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefMergeIdeal.lean ====
abbrev S8192x1024 : Shape := ⟨2, ![8192, 1024]⟩
abbrev S8192x11264 : Shape := ⟨2, ![8192, 11264]⟩
abbrev S8192x2048 : Shape := ⟨2, ![8192, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1024x2048 : Shape := ⟨2, ![1024, 2048]⟩
abbrev S_ : Shape := ⟨0, ![]⟩
abbrev S2048x2048 : Shape := ⟨2, ![2048, 2048]⟩
abbrev S2048 : Shape := ⟨1, ![2048]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x11264, .f32⟩
  | .hbm, ⟨3, _⟩ => ⟨S8192x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S1024x2048, .f32⟩
  | .hbm, ⟨11, _⟩ => ⟨S8192x2048, .f32⟩
  | .hbm, ⟨12, _⟩ => ⟨S1024x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S2048x2048, .f32⟩
  | .hbm, ⟨34, _⟩ => ⟨S8192x2048, .f32⟩
  | .hbm, ⟨35, _⟩ => ⟨S2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Ffn.lean ====
abbrev S8192x2048 : Shape := ⟨2, ![8192, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S2048x11264 : Shape := ⟨2, ![2048, 11264]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 14
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048x11264, .f32⟩
  | .hbm, ⟨8, _⟩ => ⟨S2048x11264, .bf16⟩
  | .hbm, ⟨9, _⟩ => ⟨S5632x2048, .f32⟩
  | .hbm, ⟨10, _⟩ => ⟨S5632x2048, .bf16⟩
  | .hbm, ⟨11, _⟩ => ⟨S2048, .f32⟩
  | .hbm, ⟨12, _⟩ => ⟨S1x2048, .f32⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond4 (i : grid0.Coords) : BitVec 1 :=
  let arg1 : BitVec 32 := BitVec.ofNat 32 (i 1).val
  let c10_i32 : BitVec 32 := 10#32
  let v29 : BitVec 1 := Scalar.cmpi .eq arg1 c10_i32
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RefFfnIdeal.lean ====
abbrev S8192x2048 : Shape := ⟨2, ![8192, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x11264 : Shape := ⟨2, ![2048, 11264]⟩
abbrev S8192x11264 : Shape := ⟨2, ![8192, 11264]⟩
abbrev S8192x5632 : Shape := ⟨2, ![8192, 5632]⟩
abbrev S5632x2048 : Shape := ⟨2, ![5632, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x11264, .f32⟩
  | .hbm, ⟨23, _⟩ => ⟨S8192x11264, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S5632x2048, .f32⟩
  | .hbm, ⟨37, _⟩ => ⟨S8192x2048, .f32⟩
  | .hbm, ⟨38, _⟩ => ⟨S2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== FfnS.lean ====
abbrev S64x2048 : Shape := ⟨2, ![64, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S2048x11264 : Shape := ⟨2, ![2048, 11264]⟩
abbrev S5632x2048 : Shape := ⟨2, ![5632, 2048]⟩
abbrev S2048x512 : Shape := ⟨2, ![2048, 512]⟩
abbrev S512x2048 : Shape := ⟨2, ![512, 2048]⟩
abbrev S64 : Shape := ⟨1, ![64]⟩
abbrev S64x1 : Shape := ⟨2, ![64, 1]⟩
abbrev S64x512 : Shape := ⟨2, ![64, 512]⟩

abbrev nBuf : Space → Nat
  | .hbm => 14
  | .vmem => 12
  | .smem => 0
  | _ => 0

abbrev bufTy : (tb : Table) → Fin (tcTables nBuf tb) → BufTy
  | .hbm, ⟨0, _⟩ => ⟨S64x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048x11264, .f32⟩
  | .hbm, ⟨8, _⟩ => ⟨S2048x11264, .bf16⟩
  | .hbm, ⟨9, _⟩ => ⟨S5632x2048, .f32⟩
  | .hbm, ⟨10, _⟩ => ⟨S5632x2048, .bf16⟩
  | .hbm, ⟨11, _⟩ => ⟨S2048, .f32⟩
  | .hbm, ⟨12, _⟩ => ⟨S1x2048, .f32⟩
  | .hbm, ⟨13, _⟩ => ⟨S64x2048, .f32⟩
  | .local _ .vmem, ⟨0, _⟩ => ⟨S64x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S64x2048, .f32⟩
  | .local _ .vmem, ⟨10, _⟩ => ⟨S64x2048, .bf16⟩
  | .local _ .vmem, ⟨11, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond4 (i : grid0.Coords) : BitVec 1 :=
  let arg1 : BitVec 32 := BitVec.ofNat 32 (i 1).val
  let c10_i32 : BitVec 32 := 10#32
  let v29 : BitVec 1 := Scalar.cmpi .eq arg1 c10_i32
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== RefFfnSIdeal.lean ====
abbrev S64x2048 : Shape := ⟨2, ![64, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S64 : Shape := ⟨1, ![64]⟩
abbrev S64x1 : Shape := ⟨2, ![64, 1]⟩
abbrev S2048x11264 : Shape := ⟨2, ![2048, 11264]⟩
abbrev S64x11264 : Shape := ⟨2, ![64, 11264]⟩
abbrev S64x5632 : Shape := ⟨2, ![64, 5632]⟩
abbrev S5632x2048 : Shape := ⟨2, ![5632, 2048]⟩

abbrev nBuf : Space → Nat
  | .hbm => 56
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S2048, .f32⟩
  | .hbm, ⟨6, _⟩ => ⟨S64x2048, .f32⟩
  | .hbm, ⟨7, _⟩ => ⟨S_, .f32⟩
  | .hbm, ⟨8, _⟩ => ⟨S64, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S64x1, .f32⟩
  | .hbm, ⟨17, _⟩ => ⟨S64x2048, .f32⟩
  | .hbm, ⟨18, _⟩ => ⟨S64x2048, .f32⟩
  | .hbm, ⟨19, _⟩ => ⟨S1x2048, .f32⟩
  | .hbm, ⟨20, _⟩ => ⟨S64x2048, .f32⟩
  | .hbm, ⟨21, _⟩ => ⟨S64x2048, .f32⟩
  | .hbm, ⟨22, _⟩ => ⟨S2048x11264, .f32⟩
  | .hbm, ⟨23, _⟩ => ⟨S64x11264, .f32⟩
  | .hbm, ⟨24, _⟩ => ⟨S64x5632, .f32⟩
  | .hbm, ⟨25, _⟩ => ⟨S64x5632, .f32⟩
  | .hbm, ⟨26, _⟩ => ⟨S64x5632, .f32⟩
  | .hbm, ⟨27, _⟩ => ⟨S64x5632, .f32⟩
  | .hbm, ⟨28, _⟩ => ⟨S_, .f32⟩
  | .hbm, ⟨29, _⟩ => ⟨S64x5632, .f32⟩
  | .hbm, ⟨30, _⟩ => ⟨S64x5632, .f32⟩
  | .hbm, ⟨31, _⟩ => ⟨S_, .f32⟩
  | .hbm, ⟨32, _⟩ => ⟨S64x5632, .f32⟩
  | .hbm, ⟨33, _⟩ => ⟨S64x5632, .f32⟩
  | .hbm, ⟨34, _⟩ => ⟨S64x5632, .f32⟩
  | .hbm, ⟨35, _⟩ => ⟨S64x5632, .f32⟩
  | .hbm, ⟨36, _⟩ => ⟨S5632x2048, .f32⟩
  | .hbm, ⟨37, _⟩ => ⟨S64x2048, .f32⟩
  | .hbm, ⟨38, _⟩ => ⟨S2048, .f32⟩
  | .hbm, ⟨39, _⟩ => ⟨S64x2048, .f32⟩
  | .hbm, ⟨40, _⟩ => ⟨S_, .f32⟩
  | .hbm, ⟨41, _⟩ => ⟨S64, .f32⟩
  | .hbm, ⟨42, _⟩ => ⟨S64x1, .f32⟩
  | .hbm, ⟨43, _⟩ => ⟨S_, .f32⟩
  | .hbm, ⟨44, _⟩ => ⟨S64x1, .f32⟩
  | .hbm, ⟨45, _⟩ => ⟨S64x1, .f32⟩
  | .hbm, ⟨46, _⟩ => ⟨S_, .f32⟩
  | .hbm, ⟨47, _⟩ => ⟨S64x1, .f32⟩
  | .hbm, ⟨48, _⟩ => ⟨S64x1, .f32⟩
  | .hbm, ⟨49, _⟩ => ⟨S64x1, .f32⟩
  | .hbm, ⟨50, _⟩ => ⟨S64x2048, .f32⟩
  | .hbm, ⟨51, _⟩ => ⟨S64x2048, .f32⟩
  | .hbm, ⟨52, _⟩ => ⟨S1x2048, .f32⟩
  | .hbm, ⟨53, _⟩ => ⟨S64x2048, .f32⟩
  | .hbm, ⟨54, _⟩ => ⟨S64x2048, .f32⟩
  | .hbm, ⟨55, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Proof.Rows.lean ====
module

public import Idealize.ShloMosaic.Lib.Pointwise

@[expose] public section

noncomputable section

open Idealize.ShloMosaic

namespace Cert.Rows

/-- One entry of an RMS-normalized row: the entry, over the root of the row's mean square plus epsilon, times its weight. -/
def rmsEntry {K : ℕ} (x : Fin K → EReal) (n e : EReal) (g : Fin K → EReal) (k : Fin K) : EReal :=
  x k * Ideal.rsqrt (Ideal.div (∑ l, x l * x l) n + e) * g k

/-- The logistic function over the extended reals. -/
def sigm (x : EReal) : EReal := Ideal.div 1 (1 + Ideal.exp (-x))

theorem sigm_sub (x : EReal) : Ideal.div 1 (1 + Ideal.exp (0 - x)) = sigm x := by
  unfold sigm; rw [sub_eq_add_neg, zero_add]

/-- One hidden unit of a gated feed-forward block. -/
def act {K : ℕ} (h wg wu : Fin K → EReal) : EReal :=
  (∑ k, h k * wg k) * sigm (∑ k, h k * wg k) * ∑ k, h k * wu k

/-- A sum over all hidden units is the sum over the tiles of the sums within each tile. -/
theorem sum_tiles {N : ℕ} (J T : ℕ) (hN : J * T = N) (hpos : 0 < N) (f : Fin N → EReal) :
    ∑ j ∈ Finset.range J, ∑ t : Fin T, f ⟨(j * T + t.val) % N, Nat.mod_lt _ hpos⟩ = ∑ k, f k := by
  rw [Fin.sum_univ_tiles J T hN f, Finset.sum_range]
  refine Finset.sum_congr rfl fun j _ => Finset.sum_congr rfl fun t _ => ?_
  congr 1
  apply Fin.ext
  have hj := j.isLt; have ht := t.isLt
  refine Nat.mod_eq_of_lt ?_
  subst hN
  calc j.val * T + t.val < j.val * T + T := by omega
    _ = (j.val + 1) * T := by rw [Nat.add_mul, Nat.one_mul]
    _ ≤ J * T := Nat.mul_le_mul_right _ (by omega)

end Cert.Rows

end
-- ==== Proof.Recur.lean ====
module

public import proofs.«01_k».proof.Proof.Rows
public import Idealize.ShloMosaic.Lib.Pointwise

@[expose] public section

noncomputable section

open Idealize.ShloMosaic

namespace Cert.Recur

open Cert.Rows

/-- The running sum of a chunk's log gates at row `s`. -/
def cum {C : ℕ} (g : Fin C → EReal) (s : Fin C) : EReal := ∑ r, if r ≤ s then g r else 0

/-- The forget gate: from its lower bound up to one, by the logistic function of its logit. -/
def fgt (l x : EReal) : EReal := l + (1 - l) * sigm x

/-- The log gates of one feature of a chunk. -/
def lg {C : ℕ} (l : Fin 128 → EReal) (x : Fin C → Fin 128 → EReal) (d : Fin 128) (r : Fin C) : EReal := Ideal.log (fgt (l d) (x r d))

/-- The query of row `s`, scaled by the decay since the chunk's start. -/
def qg {C : ℕ} (l : Fin 128 → EReal) (q x : Fin C → Fin 128 → EReal) (s : Fin C) (d : Fin 128) : EReal :=
  q s d * Ideal.exp (cum (lg l x d) s)

/-- The key of row `r`, scaled back to the chunk's start. -/
def kg {C : ℕ} (l : Fin 128 → EReal) (x : Fin C → Fin 128 → EReal) (r : Fin C) (d : Fin 128) : EReal :=
  (1 - fgt (l d) (x r d)) * Ideal.exp (-cum (lg l x d) r)

/-- The output of row `s` of a chunk that starts from the state `S`: within the chunk by the masked scores, and from the state. -/
def out {C : ℕ} (l : Fin 128 → EReal) (q x v : Fin C → Fin 128 → EReal) (S : Fin 128 → Fin 128 → EReal) (s : Fin C) (e : Fin 128) : EReal :=
  (∑ r, (if r ≤ s then ∑ d, qg l q x s d * kg l x r d else 0) * v r e) + ∑ d, qg l q x s d * S d e

/-- The state after the chunk: the decayed state and what the chunk's rows add to it. -/
def next {C : ℕ} (l : Fin 128 → EReal) (x v : Fin C → Fin 128 → EReal) (S : Fin 128 → Fin 128 → EReal) (d e : Fin 128) : EReal :=
  Ideal.exp (∑ r, lg l x d r) * S d e
    + ∑ r, ((1 - fgt (l d) (x r d)) * Ideal.exp ((∑ r', lg l x d r') - cum (lg l x d) r)) * v r e

/-- The result of row `s`: the output's root-mean-square norm, gated. -/
def res {C : ℕ} (o : Fin C → Fin 128 → EReal) (w : Fin 128 → EReal) (g : Fin C → Fin 128 → EReal) (s : Fin C) (e : Fin 128) : EReal :=
  rmsEntry (o s) (Ideal.ofBits .f32 0x43000000#32) (Ideal.ofBits .f32 0x358637BD#32) w e * (g s e * sigm (g s e))

/-- The running sum at the last row is the whole sum. -/
theorem cum_last {C : ℕ} (g : Fin C → EReal) (s : Fin C) (h : s.val + 1 = C) : cum g s = ∑ r, g r :=
  Finset.sum_congr rfl fun r _ => if_pos (Fin.le_def.mpr (by have := r.isLt; omega))

/-! ## No log gate is infinite -/

theorem exp_nonneg (x : EReal) : 0 ≤ Ideal.exp x := by
  induction x with
  | bot => exact le_of_eq (by rfl)
  | top => exact le_top
  | coe r => exact EReal.coe_nonneg.mpr (Real.exp_pos r).le

/-- The logistic function takes finite values. -/
theorem sigm_coe (x : EReal) : ∃ r : ℝ, sigm x = (r : EReal) := by
  unfold sigm
  generalize hy : Ideal.exp (-x) = y
  have h0 : 0 ≤ y := hy ▸ exp_nonneg _
  induction y with
  | bot => exact absurd h0 (by simp)
  | top => exact ⟨0, by rw [show (1 : EReal) + ⊤ = ⊤ from EReal.add_top_of_ne_bot (by decide)]; simp [Ideal.div]⟩
  | coe r =>
    have hr : 0 ≤ r := EReal.coe_nonneg.mp h0
    have hne : ((1 : EReal) + (r : EReal)) ≠ 0 := by
      rw [← EReal.coe_one, ← EReal.coe_add]
      intro h
      have := EReal.coe_eq_zero.mp h
      linarith
    refine ⟨1 * (1 + r)⁻¹, ?_⟩
    unfold Ideal.div
    rw [if_neg hne, ← EReal.coe_one, ← EReal.coe_add, ← EReal.coe_inv, ← EReal.coe_mul]

/-- With a lower bound that is not infinite, the log gate is not infinite. -/
theorem log_fgt_ne_top (l x : EReal) (hl : l ≠ ⊤) : Ideal.log (fgt l x) ≠ ⊤ := by
  obtain ⟨r, hr⟩ := sigm_coe x
  unfold fgt
  rw [hr]
  induction l with
  | top => exact absurd rfl hl
  | bot => rw [EReal.bot_add]; exact bot_ne_top (α := EReal)
  | coe a =>
    rw [← EReal.coe_one, ← EReal.coe_sub, ← EReal.coe_mul, ← EReal.coe_add]
    show (if a + (1 - a) * r ≤ 0 then (⊥ : EReal) else ((Real.log (a + (1 - a) * r) : ℝ) : EReal)) ≠ ⊤
    split
    · simp
    · exact EReal.coe_ne_top _

/-- A softmax entry is not infinite. -/
theorem div_sum_ne_top (a b : EReal) (ha : 0 ≤ a) (hb : 0 ≤ b) (s : EReal) (hs : s = a + b) : Ideal.div a s ≠ ⊤ := by
  subst hs
  unfold Ideal.div
  by_cases h : a + b = 0
  · rw [if_pos h]
    have : ¬ 0 < a := by
      have : a ≤ a + b := le_add_of_nonneg_right hb
      rw [h] at this
      exact not_lt.mpr this
    rw [if_neg this]
    simp
  · rw [if_neg h]
    induction a with
    | bot => exact absurd ha (by simp)
    | top =>
      induction b with
      | bot => exact absurd hb (by simp)
      | top => simp
      | coe b => simp
    | coe a =>
      induction b with
      | bot => exact absurd hb (by simp)
      | top => simp
      | coe b => rw [← EReal.coe_add, ← EReal.coe_inv, ← EReal.coe_mul]; exact EReal.coe_ne_top _

/-- One exponential of the softmax over the layers, its column's maximum taken off. -/
def expo (X : FVec Ideal ⟨2, ![2, 1024]⟩ .f32) (i : Fin 2) (j : Fin 1024) : EReal :=
  Ideal.exp (X (ix2 i j) - max (Ideal.ofBits .f32 0xFF800000#32) (Finset.fold max (Ideal.ofBits .f32 0xFF800000#32) (fun i => X (ix2 i j)) Finset.univ))

/-- The first layer's lower bound of the forget gate: its softmax entry. -/
def bound (X : FVec Ideal ⟨2, ![2, 1024]⟩ .f32) (j : Fin 1024) : EReal := Ideal.div (expo X 0 j) (∑ i, expo X i j)

theorem bound_ne_top (X : FVec Ideal ⟨2, ![2, 1024]⟩ .f32) (j : Fin 1024) : bound X j ≠ ⊤ :=
  div_sum_ne_top (expo X 0 j) (expo X 1 j) (exp_nonneg _) (exp_nonneg _) _ (Fin.sum_univ_two _)

/-- The lower bounds of head `h`, by feature. -/
def lbh (X : FVec Ideal ⟨2, ![2, 1024]⟩ .f32) (h : Fin 8) (d : Fin 128) : EReal := bound X ⟨h.val * 128 + d.val, by omega⟩

/-- Row `s` after row `a` of the projection, feature `d` of head `h` after column `o`. -/
def col {R C : ℕ} (U : FVec Ideal ⟨2, ![R, 11264]⟩ .f32) (a o : ℕ) (ha : a + C ≤ R) (ho : o + 1024 ≤ 11264) (h : Fin 8) (s : Fin C) (d : Fin 128) : EReal :=
  U (ix2 ⟨a + s.val, by omega⟩ ⟨o + (h.val * 128 + d.val), by omega⟩)

/-! ## The running sum by a product with a triangle of ones, in three parts -/

/-- A sum with a term at minus infinity is minus infinity. -/
theorem sum_bot {n : ℕ} (f : Fin n → EReal) (r : Fin n) (h : f r = ⊥) : ∑ i, f i = ⊥ := by
  rw [← Finset.add_sum_erase _ _ (Finset.mem_univ r), h, EReal.bot_add]

/-- A value, its rest and the rest of its rest: the selected values' sum, where none of them is infinite. -/
theorem three_parts {n : ℕ} (p : Fin n → Prop) [DecidablePred p] (g : Fin n → EReal) (hg : ∀ r, g r ≠ ⊤) :
    (∑ r, (if p r then 1 else 0) * g r) + (∑ r, (if p r then 1 else 0) * (g r - g r))
      + (∑ r, (if p r then 1 else 0) * ((g r - g r) - (g r - g r))) = ∑ r, if p r then g r else 0 := by
  have e : ∀ f : Fin n → EReal, (∑ r, (if p r then 1 else 0) * f r) = ∑ r, if p r then f r else 0 := fun f =>
    Finset.sum_congr rfl fun r _ => by split <;> simp
  rw [e, e, e]
  by_cases h : ∃ r, p r ∧ g r = ⊥
  · obtain ⟨r, hp, hr⟩ := h
    rw [sum_bot (fun r => if p r then g r else 0) r (by rw [if_pos hp, hr]), EReal.bot_add, EReal.bot_add]
  · have z : ∀ r, p r → g r - g r = 0 := fun r hp => by
      have hb : g r ≠ ⊥ := fun hb => h ⟨r, hp, hb⟩
      exact EReal.sub_self (hg r) hb
    rw [Finset.sum_eq_zero (f := fun r => if p r then g r - g r else 0) fun r _ => by split; exacts [z r ‹_›, rfl],
      Finset.sum_eq_zero (f := fun r => if p r then g r - g r - (g r - g r) else 0) fun r _ => by
        split; exacts [by rw [z r ‹_›, sub_zero], rfl], add_zero, add_zero]

/-- A sum over more rows than there are is the sum over the rows there are. -/
theorem sum_pad {C N : ℕ} (hC : C ≤ N) (f : Fin N → EReal) (h : ∀ r : Fin N, C ≤ r.val → f r = 0) :
    ∑ r, f r = ∑ r : Fin C, f ⟨r.val, lt_of_lt_of_le r.isLt hC⟩ := by
  obtain ⟨k, rfl⟩ := Nat.exists_eq_add_of_le hC
  rw [Fin.sum_univ_add, Finset.sum_eq_zero (f := fun i => f (Fin.natAdd C i)) fun i _ => h _ (by simp), add_zero]
  rfl

/-- A sum over the rows of a block that only takes rows of one chunk is the sum over that chunk. -/
theorem sum_chunk {J C N : ℕ} (hN : J * C = N) (a : Fin J) (f : Fin N → EReal) (h : ∀ r : Fin N, r.val / C ≠ a.val → f r = 0) :
    ∑ r, f r = ∑ r : Fin C, f ⟨a.val * C + r.val, by
      have := r.isLt; have := a.isLt
      calc a.val * C + r.val < a.val * C + C := by omega
        _ = (a.val + 1) * C := by rw [Nat.add_mul, Nat.one_mul]
        _ ≤ J * C := Nat.mul_le_mul_right _ (by omega)
        _ = N := hN⟩ := by
  subst hN
  rw [← finProdFinEquiv.sum_comp, Fintype.sum_prod_type, Finset.sum_eq_single a]
  · refine Finset.sum_congr rfl fun r _ => congrArg f (Fin.ext ?_)
    show r.val + C * a.val = a.val * C + r.val
    rw [Nat.mul_comm, Nat.add_comm]
  · intro b _ hb
    refine Finset.sum_eq_zero fun r _ => h _ ?_
    show (r.val + C * b.val) / C ≠ a.val
    have hC : 0 < C := lt_of_le_of_lt (Nat.zero_le _) r.isLt
    rw [Nat.add_mul_div_left _ _ hC, Nat.div_eq_of_lt r.isLt, Nat.zero_add]
    exact fun q => hb (Fin.ext q)
  · exact fun h => absurd (Finset.mem_univ _) h

end Cert.Recur

end
-- ==== Proof.HgrnPay.lean ====
module

public import proofs.«01_k».proof.Proof.Recur
public import proofs.«01_k».proof.Proof.Gen.HgrnIdeal.Skeleton
public import Idealize.ShloMosaic.Lib.Pipeline.ValueKit
public import Idealize.ShloMosaic.Lib.Pointwise

@[expose] public section

set_option maxRecDepth 65536

noncomputable section

open Idealize.ShloMosaic Idealize.ShloMosaic.TcCoe Idealize.SL.Sem

namespace Cert.HgrnIdeal.Final

open Cert.HgrnIdeal Cert.HgrnIdeal.Gen Cert.Rows Cert.Recur

/-- The printed mask over a block's 256 rows: one for a row not after another of the same chunk. -/
abbrev tri : FVec Ideal S256x256 .bf16 :=
  k0_pay24 (F := Ideal) (iota .tc S256x256 32 [0] iota_S256x256_d0_w32) (iota .tc S256x256 32 [1] iota_S256x256_d1_w32) 64#32 k0_pay22 k0_pay23
    (Scalar.extui (Scalar.cmpi CmpIPredicate.sgt 64#32 0#32)) 0#32

/-- Row `s` of chunk `a` of a block. -/
abbrev row (a : Fin 4) (s : Fin 64) : Fin 256 := ⟨a.val * 64 + s.val, by omega⟩

/-- The printed number of the chunk a row is in. -/
def chunkNo (i : BitVec 32) : BitVec 32 :=
  Scalar.select
    (IntOp.andi
      (IntOp.cmpi CmpIPredicate.ne
        (IntOp.subi (BitVec.setWidth 32 (IntOp.cmpi CmpIPredicate.sgt i 0#32)) (BitVec.setWidth 32 (IntOp.cmpi CmpIPredicate.slt i 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector i 64#32) 0#32))
    (IntOp.subi (IntOp.divsi ArithUnit.vector i 64#32) 1#32)
    (IntOp.divsi ArithUnit.vector i 64#32)

theorem chunkNo_at : ∀ r : Fin 256, chunkNo (BitVec.ofNat 32 r.val) = BitVec.ofNat 32 (r.val / 64) := by decide +kernel

theorem eq_at : ∀ a b : Fin 4, IntOp.cmpi CmpIPredicate.eq (BitVec.ofNat 32 a.val) (BitVec.ofNat 32 b.val) = if a = b then 1#1 else 0#1 := by decide +kernel

theorem le_at64 : ∀ s r : Fin 64, IntOp.cmpi CmpIPredicate.sle (BitVec.ofNat 32 r.val) (BitVec.ofNat 32 s.val) = if r ≤ s then 1#1 else 0#1 := by decide +kernel

theorem le_at256 : ∀ s r : Fin 256, IntOp.cmpi CmpIPredicate.sle (BitVec.ofNat 32 r.val) (BitVec.ofNat 32 s.val) = if r ≤ s then 1#1 else 0#1 := by decide +kernel

theorem causal_at (s r : Fin 64) : k0_pay33 (ix2 s r) = if r ≤ s then 1#1 else 0#1 := by
  refine Eq.trans ?_ (le_at64 s r)
  pointwise [k0_pay33]

theorem tri_at (s r : Fin 256) : tri (ix2 s r) = if r.val / 64 = s.val / 64 ∧ r ≤ s then 1 else 0 := by
  have e : tri (ix2 s r) = Scalar.select (IntOp.andi (IntOp.cmpi CmpIPredicate.eq (chunkNo (BitVec.ofNat 32 s.val)) (chunkNo (BitVec.ofNat 32 r.val)))
      (IntOp.cmpi CmpIPredicate.sle (BitVec.ofNat 32 r.val) (BitVec.ofNat 32 s.val))) (1 : EReal) 0 := by
    pointwise! [k0_pay24, k0_pay22, k0_pay23]
  rw [e, chunkNo_at, chunkNo_at, le_at256, eq_at ⟨s.val / 64, by omega⟩ ⟨r.val / 64, by omega⟩]
  by_cases h : r.val / 64 = s.val / 64
  · rw [if_pos (Fin.ext h.symm)]
    by_cases h' : r ≤ s
    · rw [if_pos h', if_pos ⟨h, h'⟩]; rfl
    · rw [if_neg h', if_neg fun q => h' q.2]; rfl
  · rw [if_neg (show ¬ (⟨s.val / 64, _⟩ : Fin 4) = ⟨r.val / 64, _⟩ from fun q => h (Fin.val_eq_of_eq q).symm), if_neg (show ¬ (r.val / 64 = s.val / 64 ∧ r ≤ s) from fun q => h q.1)]
    by_cases h' : r ≤ s
    · rw [if_pos h']; rfl
    · rw [if_neg h']; rfl

/-- The forget gates, their logs and what they leave for the keys. -/
theorem gate_at (b : FVec Ideal S1x1024 .f32) (x : FVec Ideal S256x1024 .f32) (s : Fin 256) (j : Fin 1024) :
    k0_pay19 (F := Ideal) b x (ix2 s j) = fgt (b (ix2 0 j)) (x (ix2 s j)) := by
  pointwise! [k0_pay19, fgt]
  simp only [sigm_sub]

theorem logs_at (b : FVec Ideal S1x1024 .f32) (x : FVec Ideal S256x1024 .f32) (s : Fin 256) (j : Fin 1024) :
    k0_pay20 (F := Ideal) b x (ix2 s j) = Ideal.log (fgt (b (ix2 0 j)) (x (ix2 s j))) := by
  rw [← gate_at]
  pointwise! [k0_pay20]

theorem keys_at (b : FVec Ideal S1x1024 .f32) (x : FVec Ideal S256x1024 .f32) (s : Fin 256) (j : Fin 1024) :
    k0_pay21 (F := Ideal) b x (ix2 s j) = 1 - fgt (b (ix2 0 j)) (x (ix2 s j)) := by
  rw [← gate_at]
  pointwise! [k0_pay21]

/-- The running sums of a block's log gates, chunk by chunk. -/
abbrev run (L : FVec Ideal S256x1024 .f32) : FVec Ideal S256x1024 .f32 :=
  k0_pay29 (F := Ideal) tri (k0_pay25 (F := Ideal) L) (k0_pay26 (F := Ideal) L) (k0_pay27 (F := Ideal) L) (k0_pay28 (F := Ideal) L)

theorem run_at (L : FVec Ideal S256x1024 .f32) (j : Fin 1024) (hL : ∀ r, L (ix2 r j) ≠ ⊤) (a : Fin 4) (s : Fin 64) :
    run L (ix2 (row a s) j) = cum (fun r => L (ix2 (row a r) j)) s := by
  have e : run L (ix2 (row a s) j) = ∑ r : Fin 256, if r.val / 64 = (row a s).val / 64 ∧ r ≤ row a s then L (ix2 r j) else 0 := by
    rw [← three_parts (fun r : Fin 256 => r.val / 64 = (row a s).val / 64 ∧ r ≤ row a s) (fun r => L (ix2 r j)) hL]
    pointwise! [k0_pay29, k0_pay25, k0_pay26, k0_pay27, k0_pay28]
    simp only [tri_at]
  have ha : (row a s).val / 64 = a.val := by show (a.val * 64 + s.val) / 64 = a.val; omega
  rw [e, sum_chunk (J := 4) (C := 64) (N := 256) rfl a _ fun r hr => if_neg fun q => hr (q.1.trans ha)]
  unfold cum
  refine Finset.sum_congr rfl fun r _ => if_congr ⟨fun q => ?_, fun q => ⟨?_, ?_⟩⟩ rfl rfl
  · have : a.val * 64 + r.val ≤ a.val * 64 + s.val := q.2
    exact Fin.le_def.mpr (by omega)
  · rw [ha]; show (a.val * 64 + r.val) / 64 = a.val; omega
  · have : r.val ≤ s.val := q
    exact Fin.le_def.mpr (show a.val * 64 + r.val ≤ a.val * 64 + s.val by omega)

/-- The log gates of a block, and the rows of one chunk of them. -/
theorem sum_at (b : FVec Ideal S1x1024 .f32) (x : FVec Ideal S256x1024 .f32) (j : Fin 1024) (hb : b (ix2 0 j) ≠ ⊤) (a : Fin 4) (s : Fin 64) :
    run (k0_pay20 (F := Ideal) b x) (ix2 (row a s) j) = cum (fun r => Ideal.log (fgt (b (ix2 0 j)) (x (ix2 (row a r) j)))) s := by
  rw [run_at _ j (fun r => by rw [logs_at]; exact log_fgt_ne_top _ _ hb)]
  simp only [logs_at]

/-- The scaled queries and keys of a block, and its values. -/
abbrev sq (b : FVec Ideal S1x1024 .f32) (x q : FVec Ideal S256x1024 .f32) : FVec Ideal S256x1024 .bf16 :=
  k0_pay30 (F := Ideal) q tri (k0_pay25 (F := Ideal) (k0_pay20 (F := Ideal) b x)) (k0_pay26 (F := Ideal) (k0_pay20 (F := Ideal) b x)) (k0_pay27 (F := Ideal) (k0_pay20 (F := Ideal) b x)) (k0_pay28 (F := Ideal) (k0_pay20 (F := Ideal) b x))
abbrev sk (b : FVec Ideal S1x1024 .f32) (x : FVec Ideal S256x1024 .f32) : FVec Ideal S256x1024 .bf16 :=
  k0_pay31 (F := Ideal) (k0_pay21 (F := Ideal) b x) tri (k0_pay25 (F := Ideal) (k0_pay20 (F := Ideal) b x)) (k0_pay26 (F := Ideal) (k0_pay20 (F := Ideal) b x)) (k0_pay27 (F := Ideal) (k0_pay20 (F := Ideal) b x)) (k0_pay28 (F := Ideal) (k0_pay20 (F := Ideal) b x))

theorem sq_at (b : FVec Ideal S1x1024 .f32) (x q : FVec Ideal S256x1024 .f32) (j : Fin 1024) (hb : b (ix2 0 j) ≠ ⊤) (a : Fin 4) (s : Fin 64) :
    sq b x q (ix2 (row a s) j) = q (ix2 (row a s) j) * Ideal.exp (cum (fun r => Ideal.log (fgt (b (ix2 0 j)) (x (ix2 (row a r) j)))) s) := by
  rw [← sum_at b x j hb]
  pointwise! [k0_pay30]

theorem sk_at (b : FVec Ideal S1x1024 .f32) (x : FVec Ideal S256x1024 .f32) (j : Fin 1024) (hb : b (ix2 0 j) ≠ ⊤) (a : Fin 4) (s : Fin 64) :
    sk b x (ix2 (row a s) j) = (1 - fgt (b (ix2 0 j)) (x (ix2 (row a s) j))) * Ideal.exp (-cum (fun r => Ideal.log (fgt (b (ix2 0 j)) (x (ix2 (row a r) j)))) s) := by
  rw [← sum_at b x j hb, ← keys_at, ← zero_sub]
  pointwise! [k0_pay31]

theorem values_at (v : FVec Ideal S256x1024 .f32) (s : Fin 256) (j : Fin 1024) : k0_pay32 (F := Ideal) v (ix2 s j) = v (ix2 s j) := by
  pointwise [k0_pay32]

/-- The running sums of the 64 rows after row `lo`, the keys decayed to the end of those rows, and the whole decay over them. -/
def rows (lo : ℕ) (h : S256x1024.Slices ![lo, 0] S64x1024) (G : FVec Ideal S256x1024 .f32) : FVec Ideal S64x1024 .f32 := extractStridedSlice S64x1024 ![lo, 0] G h
def last (lo : ℕ) (h : S256x1024.Slices ![lo, 0] S64x1024) (G : FVec Ideal S256x1024 .f32) : FVec Ideal S1x1024 .f32 :=
  extractStridedSlice S1x1024 ![63, 0] (rows lo h G) slices_S64x1024_o63_0_S1x1024
def decayed (lo : ℕ) (h : S256x1024.Slices ![lo, 0] S64x1024) (K G : FVec Ideal S256x1024 .f32) : FVec Ideal S64x1024 .bf16 :=
  truncf .bf16 (mulf (extractStridedSlice S64x1024 ![lo, 0] K h) (exp (subf (broadcastTo S64x1024 (last lo h G) broadcasts_S1x1024_S64x1024) (rows lo h G)))) bitsLt_bf16_f32
def decay (lo : ℕ) (h : S256x1024.Slices ![lo, 0] S64x1024) (G : FVec Ideal S256x1024 .f32) : FVec Ideal S1x1024 .f32 := exp (last lo h G)

theorem decayed_at (lo : ℕ) (h : S256x1024.Slices ![lo, 0] S64x1024) (hlo : lo + 64 ≤ 256) (K G : FVec Ideal S256x1024 .f32) (s : Fin 64) (j : Fin 1024) :
    decayed lo h K G (ix2 s j) = K (ix2 ⟨lo + s.val, by omega⟩ j) * Ideal.exp (G (ix2 ⟨lo + 63, by omega⟩ j) - G (ix2 ⟨lo + s.val, by omega⟩ j)) := by
  pointwise! [decayed, last, rows]

theorem decay_at (lo : ℕ) (h : S256x1024.Slices ![lo, 0] S64x1024) (hlo : lo + 64 ≤ 256) (G : FVec Ideal S256x1024 .f32) (j : Fin 1024) :
    decay lo h G (ix2 0 j) = Ideal.exp (G (ix2 ⟨lo + 63, by omega⟩ j)) := by
  pointwise! [decay, last, rows]

/-- A head's part of a chunk: the rows after `lo` and the columns after `o`. -/
abbrev part (lo o : ℕ) (h : S256x1024.Slices ![lo, o] S64x128) (x : FVec Ideal S256x1024 .bf16) : FVec Ideal S64x128 .bf16 := extractStridedSlice S64x128 ![lo, o] x h

/-- A head's state after a chunk, stored transposed. -/
def headNext (lo o : ℕ) (h1 : S256x1024.Slices ![lo, o] S64x128) (h2 : S1x1024.Slices ![0, o] S1x128) (h3 : S64x1024.Slices ![0, o] S64x128) (kd : FVec Ideal S64x1024 .bf16) (dc : FVec Ideal S1x1024 .f32)
    (vb : FVec Ideal S256x1024 .bf16) (st : FVec Ideal S1x128x128 .f32) : FVec Ideal S1x128x128 .f32 :=
  shapeCast S1x128x128 (addf (mulf (shapeCast S128x128 st shapeCasts_S1x128x128_S128x128) (broadcastTo S128x128 (extractStridedSlice S1x128 ![0, o] dc h2) broadcasts_S1x128_S128x128))
    (matmul dot_S64x128_S64x128_S128x128_0_0_1_1_n_n none (part lo o h1 vb) (extractStridedSlice S64x128 ![0, o] kd h3) (constant S128x128 .f32 0x00000000#32))) shapeCasts_S128x128_S1x128x128

theorem headNext_at (lo o : ℕ) (h1 : S256x1024.Slices ![lo, o] S64x128) (h2 : S1x1024.Slices ![0, o] S1x128) (h3 : S64x1024.Slices ![0, o] S64x128) (hlo : lo + 64 ≤ 256) (ho : o + 128 ≤ 1024)
    (kd : FVec Ideal S64x1024 .bf16) (dc : FVec Ideal S1x1024 .f32) (vb : FVec Ideal S256x1024 .bf16) (st : FVec Ideal S1x128x128 .f32) (e d : Fin 128) :
    headNext lo o h1 h2 h3 kd dc vb st (ix3 0 e d)
      = st (ix3 0 e d) * dc (ix2 0 ⟨o + d.val, by omega⟩) + ∑ r : Fin 64, vb (ix2 ⟨lo + r.val, by omega⟩ ⟨o + e.val, by omega⟩) * kd (ix2 r ⟨o + d.val, by omega⟩) := by
  pointwise! [headNext]

/-- A head's masked scores. -/
def headScores (lo o : ℕ) (h1 : S256x1024.Slices ![lo, o] S64x128) (qg kg : FVec Ideal S256x1024 .bf16) : FVec Ideal S64x64 .bf16 :=
  truncf .bf16 (select k0_pay33 (matmul dot_S64x128_S64x128_S64x64_1_1_0_0_n_n none (part lo o h1 qg) (part lo o h1 kg) (constant S64x64 .f32 0x00000000#32))
    (broadcast S64x64 (Scalar.ofBits .f32 0x00000000#32 : Ideal .f32))) bitsLt_bf16_f32

theorem headScores_at (lo o : ℕ) (h1 : S256x1024.Slices ![lo, o] S64x128) (hlo : lo + 64 ≤ 256) (ho : o + 128 ≤ 1024) (qg kg : FVec Ideal S256x1024 .bf16) (s r : Fin 64) :
    headScores lo o h1 qg kg (ix2 s r) = if r ≤ s then ∑ d : Fin 128, qg (ix2 ⟨lo + s.val, by omega⟩ ⟨o + d.val, by omega⟩) * kg (ix2 ⟨lo + r.val, by omega⟩ ⟨o + d.val, by omega⟩) else 0 := by
  pointwise! [headScores]
  rw [causal_at]
  by_cases h : r ≤ s
  · rw [if_pos h, if_pos h]; rfl
  · rw [if_neg h, if_neg h]; rfl

/-- A head's output rows. -/
def headOut (lo o : ℕ) (h1 : S256x1024.Slices ![lo, o] S64x128) (qg kg vb : FVec Ideal S256x1024 .bf16) (st : FVec Ideal S1x128x128 .f32) : FVec Ideal S64x128 .f32 :=
  addf (matmul dot_S64x64_S64x128_S64x128_1_0_0_1_n_n none (headScores lo o h1 qg kg) (part lo o h1 vb) (constant S64x128 .f32 0x00000000#32))
    (matmul dot_S64x128_S128x128_S64x128_1_1_0_0_n_n none (part lo o h1 qg) (truncf .bf16 (shapeCast S128x128 st shapeCasts_S1x128x128_S128x128) bitsLt_bf16_f32) (constant S64x128 .f32 0x00000000#32))

theorem headOut_at (lo o : ℕ) (h1 : S256x1024.Slices ![lo, o] S64x128) (hlo : lo + 64 ≤ 256) (ho : o + 128 ≤ 1024) (qg kg vb : FVec Ideal S256x1024 .bf16) (st : FVec Ideal S1x128x128 .f32) (s : Fin 64) (e : Fin 128) :
    headOut lo o h1 qg kg vb st (ix2 s e)
      = (∑ r, headScores lo o h1 qg kg (ix2 s r) * vb (ix2 ⟨lo + r.val, by omega⟩ ⟨o + e.val, by omega⟩)) + ∑ d, qg (ix2 ⟨lo + s.val, by omega⟩ ⟨o + d.val, by omega⟩) * st (ix3 0 e d) := by
  pointwise! [headOut]

/-- The norm of a head's output rows, gated. -/
def headRes (w : FVec Ideal S1x128 .f32) (x g : FVec Ideal S64x128 .f32) : FVec Ideal S64x128 .bf16 :=
  truncf .bf16 (mulf (mulf (mulf x (broadcastTo S64x128 (rsqrt (addf (divf (shapeCast S64x1 (multiReduction .add [1] S64 (mulf x x) 0x00000000#32 reduces_S64x128_S64 (.inl rfl) rfl) shapeCasts_S64_S64x1)
      (broadcast S64x1 (Scalar.ofBits .f32 0x43000000#32 : Ideal .f32))) (broadcast S64x1 (Scalar.ofBits .f32 0x358637BD#32 : Ideal .f32)))) broadcasts_S64x1_S64x128))
    (broadcastTo S64x128 (shapeCast S1x128 w shapeCasts_S1x128_S1x128) broadcasts_S1x128_S64x128))
    (mulf g (divf (broadcast S64x128 (Scalar.ofBits .f32 0x3F800000#32 : Ideal .f32)) (addf (broadcast S64x128 (Scalar.ofBits .f32 0x3F800000#32 : Ideal .f32)) (exp (subf (broadcast S64x128 (Scalar.ofBits .f32 0x00000000#32 : Ideal .f32)) g)))))) bitsLt_bf16_f32

theorem headRes_at (w : FVec Ideal S1x128 .f32) (x g : FVec Ideal S64x128 .f32) (s : Fin 64) (e : Fin 128) :
    headRes w x g (ix2 s e) = res (fun s e => x (ix2 s e)) (fun e => w (ix2 0 e)) (fun s e => g (ix2 s e)) s e := by
  pointwise! [headRes, res, rmsEntry]
  simp only [sigm_sub]

/-- A head's state after chunk `a` of a block. -/
theorem headNext_next (a : Fin 4) (lo o : ℕ) (hl : lo = a.val * 64) (h0 : S256x1024.Slices ![lo, 0] S64x1024) (h1 : S256x1024.Slices ![lo, o] S64x128) (h2 : S1x1024.Slices ![0, o] S1x128) (h3 : S64x1024.Slices ![0, o] S64x128)
    (ho : o + 128 ≤ 1024) (b : FVec Ideal S1x1024 .f32) (x v : FVec Ideal S256x1024 .f32) (st : FVec Ideal S1x128x128 .f32)
    (l : Fin 128 → EReal) (x' v' : Fin 64 → Fin 128 → EReal) (S : Fin 128 → Fin 128 → EReal) (hlt : ∀ d, l d ≠ ⊤)
    (hb : ∀ d : Fin 128, b (ix2 0 ⟨o + d.val, by omega⟩) = l d) (hx : ∀ s (d : Fin 128), x (ix2 (row a s) ⟨o + d.val, by omega⟩) = x' s d)
    (hv : ∀ s (d : Fin 128), v (ix2 (row a s) ⟨o + d.val, by omega⟩) = v' s d) (hS : ∀ d e, st (ix3 0 e d) = S d e) (d e : Fin 128) :
    headNext lo o h1 h2 h3 (decayed lo h0 (k0_pay21 (F := Ideal) b x) (run (k0_pay20 (F := Ideal) b x))) (decay lo h0 (run (k0_pay20 (F := Ideal) b x))) (k0_pay32 (F := Ideal) v) st (ix3 0 e d)
      = next l x' v' S d e := by
  subst hl
  have hb' : ∀ d : Fin 128, b (ix2 0 ⟨o + d.val, by omega⟩) ≠ ⊤ := fun d => (hb d) ▸ hlt d
  have tot : ∀ d : Fin 128, run (k0_pay20 (F := Ideal) b x) (ix2 ⟨a.val * 64 + 63, by omega⟩ ⟨o + d.val, by omega⟩) = ∑ r, lg l x' d r := fun d => by
    refine (sum_at b x _ (hb' d) a 63).trans ((cum_last _ 63 rfl).trans ?_)
    simp only [hb, hx]
    rfl
  rw [headNext_at _ _ _ _ _ (by omega) ho, decay_at _ _ (by omega), tot]
  unfold next
  refine congrArg₂ (· + ·) ?_ (Finset.sum_congr rfl fun r _ => ?_)
  · rw [mul_comm, hS]
  · rw [decayed_at _ _ (by omega), tot, values_at, keys_at, mul_comm, sum_at b x _ (hb' d) a r]
    simp only [hb, hx, hv]
    rfl

/-- A head's result of chunk `a` of a block. -/
theorem headRes_res (a : Fin 4) (lo o : ℕ) (hl : lo = a.val * 64) (h1 : S256x1024.Slices ![lo, o] S64x128) (ho : o + 128 ≤ 1024)
    (b : FVec Ideal S1x1024 .f32) (q x v : FVec Ideal S256x1024 .f32) (st : FVec Ideal S1x128x128 .f32) (w : FVec Ideal S1x128 .f32) (g : FVec Ideal S64x128 .f32)
    (l : Fin 128 → EReal) (q' x' v' g' : Fin 64 → Fin 128 → EReal) (S : Fin 128 → Fin 128 → EReal) (w' : Fin 128 → EReal) (hlt : ∀ d, l d ≠ ⊤)
    (hb : ∀ d : Fin 128, b (ix2 0 ⟨o + d.val, by omega⟩) = l d) (hq : ∀ s (d : Fin 128), q (ix2 (row a s) ⟨o + d.val, by omega⟩) = q' s d)
    (hx : ∀ s (d : Fin 128), x (ix2 (row a s) ⟨o + d.val, by omega⟩) = x' s d)
    (hv : ∀ s (d : Fin 128), v (ix2 (row a s) ⟨o + d.val, by omega⟩) = v' s d) (hS : ∀ d e, st (ix3 0 e d) = S d e)
    (hw : ∀ e, w (ix2 0 e) = w' e) (hg : ∀ s e, g (ix2 s e) = g' s e) (s : Fin 64) (e : Fin 128) :
    headRes w (headOut lo o h1 (sq b x q) (sk b x) (k0_pay32 (F := Ideal) v) st) g (ix2 s e) = res (out l q' x' v' S) w' g' s e := by
  subst hl
  have hb' : ∀ d : Fin 128, b (ix2 0 ⟨o + d.val, by omega⟩) ≠ ⊤ := fun d => (hb d) ▸ hlt d
  rw [headRes_at]
  simp only [hw, hg]
  refine congrArg (fun z => res z w' g' s e) (funext fun s => funext fun e => ?_)
  rw [headOut_at _ _ _ (by omega) ho]
  unfold out
  refine congrArg₂ (· + ·) (Finset.sum_congr rfl fun r _ => ?_) (Finset.sum_congr rfl fun d _ => ?_)
  · rw [values_at, headScores_at _ _ _ (by omega) ho, hv]
    refine congrArg (· * _) (if_congr Iff.rfl (Finset.sum_congr rfl fun d _ => ?_) rfl)
    rw [sq_at b x q _ (hb' d), sk_at b x _ (hb' d)]
    simp only [hb, hx, hq]
    rfl
  · rw [sq_at b x q _ (hb' d)]
    simp only [hb, hx, hq, hS]
    rfl

end Cert.HgrnIdeal.Final

end
-- ==== Proof.HgrnBlock.lean ====
module

public import proofs.«01_k».proof.Proof.HgrnPay

@[expose] public section

set_option maxRecDepth 65536

noncomputable section

open Idealize.ShloMosaic Idealize.ShloMosaic.TcCoe Idealize.SL.Sem

namespace Cert.HgrnIdeal.Final

open Cert.HgrnIdeal Cert.HgrnIdeal.Gen Cert.Rows Cert.Recur

/-! ## A block of four chunks, from whatever its inputs are -/

/-- The rows of chunk `k` of a block, by feature of head `h`. -/
def sub (X : FVec Ideal S256x1024 .f32) (h : Fin 8) (k : ℕ) (s : Fin 64) (d : Fin 128) : EReal := X (ix2 (row ⟨k % 4, Nat.mod_lt _ (by decide)⟩ s) ⟨h.val * 128 + d.val, by omega⟩)

/-- The lower bounds of head `h`. -/
def low (b : FVec Ideal S1x1024 .f32) (h : Fin 8) (d : Fin 128) : EReal := b (ix2 0 ⟨h.val * 128 + d.val, by omega⟩)

/-- The state of head `h` before chunk `k` of a block that starts from the scratch `T`. -/
def stateBlk (b : FVec Ideal S1x1024 .f32) (f v : FVec Ideal S256x1024 .f32) (T : FVec Ideal S8x128x128 .f32) (h : Fin 8) : ℕ → Fin 128 → Fin 128 → EReal
  | 0 => fun d e => T (ix3 h e d)
  | k + 1 => next (low b h) (sub f h k) (sub v h k) (stateBlk b f v T h k)

/-- The result of row `s` of chunk `k` of a block. -/
def resBlk (b : FVec Ideal S1x1024 .f32) (q f v g : FVec Ideal S256x1024 .f32) (w : FVec Ideal S1x128 .f32) (T : FVec Ideal S8x128x128 .f32) (h : Fin 8) (k : ℕ) (s : Fin 64) (e : Fin 128) : EReal :=
  res (out (low b h) (sub q h k) (sub f h k) (sub v h k) (stateBlk b f v T h k)) (fun e => w (ix2 0 e)) (sub g h k) s e

/-- The head of the columns after `o`. -/
abbrev hd (o : ℕ) (ho : o < 1024) : Fin 8 := ⟨o / 128, by omega⟩

theorem sub_at (X : FVec Ideal S256x1024 .f32) (lo o : ℕ) (hl : lo < 256) (hl' : lo % 64 = 0) (ho : o < 1024) (ho' : o % 128 = 0) (s : Fin 64) (d : Fin 128) :
    X (ix2 (row ⟨lo / 64, by omega⟩ s) ⟨o + d.val, by omega⟩) = sub X (hd o ho) (lo / 64) s d := by
  unfold sub
  refine congrArg X (congrArg₂ ix2 (Fin.ext ?_) (Fin.ext ?_))
  · show lo / 64 * 64 + s.val = lo / 64 % 4 * 64 + s.val; omega
  · show o + d.val = o / 128 * 128 + d.val; omega

theorem low_at (b : FVec Ideal S1x1024 .f32) (o : ℕ) (ho : o < 1024) (ho' : o % 128 = 0) (d : Fin 128) : b (ix2 0 ⟨o + d.val, by omega⟩) = low b (hd o ho) d := by
  unfold low
  refine congrArg b (congrArg₂ ix2 rfl (Fin.ext ?_))
  show o + d.val = o / 128 * 128 + d.val; omega

/-- One head's step over the chunk of the rows after `lo`. -/
theorem step (b : FVec Ideal S1x1024 .f32) (f v : FVec Ideal S256x1024 .f32) (T : FVec Ideal S8x128x128 .f32) (hb : ∀ j, b (ix2 0 j) ≠ ⊤) {lo o : ℕ}
    {p st : FVec Ideal S1x128x128 .f32}
    (h0 : S256x1024.Slices ![lo, 0] S64x1024) (h1 : S256x1024.Slices ![lo, o] S64x128) (h2 : S1x1024.Slices ![0, o] S1x128) (h3 : S64x1024.Slices ![0, o] S64x128)
    (hp : p = headNext lo o h1 h2 h3 (decayed lo h0 (k0_pay21 (F := Ideal) b f) (run (k0_pay20 (F := Ideal) b f))) (decay lo h0 (run (k0_pay20 (F := Ideal) b f))) (k0_pay32 (F := Ideal) v) st)
    (ho : o < 1024) (ho' : o % 128 = 0) (hl : lo < 256) (hl' : lo % 64 = 0)
    (hS : ∀ d e, st (ix3 0 e d) = stateBlk b f v T (hd o ho) (lo / 64) d e) (d e : Fin 128) : p (ix3 0 e d) = stateBlk b f v T (hd o ho) (lo / 64 + 1) d e := by
  subst hp
  exact headNext_next ⟨lo / 64, by omega⟩ lo o (by show lo = lo / 64 * 64; omega) h0 h1 h2 h3 (by omega) b f v st _ _ _ _ (fun d => by unfold low; exact hb _)
    (fun d => low_at b o ho ho' d) (fun s d => sub_at f lo o hl hl' ho ho' s d) (fun s d => sub_at v lo o hl hl' ho ho' s d) hS d e

/-- One head's results over the chunk of the rows after `lo`, at the block's index. -/
theorem res_point (b : FVec Ideal S1x1024 .f32) (q f v g : FVec Ideal S256x1024 .f32) (w : FVec Ideal S1x128 .f32) (T : FVec Ideal S8x128x128 .f32) (hb : ∀ j, b (ix2 0 j) ≠ ⊤) {lo o : ℕ}
    {p : FVec Ideal S64x128 .bf16} {st : FVec Ideal S1x128x128 .f32} {r : FVec Ideal S64x128 .f32} (h1 : S256x1024.Slices ![lo, o] S64x128)
    (hp : p = headRes w (headOut lo o h1 (sq b f q) (sk b f) (k0_pay32 (F := Ideal) v) st) r)
    (ho : o < 1024) (ho' : o % 128 = 0) (hl : lo < 256) (hl' : lo % 64 = 0)
    (hr : ∀ s e, r (ix2 s e) = g (ix2 ⟨lo + s.val, by omega⟩ ⟨o + e.val, by omega⟩))
    (hS : ∀ d e, st (ix3 0 e d) = stateBlk b f v T (hd o ho) (lo / 64) d e)
    (x : S64x128.Idx) (y : S256x1024.Idx) (y0 : (y 0).val = lo + (x 0).val) (y1 : (y 1).val = o + (x 1).val) :
    p x = resBlk b q f v g w T ⟨(y 1).val / 128, by have : (y 1).val < 1024 := (y 1).isLt; omega⟩ ((y 0).val / 64) ⟨(y 0).val % 64, Nat.mod_lt _ (by decide)⟩ ⟨(y 1).val % 128, Nat.mod_lt _ (by decide)⟩ := by
  subst hp
  have l0 : (x 0).val < 64 := (x 0).isLt
  have l1 : (x 1).val < 128 := (x 1).isLt
  have e1 : (⟨(y 1).val / 128, by have : (y 1).val < 1024 := (y 1).isLt; omega⟩ : Fin 8) = hd o ho := Fin.ext (show (y 1).val / 128 = o / 128 by omega)
  have e2 : (⟨(y 1).val % 128, Nat.mod_lt _ (by decide)⟩ : Fin 128) = x 1 := Fin.ext (show (y 1).val % 128 = (x 1).val by omega)
  have e3 : (⟨(y 0).val % 64, Nat.mod_lt _ (by decide)⟩ : Fin 64) = x 0 := Fin.ext (show (y 0).val % 64 = (x 0).val by omega)
  have e0 : (y 0).val / 64 = lo / 64 := by omega
  rw [e1, e2, e3, e0, eq_ix2 x]
  unfold resBlk
  exact headRes_res ⟨lo / 64, by omega⟩ lo o (by show lo = lo / 64 * 64; omega) h1 (by omega) b q f v st w r _ _ _ _ _ _ _ (fun d => by unfold low; exact hb _)
    (fun d => low_at b o ho ho' d) (fun s d => sub_at q lo o hl hl' ho ho' s d) (fun s d => sub_at f lo o hl hl' ho ho' s d) (fun s d => sub_at v lo o hl hl' ho ho' s d) hS (fun e => rfl)
    (fun s e => (hr s e).trans (Eq.trans (congrArg g (congrArg₂ ix2 (Fin.ext (show lo + s.val = lo / 64 * 64 + s.val by omega)) rfl)) (sub_at g lo o hl hl' ho ho' s e))) _ _

/-- One head's state at the end of the block, at the scratch's index. -/
theorem scr_point (b : FVec Ideal S1x1024 .f32) (f v : FVec Ideal S256x1024 .f32) (T : FVec Ideal S8x128x128 .f32) (hb : ∀ j, b (ix2 0 j) ≠ ⊤) {lo o : ℕ}
    {p st : FVec Ideal S1x128x128 .f32}
    (h0 : S256x1024.Slices ![lo, 0] S64x1024) (h1 : S256x1024.Slices ![lo, o] S64x128) (h2 : S1x1024.Slices ![0, o] S1x128) (h3 : S64x1024.Slices ![0, o] S64x128)
    (hp : p = headNext lo o h1 h2 h3 (decayed lo h0 (k0_pay21 (F := Ideal) b f) (run (k0_pay20 (F := Ideal) b f))) (decay lo h0 (run (k0_pay20 (F := Ideal) b f))) (k0_pay32 (F := Ideal) v) st)
    (ho : o < 1024) (ho' : o % 128 = 0) (hl : lo = 192)
    (hS : ∀ d e, st (ix3 0 e d) = stateBlk b f v T (hd o ho) 3 d e) (x : S1x128x128.Idx) (i : S8x128x128.Idx) (i0 : (i 0).val = o / 128 + (x 0).val) (i1 : (i 1).val = (x 1).val) (i2 : (i 2).val = (x 2).val) :
    p x = stateBlk b f v T (i 0) 4 (i 2) (i 1) := by
  subst hl
  have l0 : (x 0).val < 1 := (x 0).isLt
  have e0 : i 0 = hd o ho := Fin.ext (show (i 0).val = o / 128 by omega)
  have e1 : i 1 = x 1 := Fin.ext i1
  have e2 : i 2 = x 2 := Fin.ext i2
  rw [e0, e1, e2, eq_ix3 x]
  refine Eq.trans (congrArg p (congrArg (fun z => ix3 z _ _) (Fin.ext (show (x 0).val = 0 by omega)))) (step b f v T hb h0 h1 h2 h3 hp ho ho' (by decide) (by decide) hS (x 2) (x 1))

/-- One head's state at the end of the block, transposed back, at the state block's index. -/
theorem state_point (b : FVec Ideal S1x1024 .f32) (f v : FVec Ideal S256x1024 .f32) (T : FVec Ideal S8x128x128 .f32) (hb : ∀ j, b (ix2 0 j) ≠ ⊤) {lo o : ℕ}
    {p : FVec Ideal S1x1x128x128 .f32} {st : FVec Ideal S1x128x128 .f32}
    (h0 : S256x1024.Slices ![lo, 0] S64x1024) (h1 : S256x1024.Slices ![lo, o] S64x128) (h2 : S1x1024.Slices ![0, o] S1x128) (h3 : S64x1024.Slices ![0, o] S64x128)
    (hp : p = k0_pay2 (F := Ideal) (headNext lo o h1 h2 h3 (decayed lo h0 (k0_pay21 (F := Ideal) b f) (run (k0_pay20 (F := Ideal) b f))) (decay lo h0 (run (k0_pay20 (F := Ideal) b f))) (k0_pay32 (F := Ideal) v) st))
    (ho : o < 1024) (ho' : o % 128 = 0) (hl : lo = 192)
    (hS : ∀ d e, st (ix3 0 e d) = stateBlk b f v T (hd o ho) 3 d e) (x : S1x1x128x128.Idx) (y : S1x8x128x128.Idx) (y1 : (y 1).val = o / 128 + (x 1).val) (y2 : (y 2).val = (x 2).val) (y3 : (y 3).val = (x 3).val) :
    p x = stateBlk b f v T (y 1) 4 (y 2) (y 3) := by
  subst hl hp
  have l1 : (x 1).val < 1 := (x 1).isLt
  have e1 : y 1 = hd o ho := Fin.ext (show (y 1).val = o / 128 by omega)
  have e2 : y 2 = x 2 := Fin.ext y2
  have e3 : y 3 = x 3 := Fin.ext y3
  rw [e1, e2, e3, eq_ix4 x]
  refine Eq.trans ?_ (step b f v T hb h0 h1 h2 h3 rfl ho ho' (by decide) (by decide) hS (x 2) (x 3))
  pointwise! [k0_pay2]

end Cert.HgrnIdeal.Final

end
-- ==== Proof.HgrnPoint.lean ====
module

public import proofs.«01_k».proof.Proof.HgrnBlock
public import proofs.«01_k».proof.Proof.Gen.HgrnIdeal.Frame
public import Idealize.ShloMosaic.Lib.Pipeline.ReadBack
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.HgrnIdeal.Final

open Cert.HgrnIdeal Cert.HgrnIdeal.Gen Cert.Rows Cert.Recur

variable (m : (ℓ : Loc nD τ sig) → Buf (Elt Ideal) ℓ)

/-! ## The three cases of a point: what it leaves, from its blocks and the scratch before it -/

set_option maxHeartbeats 2000000 in
/-- A block of the result at the first point of a batch: the scratch is cleared there, so the states start at zero. -/
theorem out_A (c : Dev nD) (t : Fin cfg0.N) (p0 : t.val % 8 = 0) (p1 : ¬t.val % 8 = 7) (fin : ∀ j, iblk m c 4 t (ix2 0 j) ≠ (⊤ : EReal)) (y : S256x1024.Idx) :
    (outsAt0 m c t.val t.isLt).1 y = resBlk (iblk m c 4 t) (iblk m c 0 t) (iblk m c 1 t) (iblk m c 2 t) (iblk m c 3 t) (iblk m c 5 t) (fun _ => 0)
      ⟨(y 1).val / 128, by have : (y 1).val < 1024 := (y 1).isLt; omega⟩ ((y 0).val / 64) ⟨(y 0).val % 64, Nat.mod_lt _ (by decide)⟩ ⟨(y 1).val % 128, Nat.mod_lt _ (by decide)⟩ := by
  rw [outsAt0_A m c t p0 p1]
  dsimp only
  generalize iblk m c 0 t = q
  generalize iblk m c 1 t = f
  generalize iblk m c 2 t = v
  generalize iblk m c 3 t = g
  generalize iblk m c 4 t = b at *
  generalize iblk m c 5 t = w
  frame_open
  simp (disch := decide) only [↓ View.readCov_skip, ↓ View.readCov_cons_toLoadRect, ↓ View.readCov_fill]
  frame_out
  simp only [k0_pay42, k0_pay43, k0_pay44, k0_pay79, k0_pay80, k0_pay85, k0_pay86, k0_pay120, k0_pay121, k0_pay160, k0_pay161, k0_pay162, k0_pay201, k0_pay202, k0_pay238, k0_pay239, k0_pay1, k0_pay244, k0_pay245, k0_pay246, k0_pay248, k0_pay123, k0_pay124, k0_pay125, k0_pay126, k0_pay127, k0_pay129]
  canon_tiles x h
  all_goals refine res_point b q f v g w (fun _ => 0) fin (by decide) rfl (by decide) (by decide) (by decide) (by decide) (fun s e => by pointwise!) ?_ x y (by omega) (by omega)
  case piece24 | piece25 | piece26 | piece27 | piece28 | piece29 | piece30 | piece31 =>
    · exact fun d e => by show _ = (0 : EReal); pointwise! [k0_pay6, k0_pay7, k0_pay8, k0_pay9, k0_pay10, k0_pay11, k0_pay12, k0_pay17, k0_pay18]
  case piece16 | piece17 | piece18 | piece19 | piece20 | piece21 | piece22 | piece23 =>
    refine step b f v (fun _ => 0) fin (by decide) (by decide) (by decide) (by decide) rfl (by decide) (by decide) (by decide) (by decide) ?_
    · exact fun d e => by show _ = (0 : EReal); pointwise! [k0_pay6, k0_pay7, k0_pay8, k0_pay9, k0_pay10, k0_pay11, k0_pay12, k0_pay17, k0_pay18]
  case piece8 | piece9 | piece10 | piece11 | piece12 | piece13 | piece14 | piece15 =>
    refine step b f v (fun _ => 0) fin (by decide) (by decide) (by decide) (by decide) rfl (by decide) (by decide) (by decide) (by decide) ?_
    refine step b f v (fun _ => 0) fin (by decide) (by decide) (by decide) (by decide) rfl (by decide) (by decide) (by decide) (by decide) ?_
    · exact fun d e => by show _ = (0 : EReal); pointwise! [k0_pay6, k0_pay7, k0_pay8, k0_pay9, k0_pay10, k0_pay11, k0_pay12, k0_pay17, k0_pay18]
  case piece0 | piece1 | piece2 | piece3 | piece4 | piece5 | piece6 | piece7 =>
    refine step b f v (fun _ => 0) fin (by decide) (by decide) (by decide) (by decide) rfl (by decide) (by decide) (by decide) (by decide) ?_
    refine step b f v (fun _ => 0) fin (by decide) (by decide) (by decide) (by decide) rfl (by decide) (by decide) (by decide) (by decide) ?_
    refine step b f v (fun _ => 0) fin (by decide) (by decide) (by decide) (by decide) rfl (by decide) (by decide) (by decide) (by decide) ?_
    · exact fun d e => by show _ = (0 : EReal); pointwise! [k0_pay6, k0_pay7, k0_pay8, k0_pay9, k0_pay10, k0_pay11, k0_pay12, k0_pay17, k0_pay18]

set_option maxHeartbeats 2000000 in
/-- A block of the result at a point between the first and the last of a batch, from the scratch the point before leaves. -/
theorem out_B (c : Dev nD) (t : Fin cfg0.N) (p0 : ¬t.val % 8 = 0) (p1 : ¬t.val % 8 = 7) (fin : ∀ j, iblk m c 4 t (ix2 0 j) ≠ (⊤ : EReal)) (y : S256x1024.Idx) :
    (outsAt0 m c t.val t.isLt).1 y = resBlk (iblk m c 4 t) (iblk m c 0 t) (iblk m c 1 t) (iblk m c 2 t) (iblk m c 3 t) (iblk m c 5 t) (outsAt0 m c (t.val - 1) (by omega)).2.2
      ⟨(y 1).val / 128, by have : (y 1).val < 1024 := (y 1).isLt; omega⟩ ((y 0).val / 64) ⟨(y 0).val % 64, Nat.mod_lt _ (by decide)⟩ ⟨(y 1).val % 128, Nat.mod_lt _ (by decide)⟩ := by
  rw [outsAt0_B m c t p0 p1]
  dsimp only
  generalize iblk m c 0 t = q
  generalize iblk m c 1 t = f
  generalize iblk m c 2 t = v
  generalize iblk m c 3 t = g
  generalize iblk m c 4 t = b at *
  generalize iblk m c 5 t = w
  generalize (outsAt0 m c (t.val - 1) _).2.2 = T
  frame_open
  simp (disch := decide) only [↓ View.readCov_skip, ↓ View.readCov_cons_toLoadRect, ↓ View.readCov_fill]
  frame_out
  simp only [read_unread_whole, k0_pay42, k0_pay43, k0_pay44, k0_pay79, k0_pay80, k0_pay85, k0_pay86, k0_pay120, k0_pay121, k0_pay160, k0_pay161, k0_pay162, k0_pay201, k0_pay202, k0_pay238, k0_pay239, k0_pay1, k0_pay244, k0_pay245, k0_pay246, k0_pay248, k0_pay123, k0_pay124, k0_pay125, k0_pay126, k0_pay127, k0_pay129]
  canon_tiles x h
  all_goals refine res_point b q f v g w T fin (by decide) rfl (by decide) (by decide) (by decide) (by decide) (fun s e => by pointwise!) ?_ x y (by omega) (by omega)
  case piece24 | piece25 | piece26 | piece27 | piece28 | piece29 | piece30 | piece31 =>
    · exact fun d e => by show _ = T (ix3 _ e d); pointwise!
  case piece16 | piece17 | piece18 | piece19 | piece20 | piece21 | piece22 | piece23 =>
    refine step b f v T fin (by decide) (by decide) (by decide) (by decide) rfl (by decide) (by decide) (by decide) (by decide) ?_
    · exact fun d e => by show _ = T (ix3 _ e d); pointwise!
  case piece8 | piece9 | piece10 | piece11 | piece12 | piece13 | piece14 | piece15 =>
    refine step b f v T fin (by decide) (by decide) (by decide) (by decide) rfl (by decide) (by decide) (by decide) (by decide) ?_
    refine step b f v T fin (by decide) (by decide) (by decide) (by decide) rfl (by decide) (by decide) (by decide) (by decide) ?_
    · exact fun d e => by show _ = T (ix3 _ e d); pointwise!
  case piece0 | piece1 | piece2 | piece3 | piece4 | piece5 | piece6 | piece7 =>
    refine step b f v T fin (by decide) (by decide) (by decide) (by decide) rfl (by decide) (by decide) (by decide) (by decide) ?_
    refine step b f v T fin (by decide) (by decide) (by decide) (by decide) rfl (by decide) (by decide) (by decide) (by decide) ?_
    refine step b f v T fin (by decide) (by decide) (by decide) (by decide) rfl (by decide) (by decide) (by decide) (by decide) ?_
    · exact fun d e => by show _ = T (ix3 _ e d); pointwise!

set_option maxHeartbeats 2000000 in
/-- A block of the result at the last point of a batch, from the scratch the point before leaves. -/
theorem out_C (c : Dev nD) (t : Fin cfg0.N) (p0 : ¬t.val % 8 = 0) (p1 : t.val % 8 = 7) (fin : ∀ j, iblk m c 4 t (ix2 0 j) ≠ (⊤ : EReal)) (y : S256x1024.Idx) :
    (outsAt0 m c t.val t.isLt).1 y = resBlk (iblk m c 4 t) (iblk m c 0 t) (iblk m c 1 t) (iblk m c 2 t) (iblk m c 3 t) (iblk m c 5 t) (outsAt0 m c (t.val - 1) (by omega)).2.2
      ⟨(y 1).val / 128, by have : (y 1).val < 1024 := (y 1).isLt; omega⟩ ((y 0).val / 64) ⟨(y 0).val % 64, Nat.mod_lt _ (by decide)⟩ ⟨(y 1).val % 128, Nat.mod_lt _ (by decide)⟩ := by
  rw [outsAt0_C m c t p0 p1]
  dsimp only
  generalize iblk m c 0 t = q
  generalize iblk m c 1 t = f
  generalize iblk m c 2 t = v
  generalize iblk m c 3 t = g
  generalize iblk m c 4 t = b at *
  generalize iblk m c 5 t = w
  generalize (outsAt0 m c (t.val - 1) _).2.2 = T
  frame_open
  simp (disch := decide) only [↓ View.readCov_skip, ↓ View.readCov_cons_toLoadRect, ↓ View.readCov_fill]
  frame_out
  simp only [read_unread_whole, k0_pay42, k0_pay43, k0_pay44, k0_pay79, k0_pay80, k0_pay85, k0_pay86, k0_pay120, k0_pay121, k0_pay160, k0_pay161, k0_pay162, k0_pay201, k0_pay202, k0_pay238, k0_pay239, k0_pay1, k0_pay244, k0_pay245, k0_pay246, k0_pay248, k0_pay123, k0_pay124, k0_pay125, k0_pay126, k0_pay127, k0_pay129]
  canon_tiles x h
  all_goals refine res_point b q f v g w T fin (by decide) rfl (by decide) (by decide) (by decide) (by decide) (fun s e => by pointwise!) ?_ x y (by omega) (by omega)
  case piece24 | piece25 | piece26 | piece27 | piece28 | piece29 | piece30 | piece31 =>
    · exact fun d e => by show _ = T (ix3 _ e d); pointwise!
  case piece16 | piece17 | piece18 | piece19 | piece20 | piece21 | piece22 | piece23 =>
    refine step b f v T fin (by decide) (by decide) (by decide) (by decide) rfl (by decide) (by decide) (by decide) (by decide) ?_
    · exact fun d e => by show _ = T (ix3 _ e d); pointwise!
  case piece8 | piece9 | piece10 | piece11 | piece12 | piece13 | piece14 | piece15 =>
    refine step b f v T fin (by decide) (by decide) (by decide) (by decide) rfl (by decide) (by decide) (by decide) (by decide) ?_
    refine step b f v T fin (by decide) (by decide) (by decide) (by decide) rfl (by decide) (by decide) (by decide) (by decide) ?_
    · exact fun d e => by show _ = T (ix3 _ e d); pointwise!
  case piece0 | piece1 | piece2 | piece3 | piece4 | piece5 | piece6 | piece7 =>
    refine step b f v T fin (by decide) (by decide) (by decide) (by decide) rfl (by decide) (by decide) (by decide) (by decide) ?_
    refine step b f v T fin (by decide) (by decide) (by decide) (by decide) rfl (by decide) (by decide) (by decide) (by decide) ?_
    refine step b f v T fin (by decide) (by decide) (by decide) (by decide) rfl (by decide) (by decide) (by decide) (by decide) ?_
    · exact fun d e => by show _ = T (ix3 _ e d); pointwise!

set_option maxHeartbeats 2000000 in
/-- The scratch after the first point of a batch. -/
theorem scr_A (c : Dev nD) (t : Fin cfg0.N) (p0 : t.val % 8 = 0) (p1 : ¬t.val % 8 = 7) (fin : ∀ j, iblk m c 4 t (ix2 0 j) ≠ (⊤ : EReal)) (z : S8x128x128.Idx) :
    (outsAt0 m c t.val t.isLt).2.2 z = stateBlk (iblk m c 4 t) (iblk m c 1 t) (iblk m c 2 t) (fun _ => 0) (z 0) 4 (z 2) (z 1) := by
  rw [outsAt0_A m c t p0 p1]
  dsimp only
  generalize iblk m c 0 t = q
  generalize iblk m c 1 t = f
  generalize iblk m c 2 t = v
  generalize iblk m c 3 t = g
  generalize iblk m c 4 t = b at *
  generalize iblk m c 5 t = w
  frame_open
  simp (disch := decide) only [↓ View.readCov_skip, ↓ View.readCov_cons_toLoadRect, ↓ View.readCov_fill]
  frame_out
  simp only [k0_pay42, k0_pay43, k0_pay44, k0_pay79, k0_pay80, k0_pay85, k0_pay86, k0_pay120, k0_pay121, k0_pay160, k0_pay161, k0_pay162, k0_pay201, k0_pay202, k0_pay238, k0_pay239, k0_pay1, k0_pay244, k0_pay245, k0_pay246, k0_pay248]
  refine View.canon_append_of_piecesOf (Val := Elt Idealize.ShloMosaic.Ideal) (e := .f32) (fun i : S8x128x128.Idx => stateBlk b f v (fun _ => 0) (i 0) 4 (i 2) (i 1)) _ [_, _, _, _, _, _, _, _] ⟨fun x => ?_, fun x => ?_, fun x => ?_, fun x => ?_, fun x => ?_, fun x => ?_, fun x => ?_, fun x => ?_, trivial⟩ z
    (by exact View.cover_of_tiledL (s := S8x128x128) _ S1x128x128.size (by sl_kernel_rfl) z)
  all_goals refine scr_point b f v (fun _ => 0) fin (by decide) (by decide) (by decide) (by decide) rfl (by decide) (by decide) (by decide) ?_ x _ ((Rect.emb_apply _ _ _).trans (congrArg _ (Nat.one_mul _))) ((Rect.emb_apply _ _ _).trans ((congrArg _ (Nat.one_mul _)).trans (Nat.zero_add _))) ((Rect.emb_apply _ _ _).trans ((congrArg _ (Nat.one_mul _)).trans (Nat.zero_add _)))
  all_goals refine step b f v (fun _ => 0) fin (by decide) (by decide) (by decide) (by decide) rfl (by decide) (by decide) (by decide) (by decide) ?_
  all_goals refine step b f v (fun _ => 0) fin (by decide) (by decide) (by decide) (by decide) rfl (by decide) (by decide) (by decide) (by decide) ?_
  all_goals refine step b f v (fun _ => 0) fin (by decide) (by decide) (by decide) (by decide) rfl (by decide) (by decide) (by decide) (by decide) ?_
  all_goals
    exact fun d e => by show _ = (0 : EReal); pointwise! [k0_pay6, k0_pay7, k0_pay8, k0_pay9, k0_pay10, k0_pay11, k0_pay12, k0_pay17, k0_pay18]

set_option maxHeartbeats 2000000 in
/-- The scratch after a point between the first and the last of a batch. -/
theorem scr_B (c : Dev nD) (t : Fin cfg0.N) (p0 : ¬t.val % 8 = 0) (p1 : ¬t.val % 8 = 7) (fin : ∀ j, iblk m c 4 t (ix2 0 j) ≠ (⊤ : EReal)) (z : S8x128x128.Idx) :
    (outsAt0 m c t.val t.isLt).2.2 z = stateBlk (iblk m c 4 t) (iblk m c 1 t) (iblk m c 2 t) (outsAt0 m c (t.val - 1) (by omega)).2.2 (z 0) 4 (z 2) (z 1) := by
  rw [outsAt0_B m c t p0 p1]
  dsimp only
  generalize iblk m c 0 t = q
  generalize iblk m c 1 t = f
  generalize iblk m c 2 t = v
  generalize iblk m c 3 t = g
  generalize iblk m c 4 t = b at *
  generalize iblk m c 5 t = w
  generalize (outsAt0 m c (t.val - 1) _).2.2 = T
  frame_open
  simp (disch := decide) only [↓ View.readCov_skip, ↓ View.readCov_cons_toLoadRect, ↓ View.readCov_fill]
  frame_out
  simp only [read_unread_whole, k0_pay42, k0_pay43, k0_pay44, k0_pay79, k0_pay80, k0_pay85, k0_pay86, k0_pay120, k0_pay121, k0_pay160, k0_pay161, k0_pay162, k0_pay201, k0_pay202, k0_pay238, k0_pay239, k0_pay1, k0_pay244, k0_pay245, k0_pay246, k0_pay248]
  refine View.canon_append_of_piecesOf (Val := Elt Idealize.ShloMosaic.Ideal) (e := .f32) (fun i : S8x128x128.Idx => stateBlk b f v T (i 0) 4 (i 2) (i 1)) _ [_, _, _, _, _, _, _, _] ⟨fun x => ?_, fun x => ?_, fun x => ?_, fun x => ?_, fun x => ?_, fun x => ?_, fun x => ?_, fun x => ?_, trivial⟩ z
    (by exact View.cover_of_tiledL (s := S8x128x128) _ S1x128x128.size (by sl_kernel_rfl) z)
  all_goals refine scr_point b f v T fin (by decide) (by decide) (by decide) (by decide) rfl (by decide) (by decide) (by decide) ?_ x _ ((Rect.emb_apply _ _ _).trans (congrArg _ (Nat.one_mul _))) ((Rect.emb_apply _ _ _).trans ((congrArg _ (Nat.one_mul _)).trans (Nat.zero_add _))) ((Rect.emb_apply _ _ _).trans ((congrArg _ (Nat.one_mul _)).trans (Nat.zero_add _)))
  all_goals refine step b f v T fin (by decide) (by decide) (by decide) (by decide) rfl (by decide) (by decide) (by decide) (by decide) ?_
  all_goals refine step b f v T fin (by decide) (by decide) (by decide) (by decide) rfl (by decide) (by decide) (by decide) (by decide) ?_
  all_goals refine step b f v T fin (by decide) (by decide) (by decide) (by decide) rfl (by decide) (by decide) (by decide) (by decide) ?_
  all_goals
    exact fun d e => by show _ = T (ix3 _ e d); pointwise!

set_option maxHeartbeats 2000000 in
/-- The scratch after the last point of a batch. -/
theorem scr_C (c : Dev nD) (t : Fin cfg0.N) (p0 : ¬t.val % 8 = 0) (p1 : t.val % 8 = 7) (fin : ∀ j, iblk m c 4 t (ix2 0 j) ≠ (⊤ : EReal)) (z : S8x128x128.Idx) :
    (outsAt0 m c t.val t.isLt).2.2 z = stateBlk (iblk m c 4 t) (iblk m c 1 t) (iblk m c 2 t) (outsAt0 m c (t.val - 1) (by omega)).2.2 (z 0) 4 (z 2) (z 1) := by
  rw [outsAt0_C m c t p0 p1]
  dsimp only
  generalize iblk m c 0 t = q
  generalize iblk m c 1 t = f
  generalize iblk m c 2 t = v
  generalize iblk m c 3 t = g
  generalize iblk m c 4 t = b at *
  generalize iblk m c 5 t = w
  generalize (outsAt0 m c (t.val - 1) _).2.2 = T
  frame_open
  simp (disch := decide) only [↓ View.readCov_skip, ↓ View.readCov_cons_toLoadRect, ↓ View.readCov_fill]
  frame_out
  simp only [read_unread_whole, k0_pay42, k0_pay43, k0_pay44, k0_pay79, k0_pay80, k0_pay85, k0_pay86, k0_pay120, k0_pay121, k0_pay160, k0_pay161, k0_pay162, k0_pay201, k0_pay202, k0_pay238, k0_pay239, k0_pay1, k0_pay244, k0_pay245, k0_pay246, k0_pay248]
  refine View.canon_append_of_piecesOf (Val := Elt Idealize.ShloMosaic.Ideal) (e := .f32) (fun i : S8x128x128.Idx => stateBlk b f v T (i 0) 4 (i 2) (i 1)) _ [_, _, _, _, _, _, _, _] ⟨fun x => ?_, fun x => ?_, fun x => ?_, fun x => ?_, fun x => ?_, fun x => ?_, fun x => ?_, fun x => ?_, trivial⟩ z
    (by exact View.cover_of_tiledL (s := S8x128x128) _ S1x128x128.size (by sl_kernel_rfl) z)
  all_goals refine scr_point b f v T fin (by decide) (by decide) (by decide) (by decide) rfl (by decide) (by decide) (by decide) ?_ x _ ((Rect.emb_apply _ _ _).trans (congrArg _ (Nat.one_mul _))) ((Rect.emb_apply _ _ _).trans ((congrArg _ (Nat.one_mul _)).trans (Nat.zero_add _))) ((Rect.emb_apply _ _ _).trans ((congrArg _ (Nat.one_mul _)).trans (Nat.zero_add _)))
  all_goals refine step b f v T fin (by decide) (by decide) (by decide) (by decide) rfl (by decide) (by decide) (by decide) (by decide) ?_
  all_goals refine step b f v T fin (by decide) (by decide) (by decide) (by decide) rfl (by decide) (by decide) (by decide) (by decide) ?_
  all_goals refine step b f v T fin (by decide) (by decide) (by decide) (by decide) rfl (by decide) (by decide) (by decide) (by decide) ?_
  all_goals
    exact fun d e => by show _ = T (ix3 _ e d); pointwise!

set_option maxHeartbeats 2000000 in
/-- The block of the states, which the last point of a batch stores. -/
theorem state_C (c : Dev nD) (t : Fin cfg0.N) (p0 : ¬t.val % 8 = 0) (p1 : t.val % 8 = 7) (fin : ∀ j, iblk m c 4 t (ix2 0 j) ≠ (⊤ : EReal)) (y : S1x8x128x128.Idx) :
    (outsAt0 m c t.val t.isLt).2.1 y = stateBlk (iblk m c 4 t) (iblk m c 1 t) (iblk m c 2 t) (outsAt0 m c (t.val - 1) (by omega)).2.2 (y 1) 4 (y 2) (y 3) := by
  rw [outsAt0_C m c t p0 p1]
  dsimp only
  generalize iblk m c 0 t = q
  generalize iblk m c 1 t = f
  generalize iblk m c 2 t = v
  generalize iblk m c 3 t = g
  generalize iblk m c 4 t = b at *
  generalize iblk m c 5 t = w
  generalize (outsAt0 m c (t.val - 1) _).2.2 = T
  frame_open
  simp (disch := decide) only [↓ View.readCov_skip, ↓ View.readCov_cons_toLoadRect, ↓ View.readCov_fill]
  frame_out
  simp only [read_unread_whole, k0_pay42, k0_pay43, k0_pay44, k0_pay79, k0_pay80, k0_pay85, k0_pay86, k0_pay120, k0_pay121, k0_pay160, k0_pay161, k0_pay162, k0_pay201, k0_pay202, k0_pay238, k0_pay239, k0_pay1, k0_pay244, k0_pay245, k0_pay246, k0_pay248]
  canon_tiles x h
  all_goals refine state_point b f v T fin (by decide) (by decide) (by decide) (by decide) rfl (by decide) (by decide) (by decide) ?_ x y (by omega) h2 h3
  all_goals refine step b f v T fin (by decide) (by decide) (by decide) (by decide) rfl (by decide) (by decide) (by decide) (by decide) ?_
  all_goals refine step b f v T fin (by decide) (by decide) (by decide) (by decide) rfl (by decide) (by decide) (by decide) (by decide) ?_
  all_goals refine step b f v T fin (by decide) (by decide) (by decide) (by decide) rfl (by decide) (by decide) (by decide) (by decide) ?_
  all_goals
    exact fun d e => by show _ = T (ix3 _ e d); pointwise!

end Cert.HgrnIdeal.Final

end
-- ==== Proof.RunningSum.lean ====
module

public import Idealize.ShloMosaic.Lib.Pointwise

@[expose] public section

noncomputable section

open Idealize.ShloMosaic

namespace Cert.RunningSum

/-- The positions of a window that runs over the fourth of five axes only are that axis's. -/
def window4 (C : ℕ) : (⟨5, ![1, 1, 1, C, 1]⟩ : Shape).Idx ≃ Fin C where
  toFun i := i 3
  invFun k := ix5 (0 : Fin 1) (0 : Fin 1) (0 : Fin 1) k (0 : Fin 1)
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _
  right_inv k := rfl

/-- Adding the terms of a list one after another is adding their sum. -/
theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- A window of length `C` that ends at position `s`, its places before the start left out, holds the entries up to `s`. -/
theorem sum_prefix {C D : ℕ} (hC : D + 1 = C) (f : Fin C → EReal) (s : Fin C) :
    (∑ k : Fin C, if h : D ≤ s.val + k.val ∧ s.val + k.val - D < C then f ⟨s.val + k.val - D, h.2⟩ else 0)
      = ∑ r : Fin C, if r ≤ s then f r else 0 := by
  subst hC
  have e : ∀ k : Fin (D + 1), (if h : D ≤ s.val + k.val ∧ s.val + k.val - D < D + 1 then f ⟨s.val + k.val - D, h.2⟩ else 0)
      = if D ≤ s.val + k.val then f ⟨(s.val + k.val - D) % (D + 1), Nat.mod_lt _ (Nat.succ_pos D)⟩ else 0 := fun k => by
    have hs := s.isLt
    have hk := k.isLt
    by_cases h : D ≤ s.val + k.val
    · have h' : s.val + k.val - D < D + 1 := by omega
      rw [dif_pos ⟨h, h'⟩, if_pos h]
      exact congrArg f (Fin.ext (Nat.mod_eq_of_lt h').symm)
    · rw [dif_neg (fun q => h q.1), if_neg h]
  rw [Finset.sum_congr rfl fun k _ => e k, ← Finset.sum_filter, ← Finset.sum_filter]
  refine Finset.sum_bij' (fun k _ => (⟨(s.val + k.val - D) % (D + 1), Nat.mod_lt _ (Nat.succ_pos D)⟩ : Fin (D + 1)))
    (fun r _ => (⟨(r.val + D - s.val) % (D + 1), Nat.mod_lt _ (Nat.succ_pos D)⟩ : Fin (D + 1))) ?_ ?_ ?_ ?_ ?_
  · intro k hk
    rw [Finset.mem_filter] at hk ⊢
    refine ⟨Finset.mem_univ _, ?_⟩
    have hs := s.isLt
    have hk' := k.isLt
    rw [Fin.le_def]
    show (s.val + k.val - D) % (D + 1) ≤ s.val
    rw [Nat.mod_eq_of_lt (by omega)]
    omega
  · intro r hr
    rw [Finset.mem_filter] at hr ⊢
    refine ⟨Finset.mem_univ _, ?_⟩
    have hs := s.isLt
    have hr' := r.isLt
    have hle := Fin.le_def.mp hr.2
    show D ≤ s.val + (r.val + D - s.val) % (D + 1)
    rw [Nat.mod_eq_of_lt (by omega)]
    omega
  · intro k hk
    rw [Finset.mem_filter] at hk
    have hs := s.isLt
    have hk' := k.isLt
    have := hk.2
    apply Fin.ext
    show ((s.val + k.val - D) % (D + 1) + D - s.val) % (D + 1) = k.val
    rw [Nat.mod_eq_of_lt (show s.val + k.val - D < D + 1 by omega), Nat.mod_eq_of_lt (by omega)]
    omega
  · intro r hr
    rw [Finset.mem_filter] at hr
    have hs := s.isLt
    have hr' := r.isLt
    have hle := Fin.le_def.mp hr.2
    apply Fin.ext
    show (s.val + (r.val + D - s.val) % (D + 1) - D) % (D + 1) = r.val
    rw [Nat.mod_eq_of_lt (show r.val + D - s.val < D + 1 by omega), Nat.mod_eq_of_lt (by omega)]
    omega
  · intro k hk
    rfl

/-- A running sum along the fourth of five axes, as the window sum prints: entry `s` is the sum of the entries up to and including `s`. -/
theorem cumsum5 {A B N C D E : ℕ} (hC : D + 1 = C) (x : FVec Ideal ⟨5, ![A, B, N, C, E]⟩ .f32) (init : (⟨0, ![]⟩ : Shape).Idx → EReal)
    (hinit : ∀ i, init i = 0)
    (h : (⟨5, ![A, B, N, C, E]⟩ : Shape).ReduceWindows (![1, 1, 1, C, 1] : Fin 5 → ℕ) ![1, 1, 1, 1, 1] ![0, 0, 0, D, 0] ![0, 0, 0, 0, 0] ⟨5, ![A, B, N, C, E]⟩)
    (hu : 0 < (⟨0, ![]⟩ : Shape).numel) (a : Fin A) (b : Fin B) (n : Fin N) (s : Fin C) (e : Fin E) :
    Host.reduceWindowAdd (F := Ideal) (φ := .f32) ![1, 1, 1, C, 1] ![1, 1, 1, 1, 1] ![0, 0, 0, D, 0] ![0, 0, 0, 0, 0] x init h hu (ix5 a b n s e)
      = ∑ r : Fin C, if r ≤ s then x (ix5 a b n r e) else 0 := by
  rw [← sum_prefix hC (fun r => x (ix5 a b n r e)) s]
  show List.foldl _ (init _) _ = _
  rw [hinit, foldl_add, zero_add, ← List.ofFn_eq_map, List.sum_ofFn]
  refine Fintype.sum_equiv ((Shape.rowMajor (⟨5, ![1, 1, 1, C, 1]⟩ : Shape)).symm.trans (window4 C)) _ _ fun i => ?_
  rw [Equiv.trans_apply]
  have z0 : ((Shape.rowMajor (⟨5, ![1, 1, 1, C, 1]⟩ : Shape)).symm i 0).val = 0 := Nat.lt_one_iff.mp ((Shape.rowMajor (⟨5, ![1, 1, 1, C, 1]⟩ : Shape)).symm i 0).isLt
  have z1 : ((Shape.rowMajor (⟨5, ![1, 1, 1, C, 1]⟩ : Shape)).symm i 1).val = 0 := Nat.lt_one_iff.mp ((Shape.rowMajor (⟨5, ![1, 1, 1, C, 1]⟩ : Shape)).symm i 1).isLt
  have z2 : ((Shape.rowMajor (⟨5, ![1, 1, 1, C, 1]⟩ : Shape)).symm i 2).val = 0 := Nat.lt_one_iff.mp ((Shape.rowMajor (⟨5, ![1, 1, 1, C, 1]⟩ : Shape)).symm i 2).isLt
  have z4 : ((Shape.rowMajor (⟨5, ![1, 1, 1, C, 1]⟩ : Shape)).symm i 4).val = 0 := Nat.lt_one_iff.mp ((Shape.rowMajor (⟨5, ![1, 1, 1, C, 1]⟩ : Shape)).symm i 4).isLt
  have z3 : ((Shape.rowMajor (⟨5, ![1, 1, 1, C, 1]⟩ : Shape)).symm i 3).val = (window4 C ((Shape.rowMajor (⟨5, ![1, 1, 1, C, 1]⟩ : Shape)).symm i)).val := rfl
  generalize window4 C ((Shape.rowMajor (⟨5, ![1, 1, 1, C, 1]⟩ : Shape)).symm i) = k at z3 ⊢
  have ha := a.isLt
  have hb := b.isLt
  have hn := n.isLt
  have he := e.isLt
  by_cases q : D ≤ s.val + k.val ∧ s.val + k.val - D < C
  · rw [dif_pos q, dif_pos (fun z => match z with
      | ⟨0, _⟩ => ⟨Nat.zero_le _, by show a.val * 1 + ((Shape.rowMajor (⟨5, ![1, 1, 1, C, 1]⟩ : Shape)).symm i 0).val - 0 < A; omega⟩
      | ⟨1, _⟩ => ⟨Nat.zero_le _, by show b.val * 1 + ((Shape.rowMajor (⟨5, ![1, 1, 1, C, 1]⟩ : Shape)).symm i 1).val - 0 < B; omega⟩
      | ⟨2, _⟩ => ⟨Nat.zero_le _, by show n.val * 1 + ((Shape.rowMajor (⟨5, ![1, 1, 1, C, 1]⟩ : Shape)).symm i 2).val - 0 < N; omega⟩
      | ⟨3, _⟩ => ⟨by show D ≤ s.val * 1 + ((Shape.rowMajor (⟨5, ![1, 1, 1, C, 1]⟩ : Shape)).symm i 3).val; omega, by show s.val * 1 + ((Shape.rowMajor (⟨5, ![1, 1, 1, C, 1]⟩ : Shape)).symm i 3).val - D < C; omega⟩
      | ⟨4, _⟩ => ⟨Nat.zero_le _, by show e.val * 1 + ((Shape.rowMajor (⟨5, ![1, 1, 1, C, 1]⟩ : Shape)).symm i 4).val - 0 < E; omega⟩)]
    refine congrArg x ?_
    funext z
    apply Fin.ext
    match z with
    | ⟨0, _⟩ => show a.val * 1 + ((Shape.rowMajor (⟨5, ![1, 1, 1, C, 1]⟩ : Shape)).symm i 0).val - 0 = a.val; omega
    | ⟨1, _⟩ => show b.val * 1 + ((Shape.rowMajor (⟨5, ![1, 1, 1, C, 1]⟩ : Shape)).symm i 1).val - 0 = b.val; omega
    | ⟨2, _⟩ => show n.val * 1 + ((Shape.rowMajor (⟨5, ![1, 1, 1, C, 1]⟩ : Shape)).symm i 2).val - 0 = n.val; omega
    | ⟨3, _⟩ => show s.val * 1 + ((Shape.rowMajor (⟨5, ![1, 1, 1, C, 1]⟩ : Shape)).symm i 3).val - D = s.val + k.val - D; omega
    | ⟨4, _⟩ => show e.val * 1 + ((Shape.rowMajor (⟨5, ![1, 1, 1, C, 1]⟩ : Shape)).symm i 4).val - 0 = e.val; omega
  · rw [dif_neg q, dif_neg (fun w => q (by have w3 : D ≤ s.val * 1 + ((Shape.rowMajor (⟨5, ![1, 1, 1, C, 1]⟩ : Shape)).symm i 3).val ∧ s.val * 1 + ((Shape.rowMajor (⟨5, ![1, 1, 1, C, 1]⟩ : Shape)).symm i 3).val - D < C := w 3; omega))]

/-- The positions of a window that runs over the first of two axes only are that axis's. -/
def window0 (C : ℕ) : (⟨2, ![C, 1]⟩ : Shape).Idx ≃ Fin C where
  toFun i := i 0
  invFun k := ix2 k (0 : Fin 1)
  left_inv i := by
    funext a
    match a with
    | ⟨0, _⟩ => rfl
    | ⟨1, _⟩ => exact Subsingleton.elim (α := Fin 1) _ _
  right_inv k := rfl

/-- A running sum down two rows, as the window sum prints: its first row is the first row. -/
theorem cumsum2_first {E : ℕ} (x : FVec Ideal ⟨2, ![2, E]⟩ .f32) (init : (⟨0, ![]⟩ : Shape).Idx → EReal) (hinit : ∀ i, init i = 0)
    (h : (⟨2, ![2, E]⟩ : Shape).ReduceWindows (![2, 1] : Fin 2 → ℕ) ![1, 1] ![1, 0] ![0, 0] ⟨2, ![2, E]⟩)
    (hu : 0 < (⟨0, ![]⟩ : Shape).numel) (e : Fin E) :
    Host.reduceWindowAdd (F := Ideal) (φ := .f32) ![2, 1] ![1, 1] ![1, 0] ![0, 0] x init h hu (ix2 0 e) = x (ix2 0 e) := by
  trans ∑ k : Fin 2, if k.val = 1 then x (ix2 0 e) else 0
  · show List.foldl _ (init _) _ = _
    rw [hinit, foldl_add, zero_add, ← List.ofFn_eq_map, List.sum_ofFn]
    refine Fintype.sum_equiv ((Shape.rowMajor (⟨2, ![2, 1]⟩ : Shape)).symm.trans (window0 2)) _ _ fun i => ?_
    rw [Equiv.trans_apply]
    have z1 : ((Shape.rowMajor (⟨2, ![2, 1]⟩ : Shape)).symm i 1).val = 0 := Nat.lt_one_iff.mp ((Shape.rowMajor (⟨2, ![2, 1]⟩ : Shape)).symm i 1).isLt
    have z0 : ((Shape.rowMajor (⟨2, ![2, 1]⟩ : Shape)).symm i 0).val = (window0 2 ((Shape.rowMajor (⟨2, ![2, 1]⟩ : Shape)).symm i)).val := rfl
    generalize window0 2 ((Shape.rowMajor (⟨2, ![2, 1]⟩ : Shape)).symm i) = k at z0 ⊢
    have hk := k.isLt
    have he := e.isLt
    by_cases q : k.val = 1
    · rw [if_pos q, dif_pos (fun z => match z with
        | ⟨0, _⟩ => ⟨by show 1 ≤ 0 * 1 + ((Shape.rowMajor (⟨2, ![2, 1]⟩ : Shape)).symm i 0).val; omega,
            by show 0 * 1 + ((Shape.rowMajor (⟨2, ![2, 1]⟩ : Shape)).symm i 0).val - 1 < 2; omega⟩
        | ⟨1, _⟩ => ⟨Nat.zero_le _, by show e.val * 1 + ((Shape.rowMajor (⟨2, ![2, 1]⟩ : Shape)).symm i 1).val - 0 < E; omega⟩)]
      refine congrArg x ?_
      funext z
      apply Fin.ext
      match z with
      | ⟨0, _⟩ => show 0 * 1 + ((Shape.rowMajor (⟨2, ![2, 1]⟩ : Shape)).symm i 0).val - 1 = 0; omega
      | ⟨1, _⟩ => show e.val * 1 + ((Shape.rowMajor (⟨2, ![2, 1]⟩ : Shape)).symm i 1).val - 0 = e.val; omega
    · rw [if_neg q, dif_neg (fun w => q (by
        have w0 : 1 ≤ 0 * 1 + ((Shape.rowMajor (⟨2, ![2, 1]⟩ : Shape)).symm i 0).val ∧ _ := w 0
        omega))]
  · rw [Fin.sum_univ_two, if_neg (by decide), if_pos (by decide), zero_add]

end Cert.RunningSum

end
-- ==== Proof.HgrnRef.lean ====
module

public import proofs.«01_k».proof.Proof.Recur
public import proofs.«01_k».proof.Proof.RunningSum
public import proofs.«01_k».proof.Proof.Gen.RefHgrnIdeal.Run
public import Idealize.ShloMosaic.Lib.Pipeline.ValueKit
public import Idealize.ShloMosaic.Lib.Pointwise
public import Idealize.ShloMosaic.Lib.Claim

@[expose] public section

set_option maxRecDepth 65536

noncomputable section

open Idealize.ShloMosaic Idealize.ShloMosaic.TcCoe Idealize.SL.Sem

namespace Cert.RefHgrnIdeal.Final

open Cert.RefHgrnIdeal Cert.RefHgrnIdeal.Gen Cert.RefHgrnIdeal.Value Cert.Rows Cert.Recur Cert.RunningSum

/-- The softmax of the lower bound's logits over the layers. -/
def soft (X : FVec Ideal S2x1024 .f32) : FVec Ideal S2x1024 .f32 :=
  Host.divf (Host.exp (subf X (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf X (constant S_ .f32 0xFF800000#32) reducesTo_S2x1024_S1024_d0 h_S_))))))
    (broadcastInDim S2x1024 ![0, 1] bcast_S1x1024_S2x1024_0_1 (broadcastInDim S1x1024 ![1] bcast_S1024_S1x1024_1 (Host.reduceAdd (Host.exp (subf X (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf X (constant S_ .f32 0xFF800000#32) reducesTo_S2x1024_S1024_d0 h_S_)))))) (constant S_ .f32 0x00000000#32) reducesTo_S2x1024_S1024_d0 h_S_)))

theorem soft_at (X : FVec Ideal S2x1024 .f32) (j : Fin 1024) : soft X (ix2 0 j) = bound X j := by
  pointwise! [soft, bound, expo]

/-- The lower bounds, by head and feature. -/
def lb (X : FVec Ideal S2x1024 .f32) : FVec Ideal S8x128 .f32 :=
  shapeCast _ (shapeCast _ (extractStridedSlice S1x1024 ![0, 0] (Host.reduceWindowAdd ![2, 1] ![1, 1] ![1, 0] ![0, 0] (soft X) (broadcastInDim S_ ![] bcast_S_S_ (constant S_ .f32 0x00000000#32)) reduceWindows_S2x1024_S2x1024_w2s1p1_0_w1s1p0_0 h_S_) slices_S2x1024_S1x1024_0_0) shapeCasts_S1x1024_S1024) shapeCasts_S1024_S8x128

theorem zero_at (i : S_.Idx) : broadcastInDim S_ ![] bcast_S_S_ (constant (F := Ideal) S_ .f32 0x00000000#32) i = 0 := by
  pointwise

theorem lb_at (X : FVec Ideal S2x1024 .f32) (h : Fin 8) (d : Fin 128) : lb X (ix2 h d) = lbh X h d := by
  pointwise! [lb]
  rw [cumsum2_first _ _ zero_at, soft_at]
  rfl

/-- The forget gates. -/
def gates (X : FVec Ideal S2x1024 .f32) (T : FVec Ideal S4x2048x8x128 .f32) : FVec Ideal S4x2048x8x128 .f32 :=
  addf (broadcastInDim S4x2048x8x128 ![0, 1, 2, 3] bcast_S1x1x8x128_S4x2048x8x128_0_1_2_3 (broadcastInDim S1x1x8x128 ![2, 3] bcast_S8x128_S1x1x8x128_2_3 (lb X)))
    (mulf (broadcastInDim S4x2048x8x128 ![0, 1, 2, 3] bcast_S1x1x8x128_S4x2048x8x128_0_1_2_3 (broadcastInDim S1x1x8x128 ![2, 3] bcast_S8x128_S1x1x8x128_2_3 (subf (broadcastInDim S8x128 ![] bcast_S_S8x128 (constant S_ .f32 0x3F800000#32)) (lb X))))
      (Host.divf (broadcastInDim S4x2048x8x128 ![] bcast_S_S4x2048x8x128 (constant S_ .f32 0x3F800000#32)) (addf (broadcastInDim S4x2048x8x128 ![] bcast_S_S4x2048x8x128 (constant S_ .f32 0x3F800000#32)) (Host.exp (Host.negf T)))))

theorem gates_at (X : FVec Ideal S2x1024 .f32) (T : FVec Ideal S4x2048x8x128 .f32) (b : Fin 4) (s : Fin 2048) (h : Fin 8) (d : Fin 128) :
    gates X T (ix4 b s h d) = fgt (lbh X h d) (T (ix4 b s h d)) := by
  pointwise! [gates, fgt, sigm]
  rw [lb_at]

/-- Columns `o` to `o + 1024` of the projection, by batch, row, head and feature. -/
def cols (o : ℕ) (ho : S8192x11264.Slices ![0, o] S8192x1024) (U : FVec Ideal S8192x11264 .f32) : FVec Ideal S4x2048x8x128 .f32 :=
  shapeCast _ (extractStridedSlice S8192x1024 ![0, o] U ho) shapeCasts_S8192x1024_S4x2048x8x128

theorem cols_at (o : ℕ) (ho : S8192x11264.Slices ![0, o] S8192x1024) (hb : o + 1024 ≤ 11264) (U : FVec Ideal S8192x11264 .f32) (b : Fin 4) (s : Fin 2048) (h : Fin 8) (d : Fin 128) :
    cols o ho U (ix4 b s h d) = U (ix2 ⟨b.val * 2048 + s.val, by omega⟩ ⟨o + (h.val * 128 + d.val), by omega⟩) := by
  pointwise! [cols]
  blk_ext []

/-- Row `s` of chunk `n`. -/
abbrev pos (n : Fin 32) (s : Fin 64) : Fin 2048 := ⟨n.val * 64 + s.val, by omega⟩

/-- The rows of one head, split into chunks. -/
def blk (T : FVec Ideal S4x2048x8x128 .f32) : FVec Ideal S4x8x32x64x128 .f32 :=
  transpose S4x8x32x64x128 [0, 3, 1, 2, 4] (shapeCast _ T shapeCasts_S4x2048x8x128_S4x32x64x8x128) transposes_S4x32x64x8x128_S4x8x32x64x128_0_3_1_2_4

theorem blk_at (T : FVec Ideal S4x2048x8x128 .f32) (b : Fin 4) (h : Fin 8) (n : Fin 32) (s : Fin 64) (d : Fin 128) : blk T (ix5 b h n s d) = T (ix4 b (pos n s) h d) := by
  pointwise! [blk]
  blk_ext []

/-- The running sums of the log gates. -/
def csum (f : FVec Ideal S4x2048x8x128 .f32) : FVec Ideal S4x8x32x64x128 .f32 :=
  Host.reduceWindowAdd ![1, 1, 1, 64, 1] ![1, 1, 1, 1, 1] ![0, 0, 0, 63, 0] ![0, 0, 0, 0, 0] (blk (Host.log f)) (broadcastInDim S_ ![] bcast_S_S_ (constant S_ .f32 0x00000000#32)) reduceWindows_S4x8x32x64x128_S4x8x32x64x128_w1s1p0_0_w1s1p0_0_w1s1p0_0_w64s1p63_0_w1s1p0_0 h_S_

theorem csum_at (f : FVec Ideal S4x2048x8x128 .f32) (b : Fin 4) (h : Fin 8) (n : Fin 32) (s : Fin 64) (d : Fin 128) :
    csum f (ix5 b h n s d) = cum (fun r => Ideal.log (f (ix4 b (pos n r) h d))) s := by
  unfold csum cum
  rw [cumsum5 (by norm_num) _ _ zero_at]
  refine Finset.sum_congr rfl fun r _ => ?_
  rw [blk_at]
  rfl

/-- The scaled queries. -/
def sq (q f : FVec Ideal S4x2048x8x128 .f32) : FVec Ideal S4x8x32x64x128 .f32 := mulf (blk q) (Host.exp (csum f))

theorem sq_at (q f : FVec Ideal S4x2048x8x128 .f32) (b : Fin 4) (h : Fin 8) (n : Fin 32) (s : Fin 64) (d : Fin 128) :
    sq q f (ix5 b h n s d) = q (ix4 b (pos n s) h d) * Ideal.exp (cum (fun r => Ideal.log (f (ix4 b (pos n r) h d))) s) := by
  pointwise! [sq]
  rw [csum_at, blk_at]

/-- What the gates leave for the key. -/
def kin (f : FVec Ideal S4x2048x8x128 .f32) : FVec Ideal S4x8x32x64x128 .f32 :=
  blk (subf (broadcastInDim S4x2048x8x128 ![] bcast_S_S4x2048x8x128 (constant S_ .f32 0x3F800000#32)) f)

theorem kin_at (f : FVec Ideal S4x2048x8x128 .f32) (b : Fin 4) (h : Fin 8) (n : Fin 32) (s : Fin 64) (d : Fin 128) :
    kin f (ix5 b h n s d) = 1 - f (ix4 b (pos n s) h d) := by
  unfold kin
  rw [blk_at]
  pointwise

/-- The printed comparison of two row numbers. -/
theorem mask : ∀ s r : Fin 64, Scalar.select (IntOp.cmpi CmpIPredicate.sge (IntOp.addi (BitVec.ofNat 32 s.val) 0#32) (BitVec.ofNat 32 r.val)) 1#1 0#1
    = if r ≤ s then 1#1 else 0#1 := by decide +kernel

/-- The masked scores. -/
def scores (q f : FVec Ideal S4x2048x8x128 .f32) : FVec Ideal S4x8x32x64x64 .f32 :=
  select (broadcastInDim S4x8x32x64x64 ![3, 4] bcast_S64x64_S4x8x32x64x64_3_4 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))
    (Host.dotGeneral dot_S4x8x32x64x128_S4x8x32x64x128_S4x8x32x64x64_4_4_3_3_012_012 none (sq q f) (mulf (kin f) (Host.exp (Host.negf (csum f)))))
    (broadcastInDim S4x8x32x64x64 ![] bcast_S_S4x8x32x64x64 (id (constant S_ .f32 0x00000000#32)))

theorem scores_at (q f : FVec Ideal S4x2048x8x128 .f32) (b : Fin 4) (h : Fin 8) (n : Fin 32) (s r : Fin 64) :
    scores q f (ix5 b h n s r) = if r ≤ s then ∑ d, sq q f (ix5 b h n s d) * (kin f (ix5 b h n r d) * Ideal.exp (-csum f (ix5 b h n r d))) else 0 := by
  pointwise! [scores]
  rw [mask]
  split
  · rfl
  · show Ideal.ofBits .f32 0#32 = 0
    pointwise

/-- What a chunk's rows see of each other. -/
def intra (q f v : FVec Ideal S4x2048x8x128 .f32) : FVec Ideal S4x8x32x64x128 .f32 :=
  Host.dotGeneral dot_S4x8x32x64x64_S4x8x32x64x128_S4x8x32x64x128_4_3_3_4_012_012 none (scores q f) (blk v)

theorem intra_at (q f v : FVec Ideal S4x2048x8x128 .f32) (b : Fin 4) (h : Fin 8) (n : Fin 32) (s : Fin 64) (e : Fin 128) :
    intra q f v (ix5 b h n s e) = ∑ r, scores q f (ix5 b h n s r) * blk v (ix5 b h n r e) := by
  pointwise! [intra]

/-- The running sums at the chunks' last rows. -/
def last (f : FVec Ideal S4x2048x8x128 .f32) : FVec Ideal S4x8x32x128 .f32 :=
  shapeCast _ (extractStridedSlice S4x8x32x1x128 ![0, 0, 0, 63, 0] (csum f) slices_S4x8x32x64x128_S4x8x32x1x128_0_0_0_63_0) shapeCasts_S4x8x32x1x128_S4x8x32x128

theorem last_at (f : FVec Ideal S4x2048x8x128 .f32) (b : Fin 4) (h : Fin 8) (n : Fin 32) (d : Fin 128) :
    last f (ix4 b h n d) = ∑ r, Ideal.log (f (ix4 b (pos n r) h d)) := by
  pointwise! [last]
  rw [csum_at, cum_last _ _ rfl]

/-- What the chunks' rows add to the state. -/
def gain (f v : FVec Ideal S4x2048x8x128 .f32) : FVec Ideal S4x8x32x128x128 .f32 :=
  Host.dotGeneral dot_S4x8x32x64x128_S4x8x32x64x128_S4x8x32x128x128_3_3_4_4_012_012 none (mulf (kin f) (Host.exp (subf (broadcastInDim S4x8x32x64x128 ![0, 1, 2, 3, 4] bcast_S4x8x32x1x128_S4x8x32x64x128_0_1_2_3_4 (broadcastInDim S4x8x32x1x128 ![0, 1, 2, 4] bcast_S4x8x32x128_S4x8x32x1x128_0_1_2_4 (last f))) (csum f)))) (blk v)

theorem gain_at (f v : FVec Ideal S4x2048x8x128 .f32) (b : Fin 4) (h : Fin 8) (n : Fin 32) (d e : Fin 128) :
    gain f v (ix5 b h n d e) = ∑ r, (kin f (ix5 b h n r d) * Ideal.exp (last f (ix4 b h n d) - csum f (ix5 b h n r d))) * blk v (ix5 b h n r e) := by
  pointwise! [gain]

end Cert.RefHgrnIdeal.Final
-- ==== Proof.HgrnLoop.lean ====
module

public import proofs.«01_k».proof.Proof.HgrnRef
public import proofs.«01_k».proof.Proof.Gen.RefHgrnIdeal.Run
public import Idealize.ShloMosaic.Lib.Pipeline.ValueKit
public import Idealize.ShloMosaic.Lib.Pointwise
public import Idealize.ShloMosaic.Lib.Claim
public import Idealize.ShloMosaic.Lib.WordCmp

@[expose] public section

set_option maxRecDepth 65536

noncomputable section

open Idealize.ShloMosaic Idealize.ShloMosaic.TcCoe Idealize.SL.Sem

open Idealize.ShloMosaic.StableHlo

namespace Cert.RefHgrnIdeal.Final

open Cert.RefHgrnIdeal Cert.RefHgrnIdeal.Gen Cert.RefHgrnIdeal.Value Cert.Rows Cert.Recur Cert.RunningSum

/-! ## One trip of the loop over the chunks -/

/-- The words of a start whose first entry is `N` and whose others are zero. -/
abbrev start4 (N : IVec S_ 32) : Fin 4 → ℤ := fun k => ((![N, constantI S_ 32 0#32, constantI S_ 32 0#32, constantI S_ 32 0#32] : Fin 4 → IVec S_ 32) k (Shape.Idx.first h_S_)).toInt
abbrev start5 (N : IVec S_ 32) : Fin 5 → ℤ := fun k => ((![N, constantI S_ 32 0#32, constantI S_ 32 0#32, constantI S_ 32 0#32, constantI S_ 32 0#32] : Fin 5 → IVec S_ 32) k (Shape.Idx.first h_S_)).toInt

theorem word_int : ∀ k : Fin 32, (BitVec.ofNat 32 k.val).toInt = (k.val : ℤ) := by decide +kernel

theorem start4_eq (k : Fin 32) (a : Fin 4) : start4 (fun _ => BitVec.ofNat 32 k.val) a = ((![k.val, 0, 0, 0] : Fin 4 → ℕ) a : ℤ) := by
  fin_cases a
  exacts [word_int k, rfl, rfl, rfl]

theorem start5_eq (k : Fin 32) (a : Fin 5) : start5 (fun _ => BitVec.ofNat 32 k.val) a = ((![k.val, 0, 0, 0, 0] : Fin 5 → ℕ) a : ℤ) := by
  fin_cases a
  exacts [word_int k, rfl, rfl, rfl, rfl]

theorem fitsD (k : Fin 32) : S32x4x8x128.Slices ![k.val, 0, 0, 0] S1x4x8x128 :=
  ⟨rfl, fun a => by have := k.isLt; fin_cases a <;> simp [Shape.size] <;> omega⟩

theorem fitsG (k : Fin 32) : S32x4x8x128x128.Slices ![k.val, 0, 0, 0, 0] S1x4x8x128x128 :=
  ⟨rfl, fun a => by have := k.isLt; fin_cases a <;> simp [Shape.size] <;> omega⟩

theorem fitsO (k : Fin 32) : S32x4x8x64x128.Slices ![k.val, 0, 0, 0, 0] S1x4x8x64x128 :=
  ⟨rfl, fun a => by have := k.isLt; fin_cases a <;> simp [Shape.size] <;> omega⟩

/-- The state after a trip. -/
def stepState (D : FVec Ideal S32x4x8x128 .f32) (G : FVec Ideal S32x4x8x128x128 .f32) (N : IVec S_ 32) (S : FVec Ideal S4x8x128x128 .f32) : FVec Ideal S4x8x128x128 .f32 :=
  addf (mulf (broadcastInDim S4x8x128x128 ![0, 1, 2, 3] bcast_S4x8x128x1_S4x8x128x128_0_1_2_3 (broadcastInDim S4x8x128x1 ![0, 1, 2] bcast_S4x8x128_S4x8x128x1_0_1_2
      (shapeCast S4x8x128 (Host.dynamicSlice S1x4x8x128 D (start4 N) sliceFits_S32x4x8x128_S1x4x8x128) shapeCasts_S1x4x8x128_S4x8x128))) S)
    (shapeCast S4x8x128x128 (Host.dynamicSlice S1x4x8x128x128 G (start5 N) sliceFits_S32x4x8x128x128_S1x4x8x128x128) shapeCasts_S1x4x8x128x128_S4x8x128x128)

theorem stepState_at (D : FVec Ideal S32x4x8x128 .f32) (G : FVec Ideal S32x4x8x128x128 .f32) (S : FVec Ideal S4x8x128x128 .f32) (k : Fin 32) (b : Fin 4) (h : Fin 8) (d e : Fin 128) :
    stepState D G (fun _ => BitVec.ofNat 32 k.val) S (ix4 b h d e) = D (ix4 k b h d) * S (ix4 b h d e) + G (ix5 k b h d e) := by
  unfold stepState
  rw [WordCmp.dynamicSlice_eq_extract _ D _ _ _ (fitsD k) (start4_eq k), WordCmp.dynamicSlice_eq_extract _ G _ _ _ (fitsG k) (start5_eq k)]
  pointwise!

/-- What a trip puts in its chunk. -/
def tripOut (A Q : FVec Ideal S32x4x8x64x128 .f32) (N : IVec S_ 32) (S : FVec Ideal S4x8x128x128 .f32) : FVec Ideal S1x4x8x64x128 .f32 :=
  broadcastInDim S1x4x8x64x128 ![1, 2, 3, 4] bcast_S4x8x64x128_S1x4x8x64x128_1_2_3_4
    (addf (shapeCast S4x8x64x128 (Host.dynamicSlice S1x4x8x64x128 A (start5 N) sliceFits_S32x4x8x64x128_S1x4x8x64x128) shapeCasts_S1x4x8x64x128_S4x8x64x128)
      (Host.dotGeneral dot_S4x8x64x128_S4x8x128x128_S4x8x64x128_3_2_2_3_01_01 none (shapeCast S4x8x64x128 (Host.dynamicSlice S1x4x8x64x128 Q (start5 N) sliceFits_S32x4x8x64x128_S1x4x8x64x128) shapeCasts_S1x4x8x64x128_S4x8x64x128) S))

theorem tripOut_at (A Q : FVec Ideal S32x4x8x64x128 .f32) (S : FVec Ideal S4x8x128x128 .f32) (k : Fin 32) (b : Fin 4) (h : Fin 8) (s : Fin 64) (e : Fin 128) :
    tripOut A Q (fun _ => BitVec.ofNat 32 k.val) S (ix5 0 b h s e) = A (ix5 k b h s e) + ∑ d, Q (ix5 k b h s d) * S (ix4 b h d e) := by
  unfold tripOut
  rw [WordCmp.dynamicSlice_eq_extract _ A _ _ _ (fitsO k) (start5_eq k), WordCmp.dynamicSlice_eq_extract _ Q _ _ _ (fitsO k) (start5_eq k)]
  pointwise!

/-- The outputs after a trip. -/
def stepOut (A Q : FVec Ideal S32x4x8x64x128 .f32) (N : IVec S_ 32) (S : FVec Ideal S4x8x128x128 .f32) (O : FVec Ideal S32x4x8x64x128 .f32) : FVec Ideal S32x4x8x64x128 .f32 :=
  Host.dynamicUpdateSlice O (tripOut A Q N S) (start5 N) updateFits_S32x4x8x64x128_S1x4x8x64x128

theorem put_at (O : FVec Ideal S32x4x8x64x128 .f32) (T : FVec Ideal S1x4x8x64x128 .f32) (k n : Fin 32) (b : Fin 4) (h : Fin 8) (s : Fin 64) (e : Fin 128) :
    updateSlice O T ![k.val, 0, 0, 0, 0] (fitsO k) (ix5 n b h s e) = if n = k then T (ix5 0 b h s e) else O (ix5 n b h s e) := by
  by_cases hn : n = k
  · subst hn
    rw [if_pos rfl]
    pointwise
    rw [dif_pos ⟨le_refl _, Nat.lt_succ_self _⟩]
    exact congrArg T (congrArg (fun z : Fin 1 => ix5 z b h s e) (Subsingleton.elim _ _))
  · rw [if_neg hn]
    have hn' : n.val ≠ k.val := fun h => hn (Fin.ext h)
    pointwise
    rw [dif_neg (by omega)]

theorem stepOut_at (A Q : FVec Ideal S32x4x8x64x128 .f32) (S : FVec Ideal S4x8x128x128 .f32) (O : FVec Ideal S32x4x8x64x128 .f32) (k n : Fin 32) (b : Fin 4) (h : Fin 8) (s : Fin 64) (e : Fin 128) :
    stepOut A Q (fun _ => BitVec.ofNat 32 k.val) S O (ix5 n b h s e)
      = if n = k then A (ix5 k b h s e) + ∑ d, Q (ix5 k b h s d) * S (ix4 b h d e) else O (ix5 n b h s e) := by
  unfold stepOut
  rw [WordCmp.dynamicUpdateSlice_eq_update _ _ _ _ _ (fitsO k) (start5_eq k), put_at, tripOut_at]

theorem step_state (V0 : Valuation τ sig (Elt Ideal)) : step_main_v72_5 V0
    = stepState (V0 (Proc.devRef .tc main_v72_0)) (V0 (Proc.devRef .tc main_v72_1)) (V0 (Proc.devRef .tc main_v72_4)) (V0 (Proc.devRef .tc main_v72_5)) := rfl

theorem step_out (V0 : Valuation τ sig (Elt Ideal)) : step_main_v72_6 V0
    = stepOut (V0 (Proc.devRef .tc main_v72_3)) (V0 (Proc.devRef .tc main_v72_2)) (V0 (Proc.devRef .tc main_v72_4)) (V0 (Proc.devRef .tc main_v72_5)) (V0 (Proc.devRef .tc main_v72_6)) := by
  unfold step_main_v72_6 stepOut tripOut
  rfl

theorem step_count (k : ℕ) : addi (fun _ => BitVec.ofNat 32 k : IVec S_ 32) (constantI S_ 32 1#32) = fun _ => BitVec.ofNat 32 (k + 1) := by
  funext i
  exact (BitVec.ofNat_add k 1).symm

/-- The trips of the loop from contents `V0`: the state follows the recursion of `st`, and each trip fills its own chunk of the outputs. -/
theorem trips (V0 : Valuation τ sig (Elt Ideal)) (D : FVec Ideal S32x4x8x128 .f32) (G : FVec Ideal S32x4x8x128x128 .f32) (Q A : FVec Ideal S32x4x8x64x128 .f32)
    (h0 : V0 (Proc.devRef .tc main_v72_0) = D) (h1 : V0 (Proc.devRef .tc main_v72_1) = G) (h2 : V0 (Proc.devRef .tc main_v72_2) = Q)
    (h3 : V0 (Proc.devRef .tc main_v72_3) = A) (h4 : V0 (Proc.devRef .tc main_v72_4) = fun _ => BitVec.ofNat 32 0)
    (st : ℕ → FVec Ideal S4x8x128x128 .f32) (h5 : V0 (Proc.devRef .tc main_v72_5) = st 0)
    (hst : ∀ (k : Fin 32) (b : Fin 4) (h : Fin 8) (d e : Fin 128), st (k.val + 1) (ix4 b h d e) = D (ix4 k b h d) * st k.val (ix4 b h d e) + G (ix5 k b h d e)) :
    ∀ k, k ≤ 32 → (STEP^[k] V0) (Proc.devRef .tc main_v72_0) = D ∧ (STEP^[k] V0) (Proc.devRef .tc main_v72_1) = G ∧ (STEP^[k] V0) (Proc.devRef .tc main_v72_2) = Q
      ∧ (STEP^[k] V0) (Proc.devRef .tc main_v72_3) = A ∧ ((STEP^[k] V0) (Proc.devRef .tc main_v72_4) = fun _ => BitVec.ofNat 32 k)
      ∧ (STEP^[k] V0) (Proc.devRef .tc main_v72_5) = st k
      ∧ ∀ (n : Fin 32) (b : Fin 4) (h : Fin 8) (s : Fin 64) (e : Fin 128), n.val < k → (STEP^[k] V0) (Proc.devRef .tc main_v72_6) (ix5 n b h s e)
          = A (ix5 n b h s e) + ∑ d, Q (ix5 n b h s d) * st n.val (ix4 b h d e)
  | 0, _ => ⟨h0, h1, h2, h3, h4, h5, fun n b h s e hn => absurd hn (Nat.not_lt_zero _)⟩
  | k + 1, hk => by
    obtain ⟨i0, i1, i2, i3, i4, i5, i6⟩ := trips V0 D G Q A h0 h1 h2 h3 h4 st h5 hst k (by omega)
    rw [Function.iterate_succ_apply']
    generalize STEP^[k] V0 = V at i0 i1 i2 i3 i4 i5 i6 ⊢
    refine ⟨(STEP_main_v72_0 V).trans i0, (STEP_main_v72_1 V).trans i1, (STEP_main_v72_2 V).trans i2, (STEP_main_v72_3 V).trans i3, ?_, ?_, ?_⟩
    · rw [STEP_main_v72_4]
      unfold step_main_v72_4
      rw [i4]
      exact step_count k
    · rw [STEP_main_v72_5, step_state, i0, i1, i4, i5]
      funext i
      rw [eq_ix4 i]
      exact (stepState_at D G (st k) ⟨k, by omega⟩ _ _ _ _).trans (hst ⟨k, by omega⟩ _ _ _ _).symm
    · intro n b h s e hn
      rw [STEP_main_v72_6, step_out, i3, i2, i4, i5]
      refine (stepOut_at A Q (st k) _ ⟨k, by omega⟩ n b h s e).trans ?_
      split
      · next hnk =>
        obtain rfl : k = n.val := (congrArg Fin.val hnk).symm
        rfl
      · next hnk => exact i6 n b h s e (by have : n.val ≠ k := fun h => hnk (Fin.ext h); omega)

/-! ## What the loop starts from -/

/-- The stacked operands of the loop. -/
def stackD (f : FVec Ideal S4x2048x8x128 .f32) : FVec Ideal S32x4x8x128 .f32 := transpose S32x4x8x128 [2, 0, 1, 3] (Host.exp (last f)) transposes_S4x8x32x128_S32x4x8x128_2_0_1_3
def stackG (f v : FVec Ideal S4x2048x8x128 .f32) : FVec Ideal S32x4x8x128x128 .f32 := transpose S32x4x8x128x128 [2, 0, 1, 3, 4] (gain f v) transposes_S4x8x32x128x128_S32x4x8x128x128_2_0_1_3_4
def stackQ (q f : FVec Ideal S4x2048x8x128 .f32) : FVec Ideal S32x4x8x64x128 .f32 := transpose S32x4x8x64x128 [2, 0, 1, 3, 4] (sq q f) transposes_S4x8x32x64x128_S32x4x8x64x128_2_0_1_3_4
def stackA (q f v : FVec Ideal S4x2048x8x128 .f32) : FVec Ideal S32x4x8x64x128 .f32 := transpose S32x4x8x64x128 [2, 0, 1, 3, 4] (intra q f v) transposes_S4x8x32x64x128_S32x4x8x64x128_2_0_1_3_4

theorem stackD_at (f : FVec Ideal S4x2048x8x128 .f32) (n : Fin 32) (b : Fin 4) (h : Fin 8) (d : Fin 128) : stackD f (ix4 n b h d) = Ideal.exp (last f (ix4 b h n d)) := by
  pointwise! [stackD]
theorem stackG_at (f v : FVec Ideal S4x2048x8x128 .f32) (n : Fin 32) (b : Fin 4) (h : Fin 8) (d e : Fin 128) : stackG f v (ix5 n b h d e) = gain f v (ix5 b h n d e) := by
  pointwise! [stackG]
theorem stackQ_at (q f : FVec Ideal S4x2048x8x128 .f32) (n : Fin 32) (b : Fin 4) (h : Fin 8) (s : Fin 64) (e : Fin 128) : stackQ q f (ix5 n b h s e) = sq q f (ix5 b h n s e) := by
  pointwise! [stackQ]
theorem stackA_at (q f v : FVec Ideal S4x2048x8x128 .f32) (n : Fin 32) (b : Fin 4) (h : Fin 8) (s : Fin 64) (e : Fin 128) : stackA q f v (ix5 n b h s e) = intra q f v (ix5 b h n s e) := by
  pointwise! [stackA]

end Cert.RefHgrnIdeal.Final
-- ==== Proof.HgrnEntry.lean ====
module

public import proofs.«01_k».proof.Proof.HgrnLoop
public import proofs.«01_k».proof.Proof.Gen.RefHgrnIdeal.Run
public import Idealize.ShloMosaic.Lib.Pipeline.ValueKit
public import Idealize.ShloMosaic.Lib.Pointwise
public import Idealize.ShloMosaic.Lib.Claim
public import Idealize.ShloMosaic.Lib.WordCmp

@[expose] public section

set_option maxRecDepth 65536

noncomputable section

open Idealize.ShloMosaic Idealize.ShloMosaic.TcCoe Idealize.SL.Sem

open Idealize.ShloMosaic.StableHlo

namespace Cert.RefHgrnIdeal.Final

open Cert.RefHgrnIdeal Cert.RefHgrnIdeal.Gen Cert.RefHgrnIdeal.Value Cert.Rows Cert.Recur Cert.RunningSum

/-! ## The operations before the loop, stretch by stretch -/

section stretches

variable (V : Valuation τ sig (Elt Ideal))

/-- The first layer's running sums, by head and feature. -/
def headsOf (Y : FVec Ideal S2x1024 .f32) : FVec Ideal S8x128 .f32 :=
  shapeCast _ (shapeCast _ (extractStridedSlice S1x1024 ![0, 0] Y slices_S2x1024_S1x1024_0_0) shapeCasts_S1x1024_S1024) shapeCasts_S1024_S8x128

/-- The forget gates, from the running sums of the softmax. -/
def gatesOf (Y : FVec Ideal S2x1024 .f32) (T : FVec Ideal S4x2048x8x128 .f32) : FVec Ideal S4x2048x8x128 .f32 :=
  addf (broadcastInDim S4x2048x8x128 ![0, 1, 2, 3] bcast_S1x1x8x128_S4x2048x8x128_0_1_2_3 (broadcastInDim S1x1x8x128 ![2, 3] bcast_S8x128_S1x1x8x128_2_3 (headsOf Y)))
    (mulf (broadcastInDim S4x2048x8x128 ![0, 1, 2, 3] bcast_S1x1x8x128_S4x2048x8x128_0_1_2_3 (broadcastInDim S1x1x8x128 ![2, 3] bcast_S8x128_S1x1x8x128_2_3 (subf (broadcastInDim S8x128 ![] bcast_S_S8x128 (constant S_ .f32 0x3F800000#32)) (headsOf Y))))
      (Host.divf (broadcastInDim S4x2048x8x128 ![] bcast_S_S4x2048x8x128 (constant S_ .f32 0x3F800000#32)) (addf (broadcastInDim S4x2048x8x128 ![] bcast_S_S4x2048x8x128 (constant S_ .f32 0x3F800000#32)) (Host.exp (Host.negf T)))))

/-- The running sums of the softmax over the layers. -/
def sums (X : FVec Ideal S2x1024 .f32) : FVec Ideal S2x1024 .f32 :=
  Host.reduceWindowAdd ![2, 1] ![1, 1] ![1, 0] ![0, 0] (soft X) (broadcastInDim S_ ![] bcast_S_S_ (constant S_ .f32 0x00000000#32)) reduceWindows_S2x1024_S2x1024_w2s1p1_0_w1s1p0_0 h_S_

theorem gatesOf_sums (X : FVec Ideal S2x1024 .f32) (T : FVec Ideal S4x2048x8x128 .f32) : gatesOf (sums X) T = gates X T := rfl

/-- The printed causal mask. -/
def causal : IVec S64x64 1 :=
  select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))

/-- The scaled keys. -/
def sk (f : FVec Ideal S4x2048x8x128 .f32) : FVec Ideal S4x8x32x64x128 .f32 := mulf (kin f) (Host.exp (Host.negf (csum f)))

theorem zero_v0 : after hostOps0 V (Proc.devRef .tc main_v0) = broadcastInDim S4x8x128x128 ![] bcast_S_S4x8x128x128 (constant (F := Ideal) S_ .f32 0x00000000#32) := by
  after_results
theorem cols_v2 : after hostOps0 V (Proc.devRef .tc main_v2) = cols 0 slices_S8192x11264_S8192x1024_0_0 (V (Proc.devRef .tc main_arg0)) := by
  after_results
  rfl
theorem cols_v4 : after hostOps0 V (Proc.devRef .tc main_v4) = cols 1024 slices_S8192x11264_S8192x1024_0_1024 (V (Proc.devRef .tc main_arg0)) := by
  after_results
  rfl
theorem cols_v6 : after hostOps0 V (Proc.devRef .tc main_v6) = cols 2048 slices_S8192x11264_S8192x1024_0_2048 (V (Proc.devRef .tc main_arg0)) := by
  after_results
  rfl
theorem soft_v17 : after hostOps0 V (Proc.devRef .tc main_v17) = soft (V (Proc.devRef .tc main_arg1)) := by
  after_results
  rfl
theorem sums_v18 (X : FVec Ideal S2x1024 .f32) (hv17 : V (Proc.devRef .tc main_v17) = soft X) : after hostOps0_1 V (Proc.devRef .tc main_v18) = sums X := by
  after_results
  rw [hv17]
  rfl
theorem blk_v40 (q : FVec Ideal S4x2048x8x128 .f32) (hv2 : V (Proc.devRef .tc main_v2) = q) : after hostOps0_2 V (Proc.devRef .tc main_v40) = blk q := by
  after_results
  rw [hv2]
  rfl
theorem kin_v42 (Y : FVec Ideal S2x1024 .f32) (t : FVec Ideal S4x2048x8x128 .f32) (hv18 : V (Proc.devRef .tc main_v18) = Y) (hv4 : V (Proc.devRef .tc main_v4) = t) : after hostOps0_2 V (Proc.devRef .tc main_v42) = kin (gatesOf Y t) := by
  after_results
  rw [hv18, hv4]
  rfl
theorem blk_v44 (v : FVec Ideal S4x2048x8x128 .f32) (hv6 : V (Proc.devRef .tc main_v6) = v) : after hostOps0_2 V (Proc.devRef .tc main_v44) = blk v := by
  after_results
  rw [hv6]
  rfl
theorem log_v46 (Y : FVec Ideal S2x1024 .f32) (t : FVec Ideal S4x2048x8x128 .f32) (hv18 : V (Proc.devRef .tc main_v18) = Y) (hv4 : V (Proc.devRef .tc main_v4) = t) : after hostOps0_2 V (Proc.devRef .tc main_v46) = blk (Host.log (gatesOf Y t)) := by
  after_results
  rw [hv18, hv4]
  rfl
theorem csum_v47 (f : FVec Ideal S4x2048x8x128 .f32) (hv46 : V (Proc.devRef .tc main_v46) = blk (Host.log f)) : after hostOps0_3 V (Proc.devRef .tc main_v47) = csum f := by
  after_results
  rw [hv46]
  rfl
theorem sq_v49 (q f : FVec Ideal S4x2048x8x128 .f32) (hv40 : V (Proc.devRef .tc main_v40) = blk q) (hv47 : V (Proc.devRef .tc main_v47) = csum f) : after hostOps0_4 V (Proc.devRef .tc main_v49) = sq q f := by
  after_results
  rw [hv40, hv47]
  rfl
theorem sk_v52 (f : FVec Ideal S4x2048x8x128 .f32) (hv42 : V (Proc.devRef .tc main_v42) = kin f) (hv47 : V (Proc.devRef .tc main_v47) = csum f) : after hostOps0_4 V (Proc.devRef .tc main_v52) = sk f := by
  after_results
  rw [hv42, hv47]
  rfl
theorem ones_v53 : after hostOps0_4 V (Proc.devRef .tc main_v53) = broadcastInDim S64x64 ![] bcast_S_S64x64 (constantI S_ 1 1#1) := by
  after_results
theorem causal_v54 (hv53 : V (Proc.devRef .tc main_v53) = broadcastInDim S64x64 ![] bcast_S_S64x64 (constantI S_ 1 1#1)) : after hostOps0_5 V (Proc.devRef .tc main_v54) = causal := by
  after_results
  rw [hv53]
  rfl
theorem dot_v55 (q f : FVec Ideal S4x2048x8x128 .f32) (hv49 : V (Proc.devRef .tc main_v49) = sq q f) (hv52 : V (Proc.devRef .tc main_v52) = sk f) : after hostOps0_6 V (Proc.devRef .tc main_v55) = Host.dotGeneral dot_S4x8x32x64x128_S4x8x32x64x128_S4x8x32x64x64_4_4_3_3_012_012 none (sq q f) (sk f) := by
  after_results
  rw [hv49, hv52]
theorem zero_cst : after hostOps0_6 V (Proc.devRef .tc main_cst_7) = constant (F := Ideal) S_ .f32 0x00000000#32 := by
  after_results
theorem scores_v56 (q f : FVec Ideal S4x2048x8x128 .f32) (hv54 : V (Proc.devRef .tc main_v54) = causal) (hv55 : V (Proc.devRef .tc main_v55) = Host.dotGeneral dot_S4x8x32x64x128_S4x8x32x64x128_S4x8x32x64x64_4_4_3_3_012_012 none (sq q f) (sk f)) (hcst_7 : V (Proc.devRef .tc main_cst_7) = constant (F := Ideal) S_ .f32 0x00000000#32) : after hostOps0_7 V (Proc.devRef .tc main_v56) = scores q f := by
  after_results
  rw [hv54, hv55, hcst_7]
  rfl
theorem stack_0 (f : FVec Ideal S4x2048x8x128 .f32) (hv47 : V (Proc.devRef .tc main_v47) = csum f) : after hostOps0_8 V (Proc.devRef .tc main_v72_0) = stackD f := by
  after_results
  rw [hv47]
  rfl
theorem stack_1 (f v : FVec Ideal S4x2048x8x128 .f32) (hv47 : V (Proc.devRef .tc main_v47) = csum f) (hv42 : V (Proc.devRef .tc main_v42) = kin f) (hv44 : V (Proc.devRef .tc main_v44) = blk v) : after hostOps0_8 V (Proc.devRef .tc main_v72_1) = stackG f v := by
  after_results
  rw [hv47, hv42, hv44]
  rfl
theorem stack_2 (q f : FVec Ideal S4x2048x8x128 .f32) (hv49 : V (Proc.devRef .tc main_v49) = sq q f) : after hostOps0_8 V (Proc.devRef .tc main_v72_2) = stackQ q f := by
  after_results
  rw [hv49]
  rfl
theorem stack_3 (q f v : FVec Ideal S4x2048x8x128 .f32) (hv56 : V (Proc.devRef .tc main_v56) = scores q f) (hv44 : V (Proc.devRef .tc main_v44) = blk v) : after hostOps0_8 V (Proc.devRef .tc main_v72_3) = stackA q f v := by
  after_results
  rw [hv56, hv44]
  rfl
theorem stack_5 : after hostOps0_8 V (Proc.devRef .tc main_v72_5) = V (Proc.devRef .tc main_v0) := by
  after_results
  rfl
theorem keep_1 (r : Ref sig .tc) (h : r ∉ hostOps0_1_W) : after hostOps0_1 V (Proc.devRef .tc r) = V (Proc.devRef .tc r) := after_of_writes_sub hostOps0_1 V hostOps0_1_writes h
theorem keep_2 (r : Ref sig .tc) (h : r ∉ hostOps0_2_W) : after hostOps0_2 V (Proc.devRef .tc r) = V (Proc.devRef .tc r) := after_of_writes_sub hostOps0_2 V hostOps0_2_writes h
theorem keep_3 (r : Ref sig .tc) (h : r ∉ hostOps0_3_W) : after hostOps0_3 V (Proc.devRef .tc r) = V (Proc.devRef .tc r) := after_of_writes_sub hostOps0_3 V hostOps0_3_writes h
theorem keep_4 (r : Ref sig .tc) (h : r ∉ hostOps0_4_W) : after hostOps0_4 V (Proc.devRef .tc r) = V (Proc.devRef .tc r) := after_of_writes_sub hostOps0_4 V hostOps0_4_writes h
theorem keep_5 (r : Ref sig .tc) (h : r ∉ hostOps0_5_W) : after hostOps0_5 V (Proc.devRef .tc r) = V (Proc.devRef .tc r) := after_of_writes_sub hostOps0_5 V hostOps0_5_writes h
theorem keep_6 (r : Ref sig .tc) (h : r ∉ hostOps0_6_W) : after hostOps0_6 V (Proc.devRef .tc r) = V (Proc.devRef .tc r) := after_of_writes_sub hostOps0_6 V hostOps0_6_writes h
theorem keep_7 (r : Ref sig .tc) (h : r ∉ hostOps0_7_W) : after hostOps0_7 V (Proc.devRef .tc r) = V (Proc.devRef .tc r) := after_of_writes_sub hostOps0_7 V hostOps0_7_writes h
theorem keep_8 (r : Ref sig .tc) (h : r ∉ hostOps0_8_W) : after hostOps0_8 V (Proc.devRef .tc r) = V (Proc.devRef .tc r) := after_of_writes_sub hostOps0_8 V hostOps0_8_writes h

end stretches
variable (m : (ℓ : Loc nD τ sig) → Buf (Elt Ideal) ℓ)

/-- The columns of the projection the recurrence reads: queries, gate logits, values, output gates. -/
abbrev colsQ (c : Dev nD) : FVec Ideal S4x2048x8x128 .f32 := cols 0 slices_S8192x11264_S8192x1024_0_0 (m ((c.tc : Thread nD τ).loc main_arg0))
abbrev colsF (c : Dev nD) : FVec Ideal S4x2048x8x128 .f32 := cols 1024 slices_S8192x11264_S8192x1024_0_1024 (m ((c.tc : Thread nD τ).loc main_arg0))
abbrev colsV (c : Dev nD) : FVec Ideal S4x2048x8x128 .f32 := cols 2048 slices_S8192x11264_S8192x1024_0_2048 (m ((c.tc : Thread nD τ).loc main_arg0))
abbrev colsG (c : Dev nD) : FVec Ideal S4x2048x8x128 .f32 := cols 3072 slices_S8192x11264_S8192x1024_0_3072 (m ((c.tc : Thread nD τ).loc main_arg0))
abbrev gatesA (c : Dev nD) : FVec Ideal S4x2048x8x128 .f32 := gates (m ((c.tc : Thread nD τ).loc main_arg1)) (colsF m c)

/-- The contents after the first stretches, up to the chunks' operands. -/
def ready (c : Dev nD) : Valuation τ sig (Elt Ideal) := after hostOps0_2 (after hostOps0_1 (after hostOps0 (entryContents ([] : List (List (HloOp τ sig (Elt Ideal)))) m c)))

/-- The contents after the masked scores. -/
def scored (c : Dev nD) : Valuation τ sig (Elt Ideal) := after hostOps0_7 (after hostOps0_6 (after hostOps0_5 (after hostOps0_4 (after hostOps0_3 (ready m c)))))

theorem entry_eq (c : Dev nD) : entryContents preI m c = after hostOps0_8 (scored m c) := rfl

theorem ready_v18 (c : Dev nD) : after hostOps0_1 (after hostOps0 (entryContents ([] : List (List (HloOp τ sig (Elt Ideal)))) m c)) (Proc.devRef .tc main_v18) = sums (m ((c.tc : Thread nD τ).loc main_arg1)) :=
  sums_v18 _ _ (soft_v17 _)

theorem ready_v40 (c : Dev nD) : ready m c (Proc.devRef .tc main_v40) = blk (colsQ m c) :=
  blk_v40 _ _ ((keep_1 _ _ (by decide)).trans (cols_v2 _))
theorem ready_v42 (c : Dev nD) : ready m c (Proc.devRef .tc main_v42) = kin (gatesA m c) :=
  kin_v42 _ _ _ (ready_v18 m c) ((keep_1 _ _ (by decide)).trans (cols_v4 _))
theorem ready_v44 (c : Dev nD) : ready m c (Proc.devRef .tc main_v44) = blk (colsV m c) :=
  blk_v44 _ _ ((keep_1 _ _ (by decide)).trans (cols_v6 _))
theorem ready_v46 (c : Dev nD) : ready m c (Proc.devRef .tc main_v46) = blk (Host.log (gatesA m c)) :=
  log_v46 _ _ _ (ready_v18 m c) ((keep_1 _ _ (by decide)).trans (cols_v4 _))
theorem ready_v0 (c : Dev nD) : ready m c (Proc.devRef .tc main_v0) = broadcastInDim S4x8x128x128 ![] bcast_S_S4x8x128x128 (constant (F := Ideal) S_ .f32 0x00000000#32) :=
  (keep_2 _ _ (by decide)).trans ((keep_1 _ _ (by decide)).trans (zero_v0 _))

/-- A buffer the stretches after the scaled operands do not write keeps its contents to the end of them. -/
theorem late (V : Valuation τ sig (Elt Ideal)) (r : Ref sig .tc) (h5 : r ∉ hostOps0_5_W) (h6 : r ∉ hostOps0_6_W) (h7 : r ∉ hostOps0_7_W) :
    after hostOps0_7 (after hostOps0_6 (after hostOps0_5 V)) (Proc.devRef .tc r) = V (Proc.devRef .tc r) :=
  (keep_7 _ _ h7).trans ((keep_6 _ _ h6).trans (keep_5 _ _ h5))

theorem scored_v47 (c : Dev nD) : scored m c (Proc.devRef .tc main_v47) = csum (gatesA m c) :=
  (late _ _ (by decide) (by decide) (by decide)).trans ((keep_4 _ _ (by decide)).trans (csum_v47 _ _ (ready_v46 m c)))
theorem scored_v42 (c : Dev nD) : scored m c (Proc.devRef .tc main_v42) = kin (gatesA m c) :=
  (late _ _ (by decide) (by decide) (by decide)).trans ((keep_4 _ _ (by decide)).trans ((keep_3 _ _ (by decide)).trans (ready_v42 m c)))
theorem scored_v44 (c : Dev nD) : scored m c (Proc.devRef .tc main_v44) = blk (colsV m c) :=
  (late _ _ (by decide) (by decide) (by decide)).trans ((keep_4 _ _ (by decide)).trans ((keep_3 _ _ (by decide)).trans (ready_v44 m c)))
theorem scored_v0 (c : Dev nD) : scored m c (Proc.devRef .tc main_v0) = broadcastInDim S4x8x128x128 ![] bcast_S_S4x8x128x128 (constant (F := Ideal) S_ .f32 0x00000000#32) :=
  (late _ _ (by decide) (by decide) (by decide)).trans ((keep_4 _ _ (by decide)).trans ((keep_3 _ _ (by decide)).trans (ready_v0 m c)))

theorem scaled_v49 (c : Dev nD) : after hostOps0_4 (after hostOps0_3 (ready m c)) (Proc.devRef .tc main_v49) = sq (colsQ m c) (gatesA m c) :=
  sq_v49 _ _ _ ((keep_3 _ _ (by decide)).trans (ready_v40 m c)) (csum_v47 _ _ (ready_v46 m c))
theorem scaled_v52 (c : Dev nD) : after hostOps0_4 (after hostOps0_3 (ready m c)) (Proc.devRef .tc main_v52) = sk (gatesA m c) :=
  sk_v52 _ _ ((keep_3 _ _ (by decide)).trans (ready_v42 m c)) (csum_v47 _ _ (ready_v46 m c))
theorem scored_v49 (c : Dev nD) : scored m c (Proc.devRef .tc main_v49) = sq (colsQ m c) (gatesA m c) :=
  (late _ _ (by decide) (by decide) (by decide)).trans (scaled_v49 m c)
theorem scored_v56 (c : Dev nD) : scored m c (Proc.devRef .tc main_v56) = scores (colsQ m c) (gatesA m c) :=
  scores_v56 _ _ _ ((keep_6 _ _ (by decide)).trans (causal_v54 _ (ones_v53 _)))
    (dot_v55 _ _ _ ((keep_5 _ _ (by decide)).trans (scaled_v49 m c)) ((keep_5 _ _ (by decide)).trans (scaled_v52 m c))) (zero_cst _)

theorem entryD (c : Dev nD) : entryContents preI m c (Proc.devRef .tc main_v72_0) = stackD (gatesA m c) := stack_0 _ _ (scored_v47 m c)
theorem entryG (c : Dev nD) : entryContents preI m c (Proc.devRef .tc main_v72_1) = stackG (gatesA m c) (colsV m c) := stack_1 _ _ _ (scored_v47 m c) (scored_v42 m c) (scored_v44 m c)
theorem entryQ (c : Dev nD) : entryContents preI m c (Proc.devRef .tc main_v72_2) = stackQ (colsQ m c) (gatesA m c) := stack_2 _ _ _ (scored_v49 m c)
theorem entryA (c : Dev nD) : entryContents preI m c (Proc.devRef .tc main_v72_3) = stackA (colsQ m c) (gatesA m c) (colsV m c) := stack_3 _ _ _ _ (scored_v56 m c) (scored_v44 m c)
theorem entryS (c : Dev nD) : entryContents preI m c (Proc.devRef .tc main_v72_5) = fun _ => (0 : EReal) := by
  refine ((stack_5 _).trans (scored_v0 m c)).trans (funext fun i => ?_)
  show Ideal.ofBits .f32 0#32 = 0
  pointwise

end Cert.RefHgrnIdeal.Final
-- ==== Proof.HgrnRefValue.lean ====
module

public import proofs.«01_k».proof.Proof.HgrnEntry
public import proofs.«01_k».proof.Proof.Gen.RefHgrnIdeal.Run
public import Idealize.ShloMosaic.Lib.Pipeline.ValueKit
public import Idealize.ShloMosaic.Lib.Pointwise
public import Idealize.ShloMosaic.Lib.Claim
public import Idealize.ShloMosaic.Lib.WordCmp

@[expose] public section

set_option maxRecDepth 65536

noncomputable section

open Idealize.ShloMosaic Idealize.ShloMosaic.TcCoe Idealize.SL.Sem

open Idealize.ShloMosaic.StableHlo

namespace Cert.RefHgrnIdeal.Final

open Cert.RefHgrnIdeal Cert.RefHgrnIdeal.Gen Cert.RefHgrnIdeal.Value Cert.Rows Cert.Recur Cert.RunningSum

/-! ## The results, from the arguments -/

/-- The first row of chunk `n` of batch `b`. -/
def first (b : Fin 4) (n : ℕ) : ℕ := b.val * 2048 + n % 32 * 64

theorem first_le (b : Fin 4) (n : ℕ) : first b n + 64 ≤ 8192 := by
  unfold first
  have := b.isLt
  have := Nat.mod_lt n (by decide : 0 < 32)
  omega

/-- The rows of chunk `n` of batch `b` of the projection, by feature of head `h` after column `o`. -/
def chunk (U : FVec Ideal S8192x11264 .f32) (o : ℕ) (ho : o + 1024 ≤ 11264) (b : Fin 4) (h : Fin 8) (n : ℕ) : Fin 64 → Fin 128 → EReal :=
  col U (first b n) o (first_le b n) ho h

/-- The state before chunk `n`. -/
def stateSpec (U : FVec Ideal S8192x11264 .f32) (X : FVec Ideal S2x1024 .f32) (b : Fin 4) (h : Fin 8) : ℕ → Fin 128 → Fin 128 → EReal
  | 0 => fun _ _ => 0
  | n + 1 => next (lbh X h) (chunk U 1024 (by omega) b h n) (chunk U 2048 (by omega) b h n) (stateSpec U X b h n)

/-- The result of row `s` of chunk `n`. -/
def resSpec (U : FVec Ideal S8192x11264 .f32) (X : FVec Ideal S2x1024 .f32) (w : FVec Ideal S1x128 .f32) (b : Fin 4) (h : Fin 8) (n : ℕ) (s : Fin 64) (e : Fin 128) : EReal :=
  res (out (lbh X h) (chunk U 0 (by omega) b h n) (chunk U 1024 (by omega) b h n) (chunk U 2048 (by omega) b h n) (stateSpec U X b h n))
    (fun e => w (ix2 0 e)) (chunk U 3072 (by omega) b h n) s e

theorem cols_chunk (o : ℕ) (ho : S8192x11264.Slices ![0, o] S8192x1024) (hb : o + 1024 ≤ 11264) (U : FVec Ideal S8192x11264 .f32) (b : Fin 4) (h : Fin 8) (n : Fin 32) (s : Fin 64) (d : Fin 128) :
    cols o ho U (ix4 b (pos n s) h d) = chunk U o hb b h n.val s d := by
  rw [cols_at o ho hb]
  unfold chunk col first
  refine congrArg U (congrArg (fun z => ix2 z _) (Fin.ext ?_))
  show b.val * 2048 + (n.val * 64 + s.val) = b.val * 2048 + n.val % 32 * 64 + s.val
  have := n.isLt
  omega

theorem gates_chunk (X : FVec Ideal S2x1024 .f32) (U : FVec Ideal S8192x11264 .f32) (b : Fin 4) (h : Fin 8) (n : Fin 32) (s : Fin 64) (d : Fin 128) :
    gates X (cols 1024 slices_S8192x11264_S8192x1024_0_1024 U) (ix4 b (pos n s) h d) = fgt (lbh X h d) (chunk U 1024 (by omega) b h n.val s d) := by
  rw [gates_at, cols_chunk _ _ (by omega)]

/-- The states before chunk `k`, as one array. -/
def states (U : FVec Ideal S8192x11264 .f32) (X : FVec Ideal S2x1024 .f32) (k : ℕ) : FVec Ideal S4x8x128x128 .f32 :=
  fun i => stateSpec U X (i 0) (i 1) k (i 2) (i 3)

/-- A trip's state stages, whatever the gates and values are. -/
theorem state_next (f v : FVec Ideal S4x2048x8x128 .f32) (b : Fin 4) (h : Fin 8) (n : Fin 32) (l : Fin 128 → EReal) (x v' : Fin 64 → Fin 128 → EReal) (S : Fin 128 → Fin 128 → EReal)
    (hf : ∀ s d, f (ix4 b (pos n s) h d) = fgt (l d) (x s d)) (hv : ∀ s e, v (ix4 b (pos n s) h e) = v' s e) (d e : Fin 128) :
    stackD f (ix4 n b h d) * S d e + stackG f v (ix5 n b h d e) = next l x v' S d e := by
  rw [stackD_at, stackG_at, gain_at]
  simp only [last_at, kin_at, csum_at, blk_at, hf, hv]
  rfl

/-- A trip's output stages, whatever the queries, gates and values are. -/
theorem output_out (q f v : FVec Ideal S4x2048x8x128 .f32) (b : Fin 4) (h : Fin 8) (n : Fin 32) (l : Fin 128 → EReal) (q' x v' : Fin 64 → Fin 128 → EReal) (S : Fin 128 → Fin 128 → EReal)
    (hq : ∀ s d, q (ix4 b (pos n s) h d) = q' s d) (hf : ∀ s d, f (ix4 b (pos n s) h d) = fgt (l d) (x s d)) (hv : ∀ s e, v (ix4 b (pos n s) h e) = v' s e) (s : Fin 64) (e : Fin 128) :
    stackA q f v (ix5 n b h s e) + ∑ d, stackQ q f (ix5 n b h s d) * S d e = out l q' x v' S s e := by
  simp only [stackA_at, stackQ_at]
  rw [intra_at]
  simp only [scores_at, sq_at, kin_at, csum_at, blk_at, hq, hf, hv]
  rfl

variable (m : (ℓ : Loc nD τ sig) → Buf (Elt Ideal) ℓ)

/-- The contents after the loop: the states before chunk 32, and every chunk's outputs. -/
theorem after_trips (c : Dev nD) : (STEP^[32] (entryContents preI m c)) (Proc.devRef .tc main_v72_5) = states (m ((c.tc : Thread nD τ).loc main_arg0)) (m ((c.tc : Thread nD τ).loc main_arg1)) 32
    ∧ ∀ (n : Fin 32) (b : Fin 4) (h : Fin 8) (s : Fin 64) (e : Fin 128), (STEP^[32] (entryContents preI m c)) (Proc.devRef .tc main_v72_6) (ix5 n b h s e)
      = stackA (colsQ m c) (gatesA m c) (colsV m c) (ix5 n b h s e) + ∑ d, stackQ (colsQ m c) (gatesA m c) (ix5 n b h s d)
        * stateSpec (m ((c.tc : Thread nD τ).loc main_arg0)) (m ((c.tc : Thread nD τ).loc main_arg1)) b h n.val d e := by
  have H := trips (entryContents preI m c) _ _ _ _ (entryD m c) (entryG m c) (entryQ m c) (entryA m c) (ctr_entry m c)
    (states (m ((c.tc : Thread nD τ).loc main_arg0)) (m ((c.tc : Thread nD τ).loc main_arg1))) (entryS m c)
    (fun k b h d e => (state_next _ _ b h k _ _ _ _ (fun s d => gates_chunk _ _ b h k s d) (fun s e => cols_chunk _ _ (by omega) _ b h k s e) d e).symm) 32 le_rfl
  exact ⟨H.2.2.2.2.2.1, fun n b h s e => H.2.2.2.2.2.2 n b h s e n.isLt⟩

/-- The outputs by batch, row and head. -/
def unstack (O : FVec Ideal S32x4x8x64x128 .f32) : FVec Ideal S4x2048x8x128 .f32 :=
  shapeCast _ (transpose S4x32x64x8x128 [1, 0, 3, 2, 4] O transposes_S32x4x8x64x128_S4x32x64x8x128_1_0_3_2_4) shapeCasts_S4x32x64x8x128_S4x2048x8x128

theorem unstack_at (O : FVec Ideal S32x4x8x64x128 .f32) (b : Fin 4) (h : Fin 8) (n : Fin 32) (s : Fin 64) (e : Fin 128) : unstack O (ix4 b (pos n s) h e) = O (ix5 n b h s e) := by
  pointwise! [unstack]
  blk_ext []

/-- A row's norm and gate read that row alone. -/
theorem res_congr {C C' : ℕ} {o : Fin C → Fin 128 → EReal} {o' : Fin C' → Fin 128 → EReal} {w : Fin 128 → EReal} {g : Fin C → Fin 128 → EReal} {g' : Fin C' → Fin 128 → EReal}
    {s : Fin C} {s' : Fin C'} {e : Fin 128} (ho : ∀ e, o s e = o' s' e) (hg : g s e = g' s' e) : res o w g s e = res o' w g' s' e := by
  unfold res
  rw [funext ho, hg]

/-- The result: the outputs' norm, gated. -/
def final (O : FVec Ideal S32x4x8x64x128 .f32) (U : FVec Ideal S8192x11264 .f32) (w : FVec Ideal S1x128 .f32) : FVec Ideal S8192x1024 .bf16 :=
  truncf .bf16 (shapeCast _ (mulf (mulf (mulf (unstack O) (broadcastInDim S4x2048x8x128 ![0, 1, 2, 3] bcast_S4x2048x8x1_S4x2048x8x128_0_1_2_3 (Host.rsqrt (addf (Host.divf (broadcastInDim S4x2048x8x1 ![0, 1, 2] bcast_S4x2048x8_S4x2048x8x1_0_1_2 (Host.reduceAdd (mulf (unstack O) (unstack O)) (constant S_ .f32 0x00000000#32) reducesTo_S4x2048x8x128_S4x2048x8_d3 h_S_)) (broadcastInDim S4x2048x8x1 ![] bcast_S_S4x2048x8x1 (constant S_ .f32 0x43000000#32))) (broadcastInDim S4x2048x8x1 ![] bcast_S_S4x2048x8x1 (constant S_ .f32 0x358637BD#32))))))
    (broadcastInDim S4x2048x8x128 ![0, 1, 2, 3] bcast_S1x1x1x128_S4x2048x8x128_0_1_2_3 (broadcastInDim S1x1x1x128 ![3] bcast_S128_S1x1x1x128_3 (shapeCast _ w shapeCasts_S1x128_S128))))
    (mulf (cols 3072 slices_S8192x11264_S8192x1024_0_3072 U) (Host.divf (broadcastInDim S4x2048x8x128 ![] bcast_S_S4x2048x8x128 (constant S_ .f32 0x3F800000#32)) (addf (broadcastInDim S4x2048x8x128 ![] bcast_S_S4x2048x8x128 (constant S_ .f32 0x3F800000#32)) (Host.exp (Host.negf (cols 3072 slices_S8192x11264_S8192x1024_0_3072 U))))))) shapeCasts_S4x2048x8x128_S8192x1024) bitsLt_bf16_f32

theorem final_at (O : FVec Ideal S32x4x8x64x128 .f32) (U : FVec Ideal S8192x11264 .f32) (w : FVec Ideal S1x128 .f32) (b : Fin 4) (t : Fin 2048) (h : Fin 8) (e : Fin 128) :
    final O U w (ix2 ⟨b.val * 2048 + t.val, by omega⟩ ⟨h.val * 128 + e.val, by omega⟩)
      = res (fun t e => unstack O (ix4 b t h e)) (fun e => w (ix2 0 e)) (fun t e => cols 3072 slices_S8192x11264_S8192x1024_0_3072 U (ix4 b t h e)) t e := by
  pointwise! [final, res, rmsEntry, sigm]

theorem final_eq (V0 : Valuation τ sig (Elt Ideal)) : out_main_v94 V0 = final (V0 (Proc.devRef .tc main_v72_6)) (V0 (Proc.devRef .tc main_arg0)) (V0 (Proc.devRef .tc main_arg2)) := rfl

/-- The reference's state is the state before chunk 32. -/
theorem ref_state (c : Dev nD) : (STEP^[32] (entryContents preI m c)) (Proc.devRef .tc main_v72_5)
    = states (m ((c.tc : Thread nD τ).loc main_arg0)) (m ((c.tc : Thread nD τ).loc main_arg1)) 32 := (after_trips m c).1

/-- The result array, from the arguments. -/
def resArr (U : FVec Ideal S8192x11264 .f32) (X : FVec Ideal S2x1024 .f32) (w : FVec Ideal S1x128 .f32) : FVec Ideal S8192x1024 .bf16 :=
  fun i => resSpec U X w ⟨(i 0).val / 2048, by have : (i 0).val < 8192 := (i 0).isLt; omega⟩ ⟨(i 1).val / 128, by have : (i 1).val < 1024 := (i 1).isLt; omega⟩
    ((i 0).val % 2048 / 64) ⟨(i 0).val % 64, Nat.mod_lt _ (by decide)⟩ ⟨(i 1).val % 128, Nat.mod_lt _ (by decide)⟩

/-- The reference's result at a row of a chunk. -/
theorem ref_res (c : Dev nD) (b : Fin 4) (h : Fin 8) (n : Fin 32) (s : Fin 64) (e : Fin 128) :
    out_main_v94 (STEP^[32] (entryContents preI m c)) (ix2 ⟨b.val * 2048 + (pos n s).val, by omega⟩ ⟨h.val * 128 + e.val, by omega⟩)
      = resSpec (m ((c.tc : Thread nD τ).loc main_arg0)) (m ((c.tc : Thread nD τ).loc main_arg1)) (m ((c.tc : Thread nD τ).loc main_arg2)) b h n.val s e := by
  rw [final_eq, iter_main_arg0, iter_main_arg2, final_at]
  exact res_congr (fun e => ((unstack_at _ b h n s e).trans ((after_trips m c).2 n b h s e)).trans
    (output_out _ _ _ b h n _ _ _ _ _ (fun s d => cols_chunk _ _ (by omega) _ b h n s d) (fun s d => gates_chunk _ _ b h n s d) (fun s e => cols_chunk _ _ (by omega) _ b h n s e) s e))
    (cols_chunk _ _ (by omega) _ b h n s e)

theorem ref_resArr (c : Dev nD) : out_main_v94 (STEP^[32] (entryContents preI m c))
    = resArr (m ((c.tc : Thread nD τ).loc main_arg0)) (m ((c.tc : Thread nD τ).loc main_arg1)) (m ((c.tc : Thread nD τ).loc main_arg2)) := by
  funext i
  have h0 : (i 0).val < 8192 := (i 0).isLt
  have h1 : (i 1).val < 1024 := (i 1).isLt
  refine Eq.trans (congrArg _ ?_) (ref_res m c ⟨(i 0).val / 2048, by omega⟩ ⟨(i 1).val / 128, by omega⟩ ⟨(i 0).val % 2048 / 64, by omega⟩ ⟨(i 0).val % 64, Nat.mod_lt _ (by decide)⟩ ⟨(i 1).val % 128, Nat.mod_lt _ (by decide)⟩)
  funext a
  fin_cases a
  · exact Fin.ext (show (i 0).val = (i 0).val / 2048 * 2048 + ((i 0).val % 2048 / 64 * 64 + (i 0).val % 64) by omega)
  · exact Fin.ext (show (i 1).val = (i 1).val / 128 * 128 + (i 1).val % 128 by omega)

end Cert.RefHgrnIdeal.Final
-- ==== Proof.HgrnValue.lean ====
module

public import proofs.«01_k».proof.Proof.HgrnPoint
public import proofs.«01_k».proof.Proof.HgrnRefValue
public import proofs.«01_k».proof.Proof.Gen.HgrnIdeal.Frame
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.HgrnIdeal.Final

open Cert.HgrnIdeal Cert.HgrnIdeal.Gen Cert.Rows Cert.Recur Cert.RunningSum
open Cert.RefHgrnIdeal.Final (first first_le chunk stateSpec resSpec resArr states soft soft_at)

variable (m : (ℓ : Loc nD τ sig) → Buf (Elt Ideal) ℓ)

/-- The windows' block indices at a point. -/
theorem idx : ∀ t : Fin cfg0.N, win0_0.index t = ![t.val, 0] ∧ win0_1.index t = ![t.val, 1] ∧ win0_2.index t = ![t.val, 2] ∧ win0_3.index t = ![t.val, 3]
    ∧ win0_4.index t = ![0, 0] ∧ win0_5.index t = ![0, 0] ∧ win0_6.index t = ![t.val, 0] ∧ win0_7.index t = ![t.val / 8, 0, 0, 0] :=
  (by decide +kernel : ∀ t : Fin grid0.N, _)

theorem points (t : Fin cfg0.N) : t.val < 32 := lt_of_lt_of_eq t.isLt (show cfg0.N = 32 from N_0)

/-- The batch of a point. -/
def bat (t : Fin cfg0.N) : Fin 4 := ⟨t.val / 8, by have := points t; omega⟩

abbrev argU (c : Dev nD) : FVec Ideal S8192x11264 .f32 := m ((c : Thread nD τ).loc main_arg0)
abbrev argX (c : Dev nD) : FVec Ideal S2x1024 .f32 := m ((c : Thread nD τ).loc main_arg1)
abbrev argW (c : Dev nD) : FVec Ideal S1x128 .f32 := m ((c : Thread nD τ).loc main_arg2)

/-- The lower bound's row as the launch computes it. -/
def lbRow (X : FVec Ideal S2x1024 .f32) : FVec Ideal S1x1024 .f32 :=
  broadcastInDim S1x1024 ![1] bcast_S1024_S1x1024_1 (shapeCast S1024 (extractStridedSlice S1x1024 ![0, 0] (Host.reduceWindowAdd ![2, 1] ![1, 1] ![1, 0] ![0, 0] (soft X)
    (broadcastInDim S_ ![] bcast_S_S_ (constant S_ .f32 0x00000000#32)) reduceWindows_S2x1024_S2x1024_w2s1p1_0_w1s1p0_0 h_S_) slices_S2x1024_S1x1024_0_0) shapeCasts_S1x1024_S1024)

theorem lbRow_at (X : FVec Ideal S2x1024 .f32) (j : Fin 1024) : lbRow X (ix2 0 j) = bound X j := by
  pointwise! [lbRow]
  rw [cumsum2_first _ _ Cert.RefHgrnIdeal.Final.zero_at, soft_at]

/-- What the launch stages for the lower bounds and the norm weight. -/
theorem V14 (c : Dev nD) : V m c main_v14 = lbRow (argX m c) := by
  unfold V
  simp only [List.flatten_cons, List.flatten_nil, List.cons_append, List.nil_append]
  after_results
  try rfl

theorem V16 (c : Dev nD) : V m c main_v16 = broadcastInDim S1x128 ![1] bcast_S128_S1x128_1 (shapeCast S128 (argW m c) shapeCasts_S1x128_S128) := by
  unfold V
  simp only [List.flatten_cons, List.flatten_nil, List.cons_append, List.nil_append]
  after_results
  try rfl

theorem blk0 (c : Dev nD) (t : Fin cfg0.N) (s : Fin 256) (j : Fin 1024) :
    iblk m c 0 t (ix2 s j) = argU m c (ix2 ⟨t.val * 256 + s.val, by have := points t; omega⟩ ⟨0 + j.val, by omega⟩) := by
  blk_ext [iblk, V, idx t]

theorem blk1 (c : Dev nD) (t : Fin cfg0.N) (s : Fin 256) (j : Fin 1024) :
    iblk m c 1 t (ix2 s j) = argU m c (ix2 ⟨t.val * 256 + s.val, by have := points t; omega⟩ ⟨1024 + j.val, by omega⟩) := by
  blk_ext [iblk, V, idx t]

theorem blk2 (c : Dev nD) (t : Fin cfg0.N) (s : Fin 256) (j : Fin 1024) :
    iblk m c 2 t (ix2 s j) = argU m c (ix2 ⟨t.val * 256 + s.val, by have := points t; omega⟩ ⟨2048 + j.val, by omega⟩) := by
  blk_ext [iblk, V, idx t]

theorem blk3 (c : Dev nD) (t : Fin cfg0.N) (s : Fin 256) (j : Fin 1024) :
    iblk m c 3 t (ix2 s j) = argU m c (ix2 ⟨t.val * 256 + s.val, by have := points t; omega⟩ ⟨3072 + j.val, by omega⟩) := by
  blk_ext [iblk, V, idx t]

theorem blk4 (c : Dev nD) (t : Fin cfg0.N) (j : Fin 1024) :
    iblk m c 4 t (ix2 0 j) = bound (argX m c) j := by
  refine Eq.trans ?_ (lbRow_at (argX m c) j)
  rw [← V14 m c]
  blk_ext [iblk, idx t]

theorem blk5 (c : Dev nD) (t : Fin cfg0.N) (e : Fin 128) :
    iblk m c 5 t (ix2 0 e) = argW m c (ix2 0 e) := by
  refine Eq.trans (b := V m c main_v16 (ix2 0 e)) ?_ ?_
  · blk_ext [iblk, idx t]
  · rw [V16 m c]
    generalize argW m c = W
    pointwise

theorem fin (c : Dev nD) (t : Fin cfg0.N) (j : Fin 1024) : iblk m c 4 t (ix2 0 j) ≠ (⊤ : EReal) := by
  rw [blk4 m c t j]
  exact bound_ne_top _ _

/-- The rows of a block's chunk are a chunk of the point's batch. -/
theorem sub_chunk (U : FVec Ideal S8192x11264 .f32) (o : ℕ) (ho : o + 1024 ≤ 11264) (t : Fin cfg0.N) (X : FVec Ideal S256x1024 .f32)
    (hX : ∀ (s : Fin 256) (j : Fin 1024), X (ix2 s j) = U (ix2 ⟨t.val * 256 + s.val, by have := points t; omega⟩ ⟨o + j.val, by omega⟩)) (h : Fin 8) (k : ℕ) (hk : k < 4) :
    sub X h k = chunk U o ho (bat t) h (4 * (t.val % 8) + k) := by
  funext s d
  unfold sub chunk col first
  rw [hX]
  refine congrArg U (congrArg (fun z => ix2 z _) (Fin.ext ?_))
  show t.val * 256 + (k % 4 * 64 + s.val) = t.val / 8 * 2048 + (4 * (t.val % 8) + k) % 32 * 64 + s.val
  have := points t
  omega

theorem low_lbh (c : Dev nD) (t : Fin cfg0.N) (h : Fin 8) : low (iblk m c 4 t) h = lbh (argX m c) h := by
  funext d
  unfold low lbh
  rw [blk4 m c t]

/-- The states within a block, from the state before it. -/
theorem block_state (c : Dev nD) (t : Fin cfg0.N) (T : FVec Ideal S8x128x128 .f32)
    (hT : ∀ h d e, T (ix3 h e d) = stateSpec (argU m c) (argX m c) (bat t) h (4 * (t.val % 8)) d e) (h : Fin 8) :
    ∀ k ≤ 4, stateBlk (iblk m c 4 t) (iblk m c 1 t) (iblk m c 2 t) T h k = stateSpec (argU m c) (argX m c) (bat t) h (4 * (t.val % 8) + k)
  | 0, _ => by
    funext d e
    exact hT h d e
  | k + 1, hk => by
    show next _ _ _ (stateBlk (iblk m c 4 t) (iblk m c 1 t) (iblk m c 2 t) T h k) = next _ _ _ _
    rw [block_state c t T hT h k (by omega), low_lbh m c t h, sub_chunk _ 1024 (by omega) t _ (blk1 m c t) h k (by omega), sub_chunk _ 2048 (by omega) t _ (blk2 m c t) h k (by omega)]
    rfl

/-- The results within a block, from the state before it. -/
theorem block_res (c : Dev nD) (t : Fin cfg0.N) (T : FVec Ideal S8x128x128 .f32)
    (hT : ∀ h d e, T (ix3 h e d) = stateSpec (argU m c) (argX m c) (bat t) h (4 * (t.val % 8)) d e) (h : Fin 8) (k : ℕ) (hk : k < 4) (s : Fin 64) (e : Fin 128) :
    resBlk (iblk m c 4 t) (iblk m c 0 t) (iblk m c 1 t) (iblk m c 2 t) (iblk m c 3 t) (iblk m c 5 t) T h k s e
      = resSpec (argU m c) (argX m c) (argW m c) (bat t) h (4 * (t.val % 8) + k) s e := by
  unfold resBlk resSpec
  rw [block_state m c t T hT h k (by omega), low_lbh m c t h, sub_chunk _ 0 (by omega) t _ (blk0 m c t) h k hk, sub_chunk _ 1024 (by omega) t _ (blk1 m c t) h k hk,
    sub_chunk _ 2048 (by omega) t _ (blk2 m c t) h k hk, sub_chunk _ 3072 (by omega) t _ (blk3 m c t) h k hk, funext (blk5 m c t)]

/-- The states before the first chunk are zero. -/
theorem base_first (c : Dev nD) (t : Fin cfg0.N) (p0 : t.val % 8 = 0) (h : Fin 8) (d e : Fin 128) :
    (fun _ => 0 : FVec Ideal S8x128x128 .f32) (ix3 h e d) = stateSpec (argU m c) (argX m c) (bat t) h (4 * (t.val % 8)) d e := by
  rw [p0]
  rfl

/-- What the scratch holds after a point: the states after its four chunks, transposed. -/
def Held (c : Dev nD) (n : ℕ) (hn : n < cfg0.N) : Prop :=
  ∀ z : S8x128x128.Idx, (outsAt0 m c n hn).2.2 z = stateSpec (argU m c) (argX m c) (bat ⟨n, hn⟩) (z 0) (4 * (n % 8) + 4) (z 2) (z 1)

/-- The scratch the point before leaves holds the states before a later point of a batch. -/
theorem base_later (c : Dev nD) (t : Fin cfg0.N) (p0 : ¬t.val % 8 = 0) (H : Held m c (t.val - 1) (by omega)) (h : Fin 8) (d e : Fin 128) :
    (outsAt0 m c (t.val - 1) (by omega)).2.2 (ix3 h e d) = stateSpec (argU m c) (argX m c) (bat t) h (4 * (t.val % 8)) d e := by
  refine (H (ix3 h e d)).trans ?_
  have eb : bat ⟨t.val - 1, by omega⟩ = bat t := Fin.ext (show (t.val - 1) / 8 = t.val / 8 by omega)
  have ek : 4 * ((t.val - 1) % 8) + 4 = 4 * (t.val % 8) := by omega
  rw [eb, ek]
  rfl

theorem held (c : Dev nD) : ∀ (n : ℕ) (hn : n < cfg0.N), Held m c n hn := by
  intro n
  induction n with
  | zero =>
    intro hn z
    exact (scr_A m c ⟨0, hn⟩ rfl (show ¬0 % 8 = 7 by decide) (fin m c _) z).trans (congrFun (congrFun (block_state m c ⟨0, hn⟩ _ (base_first m c ⟨0, hn⟩ rfl) (z 0) 4 le_rfl) (z 2)) (z 1))
  | succ n ih =>
    intro hn z
    have H := ih (by omega)
    by_cases p0 : (n + 1) % 8 = 0
    · exact (scr_A m c ⟨n + 1, hn⟩ p0 (show ¬(n + 1) % 8 = 7 by omega) (fin m c _) z).trans
        (congrFun (congrFun (block_state m c ⟨n + 1, hn⟩ _ (base_first m c ⟨n + 1, hn⟩ p0) (z 0) 4 le_rfl) (z 2)) (z 1))
    · have S := congrFun (congrFun (block_state m c ⟨n + 1, hn⟩ _ (base_later m c ⟨n + 1, hn⟩ p0 H) (z 0) 4 le_rfl) (z 2)) (z 1)
      by_cases p1 : (n + 1) % 8 = 7
      · exact (scr_C m c ⟨n + 1, hn⟩ p0 p1 (fin m c _) z).trans S
      · exact (scr_B m c ⟨n + 1, hn⟩ p0 p1 (fin m c _) z).trans S

/-- A point's output block. -/
theorem out_at (c : Dev nD) (t : Fin cfg0.N) (y : S256x1024.Idx) :
    (outsAt0 m c t.val t.isLt).1 y = resSpec (argU m c) (argX m c) (argW m c) (bat t) ⟨(y 1).val / 128, by have : (y 1).val < 1024 := (y 1).isLt; omega⟩
      (4 * (t.val % 8) + (y 0).val / 64) ⟨(y 0).val % 64, Nat.mod_lt _ (by decide)⟩ ⟨(y 1).val % 128, Nat.mod_lt _ (by decide)⟩ := by
  have hk : (y 0).val / 64 < 4 := by
    have : (y 0).val < 256 := (y 0).isLt
    omega
  by_cases p0 : t.val % 8 = 0
  · exact (out_A m c t p0 (by omega) (fin m c t) y).trans (block_res m c t _ (base_first m c t p0) _ _ hk _ _)
  · have R := block_res m c t _ (base_later m c t p0 (held m c (t.val - 1) (by omega)))
    by_cases p1 : t.val % 8 = 7
    · exact (out_C m c t p0 p1 (fin m c t) y).trans (R _ _ hk _ _)
    · exact (out_B m c t p0 p1 (fin m c t) y).trans (R _ _ hk _ _)

/-- The state block the last point of a batch stores. -/
theorem state_at (c : Dev nD) (t : Fin cfg0.N) (p1 : t.val % 8 = 7) (y : S1x8x128x128.Idx) :
    (outsAt0 m c t.val t.isLt).2.1 y = stateSpec (argU m c) (argX m c) (bat t) (y 1) 32 (y 2) (y 3) := by
  have p0 : ¬t.val % 8 = 0 := by omega
  have S := congrFun (congrFun (block_state m c t _ (base_later m c t p0 (held m c (t.val - 1) (by omega))) (y 1) 4 le_rfl) (y 2)) (y 3)
  rw [p1] at S
  exact (state_C m c t p0 p1 (fin m c t) y).trans S

/-- The state's blocks go out at the last point of a batch. -/
theorem last_of_flush : ∀ t : Fin cfg0.N, win0_7.flush t = true → t.val % 8 = 7 :=
  (by decide +kernel : ∀ t : Fin grid0.N, _)

/-- The two result arrays, from the arguments. -/
theorem final_out (c : Dev nD) : (dats m 0 c).arrAt 6 (cfgs 0).N = resArr (argU m c) (argX m c) (argW m c) := by
  refine (dats m 0 c).arrAt_eq_of_covers 6 _ (by decide +kernel) fun t hf y => ?_
  blk_simp
  rw [after0_6]
  refine (out_at m c t y).trans ?_
  have hy : (y 0).val < 256 := (y 0).isLt
  have ht := points t
  unfold resArr
  congr 1
  · refine Fin.ext ?_
    blk_simp [idx t, bat]
    show t.val / 8 = (t.val * 256 + (y 0).val) / 2048
    omega
  · refine Fin.ext ?_
    blk_simp [idx t, bat]
  · blk_simp [idx t, bat]
    show 4 * (t.val % 8) + (y 0).val / 64 = (t.val * 256 + (y 0).val) % 2048 / 64
    omega
  · refine Fin.ext ?_
    blk_simp [idx t, bat]
    show (y 0).val % 64 = (t.val * 256 + (y 0).val) % 64
    omega
  · refine Fin.ext ?_
    blk_simp [idx t, bat]

theorem final_state (c : Dev nD) : (dats m 0 c).arrAt 7 (cfgs 0).N = states (argU m c) (argX m c) 32 := by
  refine (dats m 0 c).arrAt_eq_of_covers 7 _ (by decide +kernel) fun t hf y => ?_
  blk_simp
  rw [after0_7]
  refine (state_at m c t (last_of_flush t hf) y).trans ?_
  have hy : (y 0).val < 1 := (y 0).isLt
  unfold states
  congr 1
  · refine Fin.ext ?_
    blk_simp [idx t, bat]
    try (show t.val / 8 = t.val / 8 + (y 0).val; omega)
  · refine Fin.ext ?_
    blk_simp [idx t, bat]
  · refine Fin.ext ?_
    blk_simp [idx t, bat]
  · refine Fin.ext ?_
    blk_simp [idx t, bat]

end Cert.HgrnIdeal.Final

end
-- ==== Proof.HgrnClaim.lean ====
module

public import proofs.«01_k».proof.Defs
public import proofs.«01_k».proof.Proof.HgrnValue
public import proofs.«01_k».proof.Proof.Gen.RefHgrnIdeal.Run
public import Idealize.ShloMosaic.Lib.Claim
public import Idealize.ShloMosaic.Lib.Quiescent

@[expose] public section

set_option maxRecDepth 65536

noncomputable section

namespace Cert.Proof

open Idealize.ShloMosaic Idealize.SL.Sem

/-- The kernel's recurrence over the prompt rows and the reference's end equal, results and states, as extended reals. -/
theorem algebraic_Hgrn : Cert.algebraic_HgrnIdeal_RefHgrnIdeal := by
  pair_intro
  · run_from Cert.HgrnIdeal.Gen.run_main m g
    all_goals rfl
  · refine (θ_run _ _ _).mono (fun r h c => ⟨(h c).1.trans ?_, (h c).2.1.trans ?_, (h c).2.2⟩) (Cert.RefHgrnIdeal.Value.run m' g')
    · refine (Cert.RefHgrnIdeal.Final.ref_resArr m' c).trans (Eq.trans ?_ (Cert.HgrnIdeal.Final.final_out m c).symm)
      rw [(hagree c).1, (hagree c).2.1, (hagree c).2.2]
    · refine (Cert.RefHgrnIdeal.Final.ref_state m' c).trans (Eq.trans ?_ (Cert.HgrnIdeal.Final.final_state m c).symm)
      rw [(hagree c).1, (hagree c).2.1]

/-- Every run of the reference of `Hgrn` ends with its arguments unchanged. -/
theorem frame_RefHgrn : Cert.quiescent_RefHgrnIdeal := by
  intro m g _
  exact (θ_run _ _ _).mono (fun r h => ⟨fun c => (h c).2.2, sem_eq_zero_of_no_sems (sig := Cert.RefHgrnIdeal.sig) rfl _⟩) (Cert.RefHgrnIdeal.Value.run m g)

end Cert.Proof

end
-- ==== Proof.HgrnSPay.lean ====
module

public import proofs.«01_k».proof.Proof.Recur
public import proofs.«01_k».proof.Proof.Gen.HgrnSIdeal.Skeleton
public import Idealize.ShloMosaic.Lib.Pipeline.ValueKit
public import Idealize.ShloMosaic.Lib.Pointwise

@[expose] public section

set_option maxRecDepth 65536

noncomputable section

open Idealize.ShloMosaic Idealize.ShloMosaic.TcCoe Idealize.SL.Sem

namespace Cert.HgrnSIdeal.Final

open Cert.HgrnSIdeal Cert.HgrnSIdeal.Gen Cert.Rows Cert.Recur

/-- The row numbers and the column numbers of a square of 128. -/
abbrev rowNo : IVec S128x128 32 := iota .tc S128x128 32 [0] iota_S128x128_d0_w32
abbrev colNo : IVec S128x128 32 := iota .tc S128x128 32 [1] iota_S128x128_d1_w32

/-- The printed mask of one chunk, and of the rows not after a row. -/
abbrev same : IVec S128x128 1 := k0_pay24 rowNo colNo 128#32 k0_pay23 0#32
abbrev upTo : IVec S128x128 1 := k0_pay25 rowNo colNo

theorem le_at : ∀ s r : Fin 128, IntOp.cmpi CmpIPredicate.sle (BitVec.ofNat 32 r.val) (BitVec.ofNat 32 s.val) = if r ≤ s then 1#1 else 0#1 := by decide +kernel

theorem upTo_at (s r : Fin 128) : upTo (ix2 s r) = if r ≤ s then 1#1 else 0#1 := by
  refine Eq.trans ?_ (le_at s r)
  pointwise [k0_pay25]

theorem causal_at (s r : Fin 128) : k0_pay30 (ix2 s r) = if r ≤ s then 1#1 else 0#1 := by
  refine Eq.trans ?_ (le_at s r)
  pointwise [k0_pay30]

/-- The printed number of the chunk a row is in. -/
def chunkNo (i : BitVec 32) : BitVec 32 :=
  Scalar.select
    (IntOp.andi
      (IntOp.cmpi CmpIPredicate.ne
        (IntOp.subi (BitVec.setWidth 32 (IntOp.cmpi CmpIPredicate.sgt i 0#32)) (BitVec.setWidth 32 (IntOp.cmpi CmpIPredicate.slt i 0#32)))
        (Scalar.subi (Scalar.extui (Scalar.cmpi CmpIPredicate.sgt 128#32 0#32)) (Scalar.extui (Scalar.cmpi CmpIPredicate.slt 128#32 0#32))))
      (IntOp.cmpi CmpIPredicate.ne (IntOp.remsi ArithUnit.vector i 128#32) 0#32))
    (IntOp.subi (IntOp.divsi ArithUnit.vector i 128#32) 1#32)
    (IntOp.divsi ArithUnit.vector i 128#32)

theorem chunkNo_at : ∀ r : Fin 128, chunkNo (BitVec.ofNat 32 r.val) = 0#32 := by decide +kernel

/-- All rows are of one chunk. -/
theorem same_at (s r : Fin 128) : same (ix2 s r) = 1#1 := by
  pointwise [k0_pay24, k0_pay23]
  exact (congrArg₂ (IntOp.cmpi CmpIPredicate.eq) (chunkNo_at s) (chunkNo_at r)).trans (by decide)

/-- A value where the masks hold, zero elsewhere. -/
theorem masked_at (s r : Fin 128) (a : EReal) : Scalar.select (IntOp.andi (same (ix2 s r)) (upTo (ix2 s r))) a 0 = (if r ≤ s then 1 else 0) * a := by
  rw [same_at, upTo_at]
  by_cases h : r ≤ s
  · rw [if_pos h, if_pos h, one_mul]; rfl
  · rw [if_neg h, if_neg h, zero_mul]; rfl

/-- The forget gates. -/
theorem gate_at (b : FVec Ideal S1x1024 .f32) (x : FVec Ideal S8x1024 .f32) (s : Fin 8) (j : Fin 1024) :
    k0_pay18 (F := Ideal) b x (ix2 s j) = fgt (b (ix2 0 j)) (x (ix2 s j)) := by
  pointwise! [k0_pay18, fgt]
  simp only [sigm_sub]

/-- The log gates, below them zeros. -/
theorem logs_at (b : FVec Ideal S1x1024 .f32) (x : FVec Ideal S8x1024 .f32) (r : Fin 128) (j : Fin 1024) :
    k0_pay19 (F := Ideal) b x (ix2 r j) = if h : r.val < 8 then Ideal.log (fgt (b (ix2 0 j)) (x (ix2 ⟨r.val, h⟩ j))) else 0 := by
  pointwise! [k0_pay19]
  split
  · rw [gate_at]
  · rfl

/-- What the gates leave for the keys, below them zeros. -/
theorem keys_at (b : FVec Ideal S1x1024 .f32) (x : FVec Ideal S8x1024 .f32) (r : Fin 128) (j : Fin 1024) :
    k0_pay20 (F := Ideal) b x (ix2 r j) = if h : r.val < 8 then 1 - fgt (b (ix2 0 j)) (x (ix2 ⟨r.val, h⟩ j)) else 0 := by
  pointwise! [k0_pay20]
  split
  · rw [gate_at]
  · rfl

/-- The queries and the values, below them zeros. -/
theorem queries_at (x : FVec Ideal S8x1024 .f32) (r : Fin 128) (j : Fin 1024) :
    k0_pay21 (F := Ideal) x (ix2 r j) = if h : r.val < 8 then x (ix2 ⟨r.val, h⟩ j) else 0 := by
  pointwise! [k0_pay21]

theorem values_at (x : FVec Ideal S8x1024 .f32) (r : Fin 128) (j : Fin 1024) :
    k0_pay29 (F := Ideal) (k0_pay22 (F := Ideal) x) (ix2 r j) = if h : r.val < 8 then x (ix2 ⟨r.val, h⟩ j) else 0 := by
  pointwise! [k0_pay29, k0_pay22]

/-- The running sums of the log gates, where none of them is infinite. -/
theorem sums_at (L : FVec Ideal S128x1024 .f32) (j : Fin 1024) (hL : ∀ r, L (ix2 r j) ≠ ⊤) (s : Fin 128) :
    k0_pay26 (F := Ideal) L same upTo (ix2 s j) = ∑ r, if r ≤ s then L (ix2 r j) else 0 := by
  rw [← three_parts (fun r => r ≤ s) (fun r => L (ix2 r j)) hL]
  pointwise! [k0_pay26]
  simp only [masked_at]

/-- The log gates are not infinite, and their running sums are those of the chunk's rows. -/
theorem logs_ne_top (b : FVec Ideal S1x1024 .f32) (x : FVec Ideal S8x1024 .f32) (j : Fin 1024) (hb : b (ix2 0 j) ≠ ⊤) (r : Fin 128) :
    k0_pay19 (F := Ideal) b x (ix2 r j) ≠ ⊤ := by
  rw [logs_at]
  split
  · exact log_fgt_ne_top _ _ hb
  · exact EReal.zero_ne_top

/-- The running sums at the chunk's own rows, and at the last row of the square. -/
theorem sum_at (b : FVec Ideal S1x1024 .f32) (x : FVec Ideal S8x1024 .f32) (j : Fin 1024) (hb : b (ix2 0 j) ≠ ⊤) (s : Fin 8) :
    k0_pay26 (F := Ideal) (k0_pay19 (F := Ideal) b x) same upTo (ix2 ⟨s.val, by omega⟩ j) = cum (fun r => Ideal.log (fgt (b (ix2 0 j)) (x (ix2 r j)))) s := by
  rw [sums_at _ j (logs_ne_top b x j hb), sum_pad (show 8 ≤ 128 by norm_num) _ fun r hr => by
    rw [logs_at, dif_neg (by omega)]; split <;> rfl]
  unfold cum
  refine Finset.sum_congr rfl fun r _ => ?_
  rw [logs_at, dif_pos r.isLt]
  exact if_congr Iff.rfl rfl rfl

theorem total_at (b : FVec Ideal S1x1024 .f32) (x : FVec Ideal S8x1024 .f32) (j : Fin 1024) (hb : b (ix2 0 j) ≠ ⊤) :
    k0_pay26 (F := Ideal) (k0_pay19 (F := Ideal) b x) same upTo (ix2 127 j) = ∑ r : Fin 8, Ideal.log (fgt (b (ix2 0 j)) (x (ix2 r j))) := by
  rw [sums_at _ j (logs_ne_top b x j hb), sum_pad (show 8 ≤ 128 by norm_num) _ fun r hr => by
    rw [logs_at, dif_neg (by omega)]; split <;> rfl]
  refine Finset.sum_congr rfl fun r _ => ?_
  rw [logs_at, dif_pos r.isLt, if_pos (Fin.le_def.mpr (show r.val ≤ 127 by omega))]

/-- The scaled queries and keys at the chunk's own rows. -/
theorem sq_at (b : FVec Ideal S1x1024 .f32) (x q : FVec Ideal S8x1024 .f32) (j : Fin 1024) (hb : b (ix2 0 j) ≠ ⊤) (s : Fin 8) :
    k0_pay27 (F := Ideal) (k0_pay19 (F := Ideal) b x) (k0_pay21 (F := Ideal) q) same upTo (ix2 ⟨s.val, by omega⟩ j)
      = q (ix2 s j) * Ideal.exp (cum (fun r => Ideal.log (fgt (b (ix2 0 j)) (x (ix2 r j)))) s) := by
  pointwise! [k0_pay27]
  rw [sum_at b x j hb, queries_at, dif_pos s.isLt]

theorem sk_at (b : FVec Ideal S1x1024 .f32) (x : FVec Ideal S8x1024 .f32) (j : Fin 1024) (hb : b (ix2 0 j) ≠ ⊤) (s : Fin 8) :
    k0_pay28 (F := Ideal) (k0_pay19 (F := Ideal) b x) (k0_pay20 (F := Ideal) b x) same upTo (ix2 ⟨s.val, by omega⟩ j)
      = (1 - fgt (b (ix2 0 j)) (x (ix2 s j))) * Ideal.exp (-cum (fun r => Ideal.log (fgt (b (ix2 0 j)) (x (ix2 r j)))) s) := by
  pointwise! [k0_pay28]
  rw [sum_at b x j hb, keys_at, dif_pos s.isLt, zero_sub]

/-- The keys decayed to the chunk's end, and the chunk's whole decay. -/
theorem dk_at (b : FVec Ideal S1x1024 .f32) (x : FVec Ideal S8x1024 .f32) (j : Fin 1024) (hb : b (ix2 0 j) ≠ ⊤) (s : Fin 8) :
    k0_pay33 (F := Ideal) (k0_pay19 (F := Ideal) b x) (k0_pay20 (F := Ideal) b x) same upTo (ix2 ⟨s.val, by omega⟩ j)
      = (1 - fgt (b (ix2 0 j)) (x (ix2 s j))) * Ideal.exp ((∑ r, Ideal.log (fgt (b (ix2 0 j)) (x (ix2 r j)))) - cum (fun r => Ideal.log (fgt (b (ix2 0 j)) (x (ix2 r j)))) s) := by
  pointwise! [k0_pay33, k0_pay32]
  rw [sum_at b x j hb, keys_at, dif_pos s.isLt]
  exact congrArg (fun z => _ * Ideal.exp (z - _)) (total_at b x j hb)

theorem decay_at (b : FVec Ideal S1x1024 .f32) (x : FVec Ideal S8x1024 .f32) (j : Fin 1024) (hb : b (ix2 0 j) ≠ ⊤) :
    k0_pay34 (F := Ideal) (k0_pay19 (F := Ideal) b x) same upTo (ix2 0 j) = Ideal.exp (∑ r, Ideal.log (fgt (b (ix2 0 j)) (x (ix2 r j)))) := by
  pointwise! [k0_pay34, k0_pay32]
  exact congrArg Ideal.exp (total_at b x j hb)

/-- A head's part of a row block: the columns after `o`. -/
abbrev part (o : ℕ) (ho : S128x1024.Slices ![0, o] S128x128) (x : FVec Ideal S128x1024 .bf16) : FVec Ideal S128x128 .bf16 := extractStridedSlice S128x128 ![0, o] x ho

/-- A head's state after the chunk, stored transposed. -/
def headNext (o : ℕ) (h1 : S128x1024.Slices ![0, o] S128x128) (h2 : S1x1024.Slices ![0, o] S1x128) (kd : FVec Ideal S128x1024 .bf16) (dc : FVec Ideal S1x1024 .f32)
    (vb : FVec Ideal S128x1024 .bf16) (st : FVec Ideal S1x128x128 .f32) : FVec Ideal S1x128x128 .f32 :=
  shapeCast S1x128x128 (addf (mulf (shapeCast S128x128 st shapeCasts_S1x128x128_S128x128) (broadcastTo S128x128 (extractStridedSlice S1x128 ![0, o] dc h2) broadcasts_S1x128_S128x128))
    (matmul dot_S128x128_S128x128_S128x128_0_0_1_1_n_n none (part o h1 vb) (part o h1 kd) (constant S128x128 .f32 0x00000000#32))) shapeCasts_S128x128_S1x128x128

theorem headNext_at (o : ℕ) (h1 : S128x1024.Slices ![0, o] S128x128) (h2 : S1x1024.Slices ![0, o] S1x128) (ho : o + 128 ≤ 1024) (kd : FVec Ideal S128x1024 .bf16) (dc : FVec Ideal S1x1024 .f32)
    (vb : FVec Ideal S128x1024 .bf16) (st : FVec Ideal S1x128x128 .f32) (e d : Fin 128) :
    headNext o h1 h2 kd dc vb st (ix3 0 e d)
      = st (ix3 0 e d) * dc (ix2 0 ⟨o + d.val, by omega⟩) + ∑ r : Fin 128, vb (ix2 r ⟨o + e.val, by omega⟩) * kd (ix2 r ⟨o + d.val, by omega⟩) := by
  pointwise! [headNext]

/-- A head's unmasked scores. -/
def headScores (o : ℕ) (h1 : S128x1024.Slices ![0, o] S128x128) (qg kg : FVec Ideal S128x1024 .bf16) : FVec Ideal S128x128 .bf16 :=
  truncf .bf16 (select k0_pay30 (matmul dot_S128x128_S128x128_S128x128_1_1_0_0_n_n none (part o h1 qg) (part o h1 kg) (constant S128x128 .f32 0x00000000#32))
    (broadcast S128x128 (Scalar.ofBits .f32 0x00000000#32 : Ideal .f32))) bitsLt_bf16_f32

theorem headScores_at (o : ℕ) (h1 : S128x1024.Slices ![0, o] S128x128) (ho : o + 128 ≤ 1024) (qg kg : FVec Ideal S128x1024 .bf16) (s r : Fin 128) :
    headScores o h1 qg kg (ix2 s r) = if r ≤ s then ∑ d : Fin 128, qg (ix2 s ⟨o + d.val, by omega⟩) * kg (ix2 r ⟨o + d.val, by omega⟩) else 0 := by
  pointwise! [headScores]
  rw [causal_at]
  by_cases h : r ≤ s
  · rw [if_pos h, if_pos h]; rfl
  · rw [if_neg h, if_neg h]; rfl

/-- A head's output rows, the rows below the chunk's dropped. -/
def headOut (o : ℕ) (h1 : S128x1024.Slices ![0, o] S128x128) (qg kg vb : FVec Ideal S128x1024 .bf16) (st : FVec Ideal S1x128x128 .f32) : FVec Ideal S8x128 .f32 :=
  extractStridedSlice S8x128 ![0, 0] (addf (matmul dot_S128x128_S128x128_S128x128_1_0_0_1_n_n none (headScores o h1 qg kg) (part o h1 vb) (constant S128x128 .f32 0x00000000#32))
    (matmul dot_S128x128_S128x128_S128x128_1_1_0_0_n_n none (part o h1 qg) (truncf .bf16 (shapeCast S128x128 st shapeCasts_S1x128x128_S128x128) bitsLt_bf16_f32) (constant S128x128 .f32 0x00000000#32)))
    slices_S128x128_o0_0_S8x128

theorem headOut_at (o : ℕ) (h1 : S128x1024.Slices ![0, o] S128x128) (ho : o + 128 ≤ 1024) (qg kg vb : FVec Ideal S128x1024 .bf16) (st : FVec Ideal S1x128x128 .f32) (s : Fin 8) (e : Fin 128) :
    headOut o h1 qg kg vb st (ix2 s e)
      = (∑ r, headScores o h1 qg kg (ix2 ⟨s.val, by omega⟩ r) * vb (ix2 r ⟨o + e.val, by omega⟩)) + ∑ d, qg (ix2 ⟨s.val, by omega⟩ ⟨o + d.val, by omega⟩) * st (ix3 0 e d) := by
  pointwise! [headOut]

/-- The norm of a head's output rows, gated. -/
def headRes (w : FVec Ideal S1x128 .f32) (x g : FVec Ideal S8x128 .f32) : FVec Ideal S8x128 .bf16 :=
  truncf .bf16 (mulf (mulf (mulf x (broadcastTo S8x128 (rsqrt (addf (divf (shapeCast S8x1 (multiReduction .add [1] S8 (mulf x x) 0x00000000#32 reduces_S8x128_S8 (.inl rfl) rfl) shapeCasts_S8_S8x1)
      (broadcast S8x1 (Scalar.ofBits .f32 0x43000000#32 : Ideal .f32))) (broadcast S8x1 (Scalar.ofBits .f32 0x358637BD#32 : Ideal .f32)))) broadcasts_S8x1_S8x128))
    (broadcastTo S8x128 (shapeCast S1x128 w shapeCasts_S1x128_S1x128) broadcasts_S1x128_S8x128))
    (mulf g (divf (broadcast S8x128 (Scalar.ofBits .f32 0x3F800000#32 : Ideal .f32)) (addf (broadcast S8x128 (Scalar.ofBits .f32 0x3F800000#32 : Ideal .f32)) (exp (subf (broadcast S8x128 (Scalar.ofBits .f32 0x00000000#32 : Ideal .f32)) g)))))) bitsLt_bf16_f32

theorem headRes_at (w : FVec Ideal S1x128 .f32) (x g : FVec Ideal S8x128 .f32) (s : Fin 8) (e : Fin 128) :
    headRes w x g (ix2 s e) = res (fun s e => x (ix2 s e)) (fun e => w (ix2 0 e)) (fun s e => g (ix2 s e)) s e := by
  pointwise! [headRes, res, rmsEntry]
  simp only [sigm_sub]

/-- A head's state after the chunk, from the blocks. -/
theorem headNext_next (o : ℕ) (h1 : S128x1024.Slices ![0, o] S128x128) (h2 : S1x1024.Slices ![0, o] S1x128) (ho : o + 128 ≤ 1024)
    (b : FVec Ideal S1x1024 .f32) (x v : FVec Ideal S8x1024 .f32) (st : FVec Ideal S1x128x128 .f32)
    (l : Fin 128 → EReal) (x' v' : Fin 8 → Fin 128 → EReal) (S : Fin 128 → Fin 128 → EReal) (hl : ∀ d, l d ≠ ⊤)
    (hb : ∀ d : Fin 128, b (ix2 0 ⟨o + d.val, by omega⟩) = l d) (hx : ∀ s (d : Fin 128), x (ix2 s ⟨o + d.val, by omega⟩) = x' s d)
    (hv : ∀ s (d : Fin 128), v (ix2 s ⟨o + d.val, by omega⟩) = v' s d) (hS : ∀ d e, st (ix3 0 e d) = S d e) (d e : Fin 128) :
    headNext o h1 h2 (k0_pay33 (F := Ideal) (k0_pay19 (F := Ideal) b x) (k0_pay20 (F := Ideal) b x) same upTo) (k0_pay34 (F := Ideal) (k0_pay19 (F := Ideal) b x) same upTo)
      (k0_pay29 (F := Ideal) (k0_pay22 (F := Ideal) v)) st (ix3 0 e d) = next l x' v' S d e := by
  have hb' : ∀ d : Fin 128, b (ix2 0 ⟨o + d.val, by omega⟩) ≠ ⊤ := fun d => (hb d) ▸ hl d
  rw [headNext_at _ _ _ ho, decay_at b x _ (hb' d), sum_pad (show 8 ≤ 128 by norm_num) _ fun r hr => by rw [values_at, dif_neg (by omega), zero_mul]]
  unfold next
  refine congrArg₂ (· + ·) ?_ (Finset.sum_congr rfl fun r _ => ?_)
  · rw [mul_comm]
    simp only [hb, hx, hS]
    rfl
  · rw [values_at, dif_pos r.isLt, dk_at b x _ (hb' d), mul_comm]
    simp only [hb, hx, hv]
    rfl

/-- A head's result, from the blocks. -/
theorem headRes_res (o : ℕ) (h1 : S128x1024.Slices ![0, o] S128x128) (ho : o + 128 ≤ 1024)
    (b : FVec Ideal S1x1024 .f32) (q x v : FVec Ideal S8x1024 .f32) (st : FVec Ideal S1x128x128 .f32) (w : FVec Ideal S1x128 .f32) (g : FVec Ideal S8x128 .f32)
    (l : Fin 128 → EReal) (q' x' v' g' : Fin 8 → Fin 128 → EReal) (S : Fin 128 → Fin 128 → EReal) (w' : Fin 128 → EReal) (hl : ∀ d, l d ≠ ⊤)
    (hb : ∀ d : Fin 128, b (ix2 0 ⟨o + d.val, by omega⟩) = l d) (hq : ∀ s (d : Fin 128), q (ix2 s ⟨o + d.val, by omega⟩) = q' s d)
    (hx : ∀ s (d : Fin 128), x (ix2 s ⟨o + d.val, by omega⟩) = x' s d)
    (hv : ∀ s (d : Fin 128), v (ix2 s ⟨o + d.val, by omega⟩) = v' s d) (hS : ∀ d e, st (ix3 0 e d) = S d e)
    (hw : ∀ e, w (ix2 0 e) = w' e) (hg : ∀ s e, g (ix2 s e) = g' s e) (s : Fin 8) (e : Fin 128) :
    headRes w (headOut o h1 (k0_pay27 (F := Ideal) (k0_pay19 (F := Ideal) b x) (k0_pay21 (F := Ideal) q) same upTo)
      (k0_pay28 (F := Ideal) (k0_pay19 (F := Ideal) b x) (k0_pay20 (F := Ideal) b x) same upTo) (k0_pay29 (F := Ideal) (k0_pay22 (F := Ideal) v)) st) g (ix2 s e)
      = res (out l q' x' v' S) w' g' s e := by
  have hb' : ∀ d : Fin 128, b (ix2 0 ⟨o + d.val, by omega⟩) ≠ ⊤ := fun d => (hb d) ▸ hl d
  rw [headRes_at]
  simp only [hw, hg]
  refine congrArg (fun z => res z w' g' s e) (funext fun s => funext fun e => ?_)
  rw [headOut_at _ _ ho, sum_pad (show 8 ≤ 128 by norm_num) _ fun r hr => by rw [values_at, dif_neg (by omega), mul_zero]]
  unfold out
  refine congrArg₂ (· + ·) (Finset.sum_congr rfl fun r _ => ?_) (Finset.sum_congr rfl fun d _ => ?_)
  · rw [values_at, dif_pos r.isLt, headScores_at _ _ ho, hv]
    refine congrArg (· * _) (if_congr Iff.rfl (Finset.sum_congr rfl fun d _ => ?_) rfl)
    rw [sq_at b x q _ (hb' d), sk_at b x _ (hb' d)]
    simp only [hb, hx, hq]
    rfl
  · rw [sq_at b x q _ (hb' d)]
    simp only [hb, hx, hq, hS]
    rfl

end Cert.HgrnSIdeal.Final

end
-- ==== Proof.HgrnSRef.lean ====
module

public import proofs.«01_k».proof.Proof.Recur
public import proofs.«01_k».proof.Proof.RunningSum
public import proofs.«01_k».proof.Proof.Gen.RefHgrnSIdeal.Run
public import Idealize.ShloMosaic.Lib.Pipeline.ValueKit
public import Idealize.ShloMosaic.Lib.Pointwise
public import Idealize.ShloMosaic.Lib.Claim

@[expose] public section

set_option maxRecDepth 65536

noncomputable section

open Idealize.ShloMosaic Idealize.ShloMosaic.TcCoe Idealize.SL.Sem

namespace Cert.RefHgrnSIdeal.Final

open Cert.RefHgrnSIdeal Cert.RefHgrnSIdeal.Gen Cert.RefHgrnSIdeal.Value Cert.Rows Cert.Recur Cert.RunningSum

/-- The softmax of the lower bound's logits over the layers. -/
def soft (X : FVec Ideal S2x1024 .f32) : FVec Ideal S2x1024 .f32 :=
  Host.divf (Host.exp (subf X (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf X (constant S_ .f32 0xFF800000#32) reducesTo_S2x1024_S1024_d0 h_S_))))))
    (broadcastInDim S2x1024 ![0, 1] bcast_S1x1024_S2x1024_0_1 (broadcastInDim S1x1024 ![1] bcast_S1024_S1x1024_1 (Host.reduceAdd (Host.exp (subf X (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf X (constant S_ .f32 0xFF800000#32) reducesTo_S2x1024_S1024_d0 h_S_)))))) (constant S_ .f32 0x00000000#32) reducesTo_S2x1024_S1024_d0 h_S_)))

theorem soft_at (X : FVec Ideal S2x1024 .f32) (j : Fin 1024) : soft X (ix2 0 j) = bound X j := by
  pointwise! [soft, bound, expo]

/-- The lower bounds, by head and feature. -/
def lb (X : FVec Ideal S2x1024 .f32) : FVec Ideal S8x128 .f32 :=
  shapeCast _ (shapeCast _ (extractStridedSlice S1x1024 ![0, 0] (Host.reduceWindowAdd ![2, 1] ![1, 1] ![1, 0] ![0, 0] (soft X) (broadcastInDim S_ ![] bcast_S_S_ (constant S_ .f32 0x00000000#32)) reduceWindows_S2x1024_S2x1024_w2s1p1_0_w1s1p0_0 h_S_) slices_S2x1024_S1x1024_0_0) shapeCasts_S1x1024_S1024) shapeCasts_S1024_S8x128

theorem zero_at (i : S_.Idx) : broadcastInDim S_ ![] bcast_S_S_ (constant (F := Ideal) S_ .f32 0x00000000#32) i = 0 := by
  pointwise

theorem lb_at (X : FVec Ideal S2x1024 .f32) (h : Fin 8) (d : Fin 128) : lb X (ix2 h d) = lbh X h d := by
  pointwise! [lb]
  rw [cumsum2_first _ _ zero_at, soft_at]
  rfl

/-- The forget gates. -/
def gates (X : FVec Ideal S2x1024 .f32) (T : FVec Ideal S8x8x8x128 .f32) : FVec Ideal S8x8x8x128 .f32 :=
  addf (broadcastInDim S8x8x8x128 ![0, 1, 2, 3] bcast_S1x1x8x128_S8x8x8x128_0_1_2_3 (broadcastInDim S1x1x8x128 ![2, 3] bcast_S8x128_S1x1x8x128_2_3 (lb X)))
    (mulf (broadcastInDim S8x8x8x128 ![0, 1, 2, 3] bcast_S1x1x8x128_S8x8x8x128_0_1_2_3 (broadcastInDim S1x1x8x128 ![2, 3] bcast_S8x128_S1x1x8x128_2_3 (subf (broadcastInDim S8x128 ![] bcast_S_S8x128 (constant S_ .f32 0x3F800000#32)) (lb X))))
      (Host.divf (broadcastInDim S8x8x8x128 ![] bcast_S_S8x8x8x128 (constant S_ .f32 0x3F800000#32)) (addf (broadcastInDim S8x8x8x128 ![] bcast_S_S8x8x8x128 (constant S_ .f32 0x3F800000#32)) (Host.exp (Host.negf T)))))

theorem gates_at (X : FVec Ideal S2x1024 .f32) (T : FVec Ideal S8x8x8x128 .f32) (b : Fin 8) (s : Fin 8) (h : Fin 8) (d : Fin 128) :
    gates X T (ix4 b s h d) = fgt (lbh X h d) (T (ix4 b s h d)) := by
  pointwise! [gates, fgt, sigm]
  rw [lb_at]

/-- Columns `o` to `o + 1024` of the projection, by batch, row, head and feature. -/
def cols (o : ℕ) (ho : S64x11264.Slices ![0, o] S64x1024) (U : FVec Ideal S64x11264 .f32) : FVec Ideal S8x8x8x128 .f32 :=
  shapeCast _ (extractStridedSlice S64x1024 ![0, o] U ho) shapeCasts_S64x1024_S8x8x8x128

theorem cols_at (o : ℕ) (ho : S64x11264.Slices ![0, o] S64x1024) (hb : o + 1024 ≤ 11264) (U : FVec Ideal S64x11264 .f32) (b : Fin 8) (s : Fin 8) (h : Fin 8) (d : Fin 128) :
    cols o ho U (ix4 b s h d) = U (ix2 ⟨b.val * 8 + s.val, by omega⟩ ⟨o + (h.val * 128 + d.val), by omega⟩) := by
  pointwise! [cols]
  blk_ext []

/-- The rows of one head, split into chunks. -/
def blk (T : FVec Ideal S8x8x8x128 .f32) : FVec Ideal S8x8x1x8x128 .f32 :=
  transpose S8x8x1x8x128 [0, 3, 1, 2, 4] (shapeCast _ T shapeCasts_S8x8x8x128_S8x1x8x8x128) transposes_S8x1x8x8x128_S8x8x1x8x128_0_3_1_2_4

theorem blk_at (T : FVec Ideal S8x8x8x128 .f32) (b h : Fin 8) (n : Fin 1) (s : Fin 8) (d : Fin 128) : blk T (ix5 b h n s d) = T (ix4 b s h d) := by
  obtain rfl : n = 0 := Subsingleton.elim _ _
  pointwise! [blk]

/-- The running sums of the log gates. -/
def csum (f : FVec Ideal S8x8x8x128 .f32) : FVec Ideal S8x8x1x8x128 .f32 :=
  Host.reduceWindowAdd ![1, 1, 1, 8, 1] ![1, 1, 1, 1, 1] ![0, 0, 0, 7, 0] ![0, 0, 0, 0, 0] (blk (Host.log f)) (broadcastInDim S_ ![] bcast_S_S_ (constant S_ .f32 0x00000000#32)) reduceWindows_S8x8x1x8x128_S8x8x1x8x128_w1s1p0_0_w1s1p0_0_w1s1p0_0_w8s1p7_0_w1s1p0_0 h_S_

theorem csum_at (f : FVec Ideal S8x8x8x128 .f32) (b h : Fin 8) (n : Fin 1) (s : Fin 8) (d : Fin 128) :
    csum f (ix5 b h n s d) = cum (fun r => Ideal.log (f (ix4 b r h d))) s := by
  unfold csum cum
  rw [cumsum5 (by norm_num) _ _ zero_at]
  refine Finset.sum_congr rfl fun r _ => ?_
  rw [blk_at]
  rfl

/-- The scaled queries. -/
def sq (q f : FVec Ideal S8x8x8x128 .f32) : FVec Ideal S8x8x1x8x128 .f32 := mulf (blk q) (Host.exp (csum f))

theorem sq_at (q f : FVec Ideal S8x8x8x128 .f32) (b h : Fin 8) (n : Fin 1) (s : Fin 8) (d : Fin 128) :
    sq q f (ix5 b h n s d) = q (ix4 b s h d) * Ideal.exp (cum (fun r => Ideal.log (f (ix4 b r h d))) s) := by
  pointwise! [sq]
  rw [csum_at, blk_at]

/-- What the gates leave for the key. -/
def kin (f : FVec Ideal S8x8x8x128 .f32) : FVec Ideal S8x8x1x8x128 .f32 :=
  blk (subf (broadcastInDim S8x8x8x128 ![] bcast_S_S8x8x8x128 (constant S_ .f32 0x3F800000#32)) f)

theorem kin_at (f : FVec Ideal S8x8x8x128 .f32) (b h : Fin 8) (n : Fin 1) (s : Fin 8) (d : Fin 128) :
    kin f (ix5 b h n s d) = 1 - f (ix4 b s h d) := by
  unfold kin
  rw [blk_at]
  pointwise

/-- The printed comparison of two row numbers. -/
theorem mask : ∀ s r : Fin 8, Scalar.select (IntOp.cmpi CmpIPredicate.sge (IntOp.addi (BitVec.ofNat 32 s.val) 0#32) (BitVec.ofNat 32 r.val)) 1#1 0#1
    = if r ≤ s then 1#1 else 0#1 := by decide +kernel

/-- The masked scores. -/
def scores (q f : FVec Ideal S8x8x8x128 .f32) : FVec Ideal S8x8x1x8x8 .f32 :=
  select (broadcastInDim S8x8x1x8x8 ![3, 4] bcast_S8x8_S8x8x1x8x8_3_4 (select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))))
    (Host.dotGeneral dot_S8x8x1x8x128_S8x8x1x8x128_S8x8x1x8x8_4_4_3_3_012_012 none (sq q f) (mulf (kin f) (Host.exp (Host.negf (csum f)))))
    (broadcastInDim S8x8x1x8x8 ![] bcast_S_S8x8x1x8x8 (id (constant S_ .f32 0x00000000#32)))

theorem scores_at (q f : FVec Ideal S8x8x8x128 .f32) (b h : Fin 8) (n : Fin 1) (s r : Fin 8) :
    scores q f (ix5 b h n s r) = if r ≤ s then ∑ d, sq q f (ix5 b h n s d) * (kin f (ix5 b h n r d) * Ideal.exp (-csum f (ix5 b h n r d))) else 0 := by
  pointwise! [scores]
  rw [mask]
  split
  · rfl
  · show Ideal.ofBits .f32 0#32 = 0
    pointwise

/-- What a chunk's rows see of each other. -/
def intra (q f v : FVec Ideal S8x8x8x128 .f32) : FVec Ideal S8x8x1x8x128 .f32 :=
  Host.dotGeneral dot_S8x8x1x8x8_S8x8x1x8x128_S8x8x1x8x128_4_3_3_4_012_012 none (scores q f) (blk v)

theorem intra_at (q f v : FVec Ideal S8x8x8x128 .f32) (b h : Fin 8) (n : Fin 1) (s : Fin 8) (e : Fin 128) :
    intra q f v (ix5 b h n s e) = ∑ r, scores q f (ix5 b h n s r) * blk v (ix5 b h n r e) := by
  pointwise! [intra]

/-- The running sums at the chunks' last rows. -/
def last (f : FVec Ideal S8x8x8x128 .f32) : FVec Ideal S8x8x1x128 .f32 :=
  shapeCast _ (extractStridedSlice S8x8x1x1x128 ![0, 0, 0, 7, 0] (csum f) slices_S8x8x1x8x128_S8x8x1x1x128_0_0_0_7_0) shapeCasts_S8x8x1x1x128_S8x8x1x128

theorem last_at (f : FVec Ideal S8x8x8x128 .f32) (b h : Fin 8) (n : Fin 1) (d : Fin 128) :
    last f (ix4 b h n d) = ∑ r, Ideal.log (f (ix4 b r h d)) := by
  obtain rfl : n = 0 := Subsingleton.elim _ _
  pointwise! [last]
  rw [csum_at, cum_last _ _ rfl]

/-- What the chunks' rows add to the state. -/
def gain (f v : FVec Ideal S8x8x8x128 .f32) : FVec Ideal S8x8x1x128x128 .f32 :=
  Host.dotGeneral dot_S8x8x1x8x128_S8x8x1x8x128_S8x8x1x128x128_3_3_4_4_012_012 none (mulf (kin f) (Host.exp (subf (broadcastInDim S8x8x1x8x128 ![0, 1, 2, 3, 4] bcast_S8x8x1x1x128_S8x8x1x8x128_0_1_2_3_4 (broadcastInDim S8x8x1x1x128 ![0, 1, 2, 4] bcast_S8x8x1x128_S8x8x1x1x128_0_1_2_4 (last f))) (csum f)))) (blk v)

theorem gain_at (f v : FVec Ideal S8x8x8x128 .f32) (b h : Fin 8) (n : Fin 1) (d e : Fin 128) :
    gain f v (ix5 b h n d e) = ∑ r, (kin f (ix5 b h n r d) * Ideal.exp (last f (ix4 b h n d) - csum f (ix5 b h n r d))) * blk v (ix5 b h n r e) := by
  obtain rfl : n = 0 := Subsingleton.elim _ _
  pointwise! [gain]

/-- The state after the chunk. -/
def state (f v : FVec Ideal S8x8x8x128 .f32) (S : FVec Ideal S8x8x128x128 .f32) : FVec Ideal S8x8x128x128 .f32 :=
  addf (mulf (broadcastInDim S8x8x128x128 ![0, 1, 2, 3] bcast_S8x8x128x1_S8x8x128x128_0_1_2_3 (broadcastInDim S8x8x128x1 ![0, 1, 2] bcast_S8x8x128_S8x8x128x1_0_1_2 (shapeCast _ (transpose S1x8x8x128 [2, 0, 1, 3] (Host.exp (last f)) transposes_S8x8x1x128_S1x8x8x128_2_0_1_3) shapeCasts_S1x8x8x128_S8x8x128))) S)
    (shapeCast _ (transpose S1x8x8x128x128 [2, 0, 1, 3, 4] (gain f v) transposes_S8x8x1x128x128_S1x8x8x128x128_2_0_1_3_4) shapeCasts_S1x8x8x128x128_S8x8x128x128)

theorem state_at (f v : FVec Ideal S8x8x8x128 .f32) (S : FVec Ideal S8x8x128x128 .f32) (b h : Fin 8) (d e : Fin 128) :
    state f v S (ix4 b h d e) = Ideal.exp (last f (ix4 b h 0 d)) * S (ix4 b h d e) + gain f v (ix5 b h 0 d e) := by
  pointwise! [state]

/-- The chunk's output. -/
def output (q f v : FVec Ideal S8x8x8x128 .f32) (S : FVec Ideal S8x8x128x128 .f32) : FVec Ideal S8x8x8x128 .f32 :=
  shapeCast _ (transpose S8x1x8x8x128 [1, 0, 3, 2, 4] (broadcastInDim S1x8x8x8x128 ![1, 2, 3, 4] bcast_S8x8x8x128_S1x8x8x8x128_1_2_3_4
    (addf (shapeCast _ (transpose S1x8x8x8x128 [2, 0, 1, 3, 4] (intra q f v) transposes_S8x8x1x8x128_S1x8x8x8x128_2_0_1_3_4) shapeCasts_S1x8x8x8x128_S8x8x8x128)
      (Host.dotGeneral dot_S8x8x8x128_S8x8x128x128_S8x8x8x128_3_2_2_3_01_01 none (shapeCast _ (transpose S1x8x8x8x128 [2, 0, 1, 3, 4] (sq q f) transposes_S8x8x1x8x128_S1x8x8x8x128_2_0_1_3_4) shapeCasts_S1x8x8x8x128_S8x8x8x128) S)))
    transposes_S1x8x8x8x128_S8x1x8x8x128_1_0_3_2_4) shapeCasts_S8x1x8x8x128_S8x8x8x128

theorem output_at (q f v : FVec Ideal S8x8x8x128 .f32) (S : FVec Ideal S8x8x128x128 .f32) (b : Fin 8) (s h : Fin 8) (e : Fin 128) :
    output q f v S (ix4 b s h e) = intra q f v (ix5 b h 0 s e) + ∑ d, sq q f (ix5 b h 0 s d) * S (ix4 b h d e) := by
  pointwise! [output]

/-- The result: the output's norm, gated. -/
def final (o g : FVec Ideal S8x8x8x128 .f32) (w : FVec Ideal S1x128 .f32) : FVec Ideal S64x1024 .bf16 :=
  truncf .bf16 (shapeCast _ (mulf (mulf (mulf o (broadcastInDim S8x8x8x128 ![0, 1, 2, 3] bcast_S8x8x8x1_S8x8x8x128_0_1_2_3 (Host.rsqrt (addf (Host.divf (broadcastInDim S8x8x8x1 ![0, 1, 2] bcast_S8x8x8_S8x8x8x1_0_1_2 (Host.reduceAdd (mulf o o) (constant S_ .f32 0x00000000#32) reducesTo_S8x8x8x128_S8x8x8_d3 h_S_)) (broadcastInDim S8x8x8x1 ![] bcast_S_S8x8x8x1 (constant S_ .f32 0x43000000#32))) (broadcastInDim S8x8x8x1 ![] bcast_S_S8x8x8x1 (constant S_ .f32 0x358637BD#32))))))
    (broadcastInDim S8x8x8x128 ![0, 1, 2, 3] bcast_S1x1x1x128_S8x8x8x128_0_1_2_3 (broadcastInDim S1x1x1x128 ![3] bcast_S128_S1x1x1x128_3 (shapeCast _ w shapeCasts_S1x128_S128))))
    (mulf g (Host.divf (broadcastInDim S8x8x8x128 ![] bcast_S_S8x8x8x128 (constant S_ .f32 0x3F800000#32)) (addf (broadcastInDim S8x8x8x128 ![] bcast_S_S8x8x8x128 (constant S_ .f32 0x3F800000#32)) (Host.exp (Host.negf g)))))) shapeCasts_S8x8x8x128_S64x1024) bitsLt_bf16_f32

theorem final_at (o g : FVec Ideal S8x8x8x128 .f32) (w : FVec Ideal S1x128 .f32) (b s h : Fin 8) (e : Fin 128) :
    final o g w (ix2 ⟨b.val * 8 + s.val, by omega⟩ ⟨h.val * 128 + e.val, by omega⟩)
      = res (fun s e => o (ix4 b s h e)) (fun e => w (ix2 0 e)) (fun s e => g (ix4 b s h e)) s e := by
  pointwise! [final, res, rmsEntry, sigm]

theorem init_at (S : FVec Ideal S1x8x8x128x128 .f32) (b h : Fin 8) (d e : Fin 128) :
    shapeCast S8x8x128x128 S shapeCasts_S1x8x8x128x128_S8x8x128x128 (ix4 b h d e) = S (ix5 0 b h d e) := by
  pointwise

/-- The state's stages at one head, whatever the gates, values and states are there. -/
theorem state_next (f v : FVec Ideal S8x8x8x128 .f32) (S : FVec Ideal S8x8x128x128 .f32) (b h : Fin 8)
    (l : Fin 128 → EReal) (x v' : Fin 8 → Fin 128 → EReal) (S' : Fin 128 → Fin 128 → EReal)
    (hf : ∀ s d, f (ix4 b s h d) = fgt (l d) (x s d)) (hv : ∀ s e, v (ix4 b s h e) = v' s e) (hS : ∀ d e, S (ix4 b h d e) = S' d e) (d e : Fin 128) :
    state f v S (ix4 b h d e) = next l x v' S' d e := by
  rw [state_at, gain_at]
  simp only [last_at, kin_at, csum_at, blk_at, hf, hv, hS]
  rfl

/-- The output's stages at one head, whatever the queries, gates, values and states are there. -/
theorem output_out (q f v : FVec Ideal S8x8x8x128 .f32) (S : FVec Ideal S8x8x128x128 .f32) (b h : Fin 8)
    (l : Fin 128 → EReal) (q' x v' : Fin 8 → Fin 128 → EReal) (S' : Fin 128 → Fin 128 → EReal) (hq : ∀ s d, q (ix4 b s h d) = q' s d)
    (hf : ∀ s d, f (ix4 b s h d) = fgt (l d) (x s d)) (hv : ∀ s e, v (ix4 b s h e) = v' s e) (hS : ∀ d e, S (ix4 b h d e) = S' d e) (s : Fin 8) (e : Fin 128) :
    output q f v S (ix4 b s h e) = out l q' x v' S' s e := by
  rw [output_at, intra_at]
  simp only [scores_at, sq_at, kin_at, csum_at, blk_at, hq, hf, hv, hS]
  rfl

variable (m : (ℓ : Loc nD τ sig) → Buf (Elt Ideal) ℓ)

/-- The columns of the projection the recurrence reads: queries, gate logits, values, output gates. -/
abbrev colsQ (c : Dev nD) : FVec Ideal S8x8x8x128 .f32 := cols 0 slices_S64x11264_S64x1024_0_0 (m ((c.tc : Thread nD τ).loc main_arg0))
abbrev colsF (c : Dev nD) : FVec Ideal S8x8x8x128 .f32 := cols 1024 slices_S64x11264_S64x1024_0_1024 (m ((c.tc : Thread nD τ).loc main_arg0))
abbrev colsV (c : Dev nD) : FVec Ideal S8x8x8x128 .f32 := cols 2048 slices_S64x11264_S64x1024_0_2048 (m ((c.tc : Thread nD τ).loc main_arg0))
abbrev colsG (c : Dev nD) : FVec Ideal S8x8x8x128 .f32 := cols 3072 slices_S64x11264_S64x1024_0_3072 (m ((c.tc : Thread nD τ).loc main_arg0))

/-- The initial states, the leading unit axis dropped. -/
abbrev init (c : Dev nD) : FVec Ideal S8x8x128x128 .f32 := shapeCast _ (m ((c.tc : Thread nD τ).loc main_arg1)) shapeCasts_S1x8x8x128x128_S8x8x128x128

/-- The reference's state, in these stages. -/
theorem state_eq (c : Dev nD) : res_main_v78 m c = state (gates (m ((c.tc : Thread nD τ).loc main_arg2)) (colsF m c)) (colsV m c) (init m c) := rfl

/-- The reference's output, in these stages. -/
theorem final_eq (c : Dev nD) : res_main_v103 m c = final (output (colsQ m c) (gates (m ((c.tc : Thread nD τ).loc main_arg2)) (colsF m c)) (colsV m c) (init m c)) (colsG m c) (m ((c.tc : Thread nD τ).loc main_arg3)) := rfl

theorem rows_le (b : Fin 8) : b.val * 8 + 8 ≤ 64 := by omega

/-- The state after the rows of batch `b`, from the arguments. -/
def stateSpec (U : FVec Ideal S64x11264 .f32) (S : FVec Ideal S1x8x8x128x128 .f32) (X : FVec Ideal S2x1024 .f32) (b h : Fin 8) (d e : Fin 128) : EReal :=
  next (lbh X h) (col U (b.val * 8) 1024 (rows_le b) (by omega) h) (col U (b.val * 8) 2048 (rows_le b) (by omega) h) (fun d e => S (ix5 0 b h d e)) d e

/-- The result of row `s` of batch `b`, from the arguments. -/
def resSpec (U : FVec Ideal S64x11264 .f32) (S : FVec Ideal S1x8x8x128x128 .f32) (X : FVec Ideal S2x1024 .f32) (w : FVec Ideal S1x128 .f32) (b h : Fin 8) (s : Fin 8) (e : Fin 128) : EReal :=
  res (out (lbh X h) (col U (b.val * 8) 0 (rows_le b) (by omega) h) (col U (b.val * 8) 1024 (rows_le b) (by omega) h) (col U (b.val * 8) 2048 (rows_le b) (by omega) h)
    (fun d e => S (ix5 0 b h d e))) (fun e => w (ix2 0 e)) (col U (b.val * 8) 3072 (rows_le b) (by omega) h) s e

/-- The reference's state is that. -/
theorem ref_state (c : Dev nD) (b h : Fin 8) (d e : Fin 128) :
    res_main_v78 m c (ix4 b h d e) = stateSpec (m ((c.tc : Thread nD τ).loc main_arg0)) (m ((c.tc : Thread nD τ).loc main_arg1)) (m ((c.tc : Thread nD τ).loc main_arg2)) b h d e := by
  rw [state_eq]
  exact state_next _ _ _ b h _ _ _ _ (fun s d => (gates_at _ _ b s h d).trans (congrArg _ (cols_at _ _ (by omega) _ b s h d)))
    (fun s e => cols_at _ _ (by omega) _ b s h e) (fun d e => init_at _ b h d e) d e

/-- The reference's result is that. -/
theorem ref_res (c : Dev nD) (b h : Fin 8) (s : Fin 8) (e : Fin 128) :
    res_main_v103 m c (ix2 ⟨b.val * 8 + s.val, by omega⟩ ⟨h.val * 128 + e.val, by omega⟩)
      = resSpec (m ((c.tc : Thread nD τ).loc main_arg0)) (m ((c.tc : Thread nD τ).loc main_arg1)) (m ((c.tc : Thread nD τ).loc main_arg2)) (m ((c.tc : Thread nD τ).loc main_arg3)) b h s e := by
  rw [final_eq, final_at, funext fun s => funext fun e => output_out _ _ _ _ b h _ _ _ _ _ (fun s d => cols_at _ _ (by omega) _ b s h d)
    (fun s d => (gates_at _ _ b s h d).trans (congrArg _ (cols_at _ _ (by omega) _ b s h d)))
    (fun s e => cols_at _ _ (by omega) _ b s h e) (fun d e => init_at _ b h d e) s e,
    funext fun s => funext fun e => cols_at _ _ (by omega) _ b s h e]
  rfl

/-- The two result arrays, from the arguments. -/
def stateArr (U : FVec Ideal S64x11264 .f32) (S : FVec Ideal S1x8x8x128x128 .f32) (X : FVec Ideal S2x1024 .f32) : FVec Ideal S8x8x128x128 .f32 :=
  fun i => stateSpec U S X (i 0) (i 1) (i 2) (i 3)

def resArr (U : FVec Ideal S64x11264 .f32) (S : FVec Ideal S1x8x8x128x128 .f32) (X : FVec Ideal S2x1024 .f32) (w : FVec Ideal S1x128 .f32) : FVec Ideal S64x1024 .bf16 :=
  fun i => resSpec U S X w ⟨(i 0).val / 8, by have : (i 0).val < 64 := (i 0).isLt; omega⟩ ⟨(i 1).val / 128, by have : (i 1).val < 1024 := (i 1).isLt; omega⟩
    ⟨(i 0).val % 8, Nat.mod_lt _ (by decide)⟩ ⟨(i 1).val % 128, Nat.mod_lt _ (by decide)⟩

theorem ref_stateArr (c : Dev nD) : res_main_v78 m c
    = stateArr (m ((c.tc : Thread nD τ).loc main_arg0)) (m ((c.tc : Thread nD τ).loc main_arg1)) (m ((c.tc : Thread nD τ).loc main_arg2)) := by
  funext i
  rw [eq_ix4 i]
  exact ref_state m c (i 0) (i 1) (i 2) (i 3)

theorem ref_resArr (c : Dev nD) : res_main_v103 m c
    = resArr (m ((c.tc : Thread nD τ).loc main_arg0)) (m ((c.tc : Thread nD τ).loc main_arg1)) (m ((c.tc : Thread nD τ).loc main_arg2)) (m ((c.tc : Thread nD τ).loc main_arg3)) := by
  funext i
  have h0 : (i 0).val < 64 := (i 0).isLt
  have h1 : (i 1).val < 1024 := (i 1).isLt
  refine Eq.trans (congrArg _ ?_) (ref_res m c ⟨(i 0).val / 8, by omega⟩ ⟨(i 1).val / 128, by omega⟩ ⟨(i 0).val % 8, Nat.mod_lt _ (by decide)⟩ ⟨(i 1).val % 128, Nat.mod_lt _ (by decide)⟩)
  funext a
  fin_cases a
  · exact Fin.ext (show (i 0).val = (i 0).val / 8 * 8 + (i 0).val % 8 by omega)
  · exact Fin.ext (show (i 1).val = (i 1).val / 128 * 128 + (i 1).val % 128 by omega)

end Cert.RefHgrnSIdeal.Final
-- ==== Proof.HgrnSValue.lean ====
module

public import proofs.«01_k».proof.Proof.HgrnSPay
public import proofs.«01_k».proof.Proof.HgrnSRef
public import proofs.«01_k».proof.Proof.Gen.HgrnSIdeal.Frame
public import Idealize.ShloMosaic.Lib.Pipeline.ReadBack
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.HgrnSIdeal.Final

open Cert.HgrnSIdeal Cert.HgrnSIdeal.Gen Cert.Rows Cert.Recur Cert.RunningSum
open Cert.RefHgrnSIdeal.Final (stateSpec resSpec rows_le soft soft_at stateArr resArr)

variable (m : (ℓ : Loc nD τ sig) → Buf (Elt Ideal) ℓ)

/-- The windows' block indices at a point. -/
theorem idx : ∀ t : Fin cfg0.N, win0_0.index t = ![t.val, 0] ∧ win0_1.index t = ![t.val, 1] ∧ win0_2.index t = ![t.val, 2] ∧ win0_3.index t = ![t.val, 3]
    ∧ win0_4.index t = ![0, 0] ∧ win0_5.index t = ![0, 0] ∧ win0_6.index t = ![t.val, 0, 0, 0] ∧ win0_7.index t = ![t.val, 0] ∧ win0_8.index t = ![t.val, 0, 0, 0] :=
  (by decide +kernel : ∀ t : Fin grid0.N, _)

/-- The batch of a point. -/
def bat (t : Fin cfg0.N) : Fin 8 := ⟨t.val, lt_of_lt_of_eq t.isLt (show cfg0.N = 8 from N_0)⟩

abbrev argU (c : Dev nD) : FVec Ideal S64x11264 .f32 := m ((c : Thread nD τ).loc main_arg0)
abbrev argS (c : Dev nD) : FVec Ideal S1x8x8x128x128 .f32 := m ((c : Thread nD τ).loc main_arg1)
abbrev argX (c : Dev nD) : FVec Ideal S2x1024 .f32 := m ((c : Thread nD τ).loc main_arg2)
abbrev argW (c : Dev nD) : FVec Ideal S1x128 .f32 := m ((c : Thread nD τ).loc main_arg3)

/-- The lower bound's row as the launch computes it. -/
def lbRow (X : FVec Ideal S2x1024 .f32) : FVec Ideal S1x1024 .f32 :=
  broadcastInDim S1x1024 ![1] bcast_S1024_S1x1024_1 (shapeCast S1024 (extractStridedSlice S1x1024 ![0, 0] (Host.reduceWindowAdd ![2, 1] ![1, 1] ![1, 0] ![0, 0] (soft X)
    (broadcastInDim S_ ![] bcast_S_S_ (constant S_ .f32 0x00000000#32)) reduceWindows_S2x1024_S2x1024_w2s1p1_0_w1s1p0_0 h_S_) slices_S2x1024_S1x1024_0_0) shapeCasts_S1x1024_S1024)

theorem lbRow_at (X : FVec Ideal S2x1024 .f32) (j : Fin 1024) : lbRow X (ix2 0 j) = bound X j := by
  pointwise! [lbRow]
  rw [cumsum2_first _ _ Cert.RefHgrnSIdeal.Final.zero_at, soft_at]

/-- What the launch stages for the lower bounds, the norm weight and the initial states. -/
theorem V14 (c : Dev nD) : V m c main_v14 = lbRow (argX m c) := by
  unfold V
  simp only [List.flatten_cons, List.flatten_nil, List.cons_append, List.nil_append]
  after_results
  try rfl

theorem V16 (c : Dev nD) : V m c main_v16 = broadcastInDim S1x128 ![1] bcast_S128_S1x128_1 (shapeCast S128 (argW m c) shapeCasts_S1x128_S128) := by
  unfold V
  simp only [List.flatten_cons, List.flatten_nil, List.cons_append, List.nil_append]
  after_results
  try rfl

theorem V17 (c : Dev nD) : V m c main_v17 = shapeCast S8x8x128x128 (argS m c) shapeCasts_S1x8x8x128x128_S8x8x128x128 := by
  unfold V
  simp only [List.flatten_cons, List.flatten_nil, List.cons_append, List.nil_append]
  after_results
  try rfl

theorem blk0 (c : Dev nD) (t : Fin cfg0.N) (s : Fin 8) (j : Fin 1024) :
    iblk m c 0 t (ix2 s j) = argU m c (ix2 ⟨(bat t).val * 8 + s.val, by omega⟩ ⟨0 + j.val, by omega⟩) := by
  blk_ext [iblk, V, idx t, bat]

theorem blk1 (c : Dev nD) (t : Fin cfg0.N) (s : Fin 8) (j : Fin 1024) :
    iblk m c 1 t (ix2 s j) = argU m c (ix2 ⟨(bat t).val * 8 + s.val, by omega⟩ ⟨1024 + j.val, by omega⟩) := by
  blk_ext [iblk, V, idx t, bat]

theorem blk2 (c : Dev nD) (t : Fin cfg0.N) (s : Fin 8) (j : Fin 1024) :
    iblk m c 2 t (ix2 s j) = argU m c (ix2 ⟨(bat t).val * 8 + s.val, by omega⟩ ⟨2048 + j.val, by omega⟩) := by
  blk_ext [iblk, V, idx t, bat]

theorem blk3 (c : Dev nD) (t : Fin cfg0.N) (s : Fin 8) (j : Fin 1024) :
    iblk m c 3 t (ix2 s j) = argU m c (ix2 ⟨(bat t).val * 8 + s.val, by omega⟩ ⟨3072 + j.val, by omega⟩) := by
  blk_ext [iblk, V, idx t, bat]

theorem blk4 (c : Dev nD) (t : Fin cfg0.N) (j : Fin 1024) :
    iblk m c 4 t (ix2 0 j) = bound (argX m c) j := by
  refine Eq.trans ?_ (lbRow_at (argX m c) j)
  rw [← V14 m c]
  blk_ext [iblk, idx t]

theorem blk5 (c : Dev nD) (t : Fin cfg0.N) (e : Fin 128) :
    iblk m c 5 t (ix2 0 e) = argW m c (ix2 0 e) := by
  refine Eq.trans (b := V m c main_v16 (ix2 0 e)) ?_ ?_
  · blk_ext [iblk, idx t]
  · rw [V16 m c]
    generalize argW m c = W
    pointwise

theorem blk6 (c : Dev nD) (t : Fin cfg0.N) (h : Fin 8) (d e : Fin 128) :
    iblk m c 6 t (ix4 0 h d e) = argS m c (ix5 0 (bat t) h d e) := by
  refine Eq.trans (b := V m c main_v17 (ix4 (bat t) h d e)) ?_ ?_
  · blk_ext [iblk, idx t, bat]
  · rw [V17 m c]
    generalize argS m c = S
    pointwise

/-- A head's result at a point, from what its reads of the gate columns and of the initial state are. -/
theorem res_point (c : Dev nD) (t : Fin cfg0.N) (h : Fin 8) (o : ℕ) (hoh : o = h.val * 128) (h1 : S128x1024.Slices ![0, o] S128x128)
    (st : FVec Ideal S1x128x128 .f32) (hS : ∀ d e, st (ix3 0 e d) = iblk m c 6 t (ix4 0 h d e))
    (g : FVec Ideal S8x128 .f32) (hg : ∀ s (e : Fin 128), g (ix2 s e) = iblk m c 3 t (ix2 s ⟨h.val * 128 + e.val, by omega⟩))
    (p : FVec Ideal S8x128 .bf16) (hp : p = headRes (iblk m c 5 t) (headOut o h1 (k0_pay27 (F := Ideal) (k0_pay19 (F := Ideal) (iblk m c 4 t) (iblk m c 1 t)) (k0_pay21 (F := Ideal) (iblk m c 0 t)) same upTo)
      (k0_pay28 (F := Ideal) (k0_pay19 (F := Ideal) (iblk m c 4 t) (iblk m c 1 t)) (k0_pay20 (F := Ideal) (iblk m c 4 t) (iblk m c 1 t)) same upTo) (k0_pay29 (F := Ideal) (k0_pay22 (F := Ideal) (iblk m c 2 t))) st) g)
    (x : S8x128.Idx) (y : S8x1024.Idx) (h0 : (y 0).val = (x 0).val) (h1' : (y 1).val = o + (x 1).val) :
    p x = resSpec (argU m c) (argS m c) (argX m c) (argW m c) (bat t) ⟨(y 1).val / 128, by have := (y 1).isLt; simp at this; omega⟩ (y 0) ⟨(y 1).val % 128, Nat.mod_lt _ (by decide)⟩ := by
  subst hp hoh
  have lt := (x 1).isLt
  have e1 : (⟨(y 1).val / 128, by have := (y 1).isLt; simp at this; omega⟩ : Fin 8) = h := Fin.ext (by simp at lt ⊢; omega)
  have e2 : (⟨(y 1).val % 128, Nat.mod_lt _ (by decide)⟩ : Fin 128) = x 1 := Fin.ext (by simp at lt ⊢; omega)
  have e0 : y 0 = x 0 := Fin.ext h0
  rw [e1, e2, e0, eq_ix2 x]
  unfold resSpec
  exact headRes_res _ h1 (by omega) _ _ _ _ _ _ _ _ _ _ _ _ _ _ (fun d => bound_ne_top _ _) (fun d => blk4 m c t _) (fun s d => blk0 m c t s _) (fun s d => blk1 m c t s _)
    (fun s d => blk2 m c t s _) (fun d e => (hS d e).trans (blk6 m c t h d e)) (fun e => blk5 m c t e) (fun s e => (hg s e).trans (blk3 m c t s _)) _ _

/-- A head's state at a point. -/
theorem state_point (c : Dev nD) (t : Fin cfg0.N) (h : Fin 8) (o : ℕ) (hoh : o = h.val * 128) (h1 : S128x1024.Slices ![0, o] S128x128) (h2 : S1x1024.Slices ![0, o] S1x128)
    (st : FVec Ideal S1x128x128 .f32) (hS : ∀ d e, st (ix3 0 e d) = iblk m c 6 t (ix4 0 h d e))
    (p : FVec Ideal S1x1x128x128 .f32) (hp : p = k0_pay2 (F := Ideal) (headNext o h1 h2 (k0_pay33 (F := Ideal) (k0_pay19 (F := Ideal) (iblk m c 4 t) (iblk m c 1 t)) (k0_pay20 (F := Ideal) (iblk m c 4 t) (iblk m c 1 t)) same upTo)
      (k0_pay34 (F := Ideal) (k0_pay19 (F := Ideal) (iblk m c 4 t) (iblk m c 1 t)) same upTo) (k0_pay29 (F := Ideal) (k0_pay22 (F := Ideal) (iblk m c 2 t))) st))
    (x : S1x1x128x128.Idx) (y : S1x8x128x128.Idx) (hy : (y 1).val = h.val + (x 1).val) (h2' : (y 2).val = (x 2).val) (h3 : (y 3).val = (x 3).val) :
    p x = stateSpec (argU m c) (argS m c) (argX m c) (bat t) (y 1) (y 2) (y 3) := by
  subst hp hoh
  have lt := (x 1).isLt
  have e1 : y 1 = h := Fin.ext (by have : (x 1).val < 1 := lt; omega)
  have e2 : y 2 = x 2 := Fin.ext h2'
  have e3 : y 3 = x 3 := Fin.ext h3
  rw [e1, e2, e3, eq_ix4 x]
  unfold stateSpec
  refine Eq.trans ?_ (headNext_next _ h1 h2 (by omega) _ _ _ _ _ _ _ _ (fun d => bound_ne_top _ _) (fun d => blk4 m c t _) (fun s d => blk1 m c t s _)
    (fun s d => blk2 m c t s _) (fun d e => (hS d e).trans (blk6 m c t h d e)) (x 2) (x 3))
  pointwise! [k0_pay2]

set_option maxHeartbeats 800000 in
/-- A point's output block. -/
theorem out_at (c : Dev nD) (t : Fin cfg0.N) (y : S8x1024.Idx) :
    (outsAt0 m c t).1 y = resSpec (argU m c) (argS m c) (argX m c) (argW m c) (bat t) ⟨(y 1).val / 128, by have := (y 1).isLt; simp at this; omega⟩ (y 0) ⟨(y 1).val % 128, Nat.mod_lt _ (by decide)⟩ := by
  unfold outsAt0
  frame_open
  simp (disch := decide) only [↓ View.readCov_skip, ↓ View.readCov_cons_toLoadRect, ↓ View.readCov_fill]
  frame_out
  canon_tiles x h
  case piece0 => exact res_point m c t 7 896 rfl slices_S128x1024_o0_896_S128x128 _ (fun d e => by generalize iblk m c 6 t = X; pointwise! [k0_pay6, k0_pay7, k0_pay8, k0_pay9, k0_pay14, k0_pay15, k0_pay16, k0_pay17]) _ (fun s e => by generalize iblk m c 3 t = X; pointwise!) _ rfl x y h0 (by omega)
  case piece1 => exact res_point m c t 6 768 rfl slices_S128x1024_o0_768_S128x128 _ (fun d e => by generalize iblk m c 6 t = X; pointwise! [k0_pay6, k0_pay7, k0_pay8, k0_pay9, k0_pay14, k0_pay15, k0_pay16, k0_pay17]) _ (fun s e => by generalize iblk m c 3 t = X; pointwise!) _ rfl x y h0 (by omega)
  case piece2 => exact res_point m c t 5 640 rfl slices_S128x1024_o0_640_S128x128 _ (fun d e => by generalize iblk m c 6 t = X; pointwise! [k0_pay6, k0_pay7, k0_pay8, k0_pay9, k0_pay14, k0_pay15, k0_pay16, k0_pay17]) _ (fun s e => by generalize iblk m c 3 t = X; pointwise!) _ rfl x y h0 (by omega)
  case piece3 => exact res_point m c t 4 512 rfl slices_S128x1024_o0_512_S128x128 _ (fun d e => by generalize iblk m c 6 t = X; pointwise! [k0_pay6, k0_pay7, k0_pay8, k0_pay9, k0_pay14, k0_pay15, k0_pay16, k0_pay17]) _ (fun s e => by generalize iblk m c 3 t = X; pointwise!) _ rfl x y h0 (by omega)
  case piece4 => exact res_point m c t 3 384 rfl slices_S128x1024_o0_384_S128x128 _ (fun d e => by generalize iblk m c 6 t = X; pointwise! [k0_pay6, k0_pay7, k0_pay8, k0_pay9, k0_pay14, k0_pay15, k0_pay16, k0_pay17]) _ (fun s e => by generalize iblk m c 3 t = X; pointwise!) _ rfl x y h0 (by omega)
  case piece5 => exact res_point m c t 2 256 rfl slices_S128x1024_o0_256_S128x128 _ (fun d e => by generalize iblk m c 6 t = X; pointwise! [k0_pay6, k0_pay7, k0_pay8, k0_pay9, k0_pay14, k0_pay15, k0_pay16, k0_pay17]) _ (fun s e => by generalize iblk m c 3 t = X; pointwise!) _ rfl x y h0 (by omega)
  case piece6 => exact res_point m c t 1 128 rfl slices_S128x1024_o0_128_S128x128 _ (fun d e => by generalize iblk m c 6 t = X; pointwise! [k0_pay6, k0_pay7, k0_pay8, k0_pay9, k0_pay14, k0_pay15, k0_pay16, k0_pay17]) _ (fun s e => by generalize iblk m c 3 t = X; pointwise!) _ rfl x y h0 (by omega)
  case piece7 => exact res_point m c t 0 0 rfl slices_S128x1024_o0_0_S128x128 _ (fun d e => by generalize iblk m c 6 t = X; pointwise! [k0_pay6, k0_pay7, k0_pay8, k0_pay9, k0_pay14, k0_pay15, k0_pay16, k0_pay17]) _ (fun s e => by generalize iblk m c 3 t = X; pointwise!) _ rfl x y h0 (by omega)

set_option maxHeartbeats 800000 in
/-- A point's state block. -/
theorem state_at (c : Dev nD) (t : Fin cfg0.N) (y : S1x8x128x128.Idx) :
    (outsAt0 m c t).2 y = stateSpec (argU m c) (argS m c) (argX m c) (bat t) (y 1) (y 2) (y 3) := by
  unfold outsAt0
  frame_open
  simp (disch := decide) only [↓ View.readCov_skip, ↓ View.readCov_cons_toLoadRect, ↓ View.readCov_fill]
  frame_out
  canon_tiles x h
  all_goals simp only [k0_pay2, k0_pay3, k0_pay4, k0_pay5, k0_pay10, k0_pay11, k0_pay12, k0_pay13, k0_pay36, k0_pay38, k0_pay39, k0_pay42, k0_pay44, k0_pay45, k0_pay49, k0_pay50, k0_pay51, k0_pay54, k0_pay55, k0_pay56, k0_pay61, k0_pay62, k0_pay64, k0_pay66, k0_pay67, k0_pay69, k0_pay70, k0_pay71, k0_pay74, k0_pay76, k0_pay77, k0_pay80, k0_pay82, k0_pay83]
  case piece0 => exact state_point m c t 7 896 rfl slices_S128x1024_o0_896_S128x128 slices_S1x1024_o0_896_S1x128 _ (fun d e => by generalize iblk m c 6 t = X; pointwise! [k0_pay6, k0_pay7, k0_pay8, k0_pay9, k0_pay14, k0_pay15, k0_pay16, k0_pay17]) _ rfl x y (by omega) h2 h3
  case piece1 => exact state_point m c t 6 768 rfl slices_S128x1024_o0_768_S128x128 slices_S1x1024_o0_768_S1x128 _ (fun d e => by generalize iblk m c 6 t = X; pointwise! [k0_pay6, k0_pay7, k0_pay8, k0_pay9, k0_pay14, k0_pay15, k0_pay16, k0_pay17]) _ rfl x y (by omega) h2 h3
  case piece2 => exact state_point m c t 5 640 rfl slices_S128x1024_o0_640_S128x128 slices_S1x1024_o0_640_S1x128 _ (fun d e => by generalize iblk m c 6 t = X; pointwise! [k0_pay6, k0_pay7, k0_pay8, k0_pay9, k0_pay14, k0_pay15, k0_pay16, k0_pay17]) _ rfl x y (by omega) h2 h3
  case piece3 => exact state_point m c t 4 512 rfl slices_S128x1024_o0_512_S128x128 slices_S1x1024_o0_512_S1x128 _ (fun d e => by generalize iblk m c 6 t = X; pointwise! [k0_pay6, k0_pay7, k0_pay8, k0_pay9, k0_pay14, k0_pay15, k0_pay16, k0_pay17]) _ rfl x y (by omega) h2 h3
  case piece4 => exact state_point m c t 3 384 rfl slices_S128x1024_o0_384_S128x128 slices_S1x1024_o0_384_S1x128 _ (fun d e => by generalize iblk m c 6 t = X; pointwise! [k0_pay6, k0_pay7, k0_pay8, k0_pay9, k0_pay14, k0_pay15, k0_pay16, k0_pay17]) _ rfl x y (by omega) h2 h3
  case piece5 => exact state_point m c t 2 256 rfl slices_S128x1024_o0_256_S128x128 slices_S1x1024_o0_256_S1x128 _ (fun d e => by generalize iblk m c 6 t = X; pointwise! [k0_pay6, k0_pay7, k0_pay8, k0_pay9, k0_pay14, k0_pay15, k0_pay16, k0_pay17]) _ rfl x y (by omega) h2 h3
  case piece6 => exact state_point m c t 1 128 rfl slices_S128x1024_o0_128_S128x128 slices_S1x1024_o0_128_S1x128 _ (fun d e => by generalize iblk m c 6 t = X; pointwise! [k0_pay6, k0_pay7, k0_pay8, k0_pay9, k0_pay14, k0_pay15, k0_pay16, k0_pay17]) _ rfl x y (by omega) h2 h3
  case piece7 => exact state_point m c t 0 0 rfl slices_S128x1024_o0_0_S128x128 slices_S1x1024_o0_0_S1x128 _ (fun d e => by generalize iblk m c 6 t = X; pointwise! [k0_pay6, k0_pay7, k0_pay8, k0_pay9, k0_pay14, k0_pay15, k0_pay16, k0_pay17]) _ rfl x y (by omega) h2 h3

/-- The two result arrays, from the arguments. -/
theorem final_out (c : Dev nD) : (dats m 0 c).arrAt 7 (cfgs 0).N = resArr (argU m c) (argS m c) (argX m c) (argW m c) := by
  refine (dats m 0 c).arrAt_eq_of_covers 7 _ (by decide +kernel) fun t hf y => ?_
  blk_simp
  rw [after0_7]
  refine (out_at m c t y).trans ?_
  have hy : (y 0).val < 8 := (y 0).isLt
  unfold resArr
  congr 1
  · refine Fin.ext ?_
    blk_simp [idx t, bat]
    show t.val = (t.val * 8 + (y 0).val) / 8
    omega
  · refine Fin.ext ?_
    blk_simp [idx t, bat]
  · refine Fin.ext ?_
    blk_simp [idx t, bat]
    show (y 0).val = (t.val * 8 + (y 0).val) % 8
    omega
  · refine Fin.ext ?_
    blk_simp [idx t, bat]

theorem final_state (c : Dev nD) : (dats m 0 c).arrAt 8 (cfgs 0).N = stateArr (argU m c) (argS m c) (argX m c) := by
  refine (dats m 0 c).arrAt_eq_of_covers 8 _ (by decide +kernel) fun t hf y => ?_
  blk_simp
  rw [after0_8]
  refine (state_at m c t y).trans ?_
  have hy : (y 0).val < 1 := (y 0).isLt
  unfold stateArr
  congr 1
  · refine Fin.ext ?_
    blk_simp [idx t, bat]
  · refine Fin.ext ?_
    blk_simp [idx t, bat]
  · refine Fin.ext ?_
    blk_simp [idx t, bat]
  · refine Fin.ext ?_
    blk_simp [idx t, bat]

end Cert.HgrnSIdeal.Final

end
-- ==== Proof.HgrnSClaim.lean ====
module

public import proofs.«01_k».proof.Defs
public import proofs.«01_k».proof.Proof.HgrnSValue
public import proofs.«01_k».proof.Proof.Gen.RefHgrnSIdeal.Run
public import Idealize.ShloMosaic.Lib.Claim

@[expose] public section

set_option maxRecDepth 65536

noncomputable section

namespace Cert.Proof

open Idealize.ShloMosaic Idealize.SL.Sem

/-- The kernel's recurrence over the sample rows and the reference's end equal, results and states, as extended reals. -/
theorem algebraic_HgrnS : Cert.algebraic_HgrnSIdeal_RefHgrnSIdeal := by
  pair_intro
  · run_from Cert.HgrnSIdeal.Gen.run_main m g
    all_goals rfl
  · run_from Cert.RefHgrnSIdeal.Value.run m' g'
    · rw [Cert.RefHgrnSIdeal.Final.ref_resArr, Cert.HgrnSIdeal.Final.final_out m c, (hagree c).1, (hagree c).2.1, (hagree c).2.2.1, (hagree c).2.2.2]
    · rw [Cert.RefHgrnSIdeal.Final.ref_stateArr, Cert.HgrnSIdeal.Final.final_state m c, (hagree c).1, (hagree c).2.1, (hagree c).2.2.1]

end Cert.Proof

end
-- ==== Proof.ProjValue.lean ====
module

public import proofs.«01_k».proof.Proof.Gen.ProjIdeal.Frame
public import proofs.«01_k».proof.Proof.Gen.RefProjIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RefProjIdeal.Term

open Cert.RefProjIdeal Cert.RefProjIdeal.Gen

/-- The plain projection of the prompt rows: RMS norm of each row, times the norm's weight, times the weight matrix. -/
def REF (X : FVec Ideal S4x2048x2048 .f32) (g : FVec Ideal S1x2048 .f32) (W : FVec Ideal S1x2048x11264 .f32) :
    FVec Ideal S8192x11264 .f32 :=
  shapeCast _ (Host.dotGeneral dot_S4x2048x2048_S2048x11264_S4x2048x11264_2_0_01_1_n_n none (mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ g shapeCasts_S1x2048_S2048)))) (shapeCast _ W shapeCasts_S1x2048x11264_S2048x11264)) shapeCasts_S4x2048x11264_S8192x11264

end Cert.RefProjIdeal.Term

namespace Cert.ProjIdeal.Final

open Cert.ProjIdeal Cert.ProjIdeal.Gen

variable (m : (ℓ : Loc nD τ sig) → Buf (Elt Ideal) ℓ)

/-- The windows' block indices at a point, and the first point of its run of eleven. -/
theorem idx : ∀ t : Fin cfg0.N, win0_0.index t = ![t.val / 11, 0] ∧ win0_1.index t = ![0, 0]
    ∧ win0_2.index t = ![0, t.val % 11] ∧ win0_3.index t = ![t.val / 11, t.val % 11] :=
  (by decide +kernel : ∀ t : Fin grid0.N, _)

/-- What a first point of a run stores into the output block. -/
theorem outA (c : Dev nD) (t : Fin cfg0.N) (h : t.val % 11 = 0) :
    outsAt0 m c t.val t.isLt = (k0_pay2 (k0_pay1 (iblk m c 0 t) (iblk m c 1 t)) (iblk m c 2 t), k0_pay1 (iblk m c 0 t) (iblk m c 1 t)) := by
  rw [outsAt0_A m c t h]
  frame_out

/-- What a later point of a run stores, over what the point before left in the scratch. -/
theorem outB (c : Dev nD) (t : Fin cfg0.N) (h : ¬t.val % 11 = 0) :
    outsAt0 m c t.val t.isLt
      = (k0_pay2 (outsAt0 m c (t.val - 1) (Nat.lt_of_le_of_lt (Nat.sub_le _ _) t.isLt)).2 (iblk m c 2 t),
        (outsAt0 m c (t.val - 1) (Nat.lt_of_le_of_lt (Nat.sub_le _ _) t.isLt)).2) := by
  rw [outsAt0_B m c t h]
  frame_out
  rw [(Memref.isWhole_whole _ : scM0_0.IsWhole).read_unread]
  rfl

/-- The first two input blocks do not move within a run. -/
theorem iblk_run (c : Dev nD) (t u : Fin cfg0.N) (h : t.val / 11 = u.val / 11) :
    k0_pay1 (iblk m c 0 t) (iblk m c 1 t) = k0_pay1 (iblk m c 0 u) (iblk m c 1 u) := by
  have e0 : iblk m c 0 t = iblk m c 0 u := by
    funext y; blk_ext [iblk, idx t, idx u, h]
  have e1 : iblk m c 1 t = iblk m c 1 u := by
    funext y; blk_ext [iblk, idx t, idx u]
  rw [e0, e1]

/-- The scratch holds the normalized rows of the point's own row block after every point. -/
theorem scratch (c : Dev nD) : ∀ (n : ℕ) (h : n < cfg0.N),
    (outsAt0 m c n h).2 = k0_pay1 (iblk m c 0 ⟨n, h⟩) (iblk m c 1 ⟨n, h⟩)
  | 0, h => by rw [outA m c ⟨0, h⟩ (Nat.zero_mod _)]
  | n + 1, h => by
    by_cases h0 : (n + 1) % 11 = 0
    · rw [outA m c ⟨n + 1, h⟩ h0]
    · rw [outB m c ⟨n + 1, h⟩ h0]
      exact (scratch c n (Nat.lt_of_succ_lt h)).trans
        (iblk_run m c ⟨n, Nat.lt_of_succ_lt h⟩ ⟨n + 1, h⟩ (show n / 11 = (n + 1) / 11 by omega))

/-- So every point stores the product of its normalized rows with its block of columns. -/
theorem out_eq (c : Dev nD) (t : Fin cfg0.N) :
    (outsAt0 m c t.val t.isLt).1 = k0_pay2 (k0_pay1 (iblk m c 0 t) (iblk m c 1 t)) (iblk m c 2 t) := by
  by_cases h0 : t.val % 11 = 0
  · rw [outA m c t h0]
  · have e := scratch m c t.val t.isLt
    rw [outB m c t h0] at e ⊢
    dsimp only at e ⊢
    rw [e]

/-- The row block, read in the argument. -/
theorem blk0 (c : Dev nD) (t : Fin cfg0.N) (y : S1024x1024.Idx) (k : Fin 2048) (i : S8192x11264.Idx)
    (hi : ((cfg0.win 3).blk t).view.emb y = i) :
    iblk m c 0 t (ix2 (y 0) k) = m ((c : Thread nD τ).loc main_arg0) (ix3 ⟨(i 0).val / 2048, by have := (i 0).isLt; simp at this; omega⟩ ⟨(i 0).val % 2048, Nat.mod_lt _ (by decide)⟩ k) := by
  subst hi
  blk_simp [iblk]
  entry_read
  pointwise
  blk_ext [idx t]

theorem blk1 (c : Dev nD) (t : Fin cfg0.N) (k : Fin 2048) :
    iblk m c 1 t (ix2 0 k) = m ((c : Thread nD τ).loc main_arg1) (ix2 0 k) := by
  blk_simp [iblk]
  entry_read
  pointwise
  blk_ext [idx t]

theorem blk2 (c : Dev nD) (t : Fin cfg0.N) (y : S1024x1024.Idx) (k : Fin 2048) (i : S8192x11264.Idx)
    (hi : ((cfg0.win 3).blk t).view.emb y = i) :
    iblk m c 2 t (ix2 k (y 1)) = m ((c : Thread nD τ).loc main_arg2) (ix3 0 k (i 1)) := by
  subst hi
  blk_simp [iblk]
  entry_read
  pointwise
  blk_ext [idx t]

/-- The stored block, read at an index, is the reference at the array index it sits at. -/
theorem point (c : Dev nD) (t : Fin cfg0.N) (y : S1024x1024.Idx) :
    k0_pay2 (k0_pay1 (iblk m c 0 t) (iblk m c 1 t)) (iblk m c 2 t) y
      = Cert.RefProjIdeal.Term.REF (m ((c : Thread nD τ).loc main_arg0)) (m ((c : Thread nD τ).loc main_arg1))
          (m ((c : Thread nD τ).loc main_arg2)) (((cfg0.win 3).blk t).view.emb y) := by
  generalize hi : ((cfg0.win 3).blk t).view.emb y = i
  pointwise [k0_pay2, k0_pay1, Cert.RefProjIdeal.Term.REF]
  simp only [blk0 m c t y _ i hi, blk1 m c t, blk2 m c t y _ i hi]

/-- The result array is the plain projection of the arguments. -/
theorem final (c : Dev nD) : (dats m 0 c).arrAt 3 (cfgs 0).N
    = Cert.RefProjIdeal.Term.REF (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3, out_eq]
  exact point m c t y

end Cert.ProjIdeal.Final
-- ==== Proof.ProjSValue.lean ====
module

public import proofs.«01_k».proof.Proof.Gen.ProjSIdeal.Frame
public import proofs.«01_k».proof.Proof.Gen.RefProjSIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RefProjSIdeal.Term

open Cert.RefProjSIdeal Cert.RefProjSIdeal.Gen

/-- The plain projection of the sample rows: RMS norm of each row, times the norm's weight, times the weight matrix. -/
def REF (X : FVec Ideal S8x8x2048 .f32) (g : FVec Ideal S1x2048 .f32) (W : FVec Ideal S1x2048x11264 .f32) :
    FVec Ideal S64x11264 .f32 :=
  shapeCast _ (Host.dotGeneral dot_S8x8x2048_S2048x11264_S8x8x11264_2_0_01_1_n_n none (mulf (mulf X (broadcastInDim S8x8x2048 ![0, 1, 2] bcast_S8x8x1_S8x8x2048_0_1_2 (Host.rsqrt (addf (Host.divf (broadcastInDim S8x8x1 ![0, 1] bcast_S8x8_S8x8x1_0_1 (Host.reduceAdd (mulf X X) (constant S_ .f32 0x00000000#32) reducesTo_S8x8x2048_S8x8_d2 h_S_)) (broadcastInDim S8x8x1 ![] bcast_S_S8x8x1 (constant S_ .f32 0x45000000#32))) (broadcastInDim S8x8x1 ![] bcast_S_S8x8x1 (constant S_ .f32 0x358637BD#32)))))) (broadcastInDim S8x8x2048 ![0, 1, 2] bcast_S1x1x2048_S8x8x2048_0_1_2 (broadcastInDim S1x1x2048 ![2] bcast_S2048_S1x1x2048_2 (shapeCast _ g shapeCasts_S1x2048_S2048)))) (shapeCast _ W shapeCasts_S1x2048x11264_S2048x11264)) shapeCasts_S8x8x11264_S64x11264

end Cert.RefProjSIdeal.Term

namespace Cert.ProjSIdeal.Final

open Cert.ProjSIdeal Cert.ProjSIdeal.Gen

variable (m : (ℓ : Loc nD τ sig) → Buf (Elt Ideal) ℓ)

/-- The windows' block indices at a point, and the first point of its run of eleven. -/
theorem idx : ∀ t : Fin cfg0.N, win0_0.index t = ![t.val / 11, 0] ∧ win0_1.index t = ![0, 0]
    ∧ win0_2.index t = ![0, t.val % 11] ∧ win0_3.index t = ![t.val / 11, t.val % 11] :=
  (by decide +kernel : ∀ t : Fin grid0.N, _)

/-- What a first point of a run stores into the output block. -/
theorem outA (c : Dev nD) (t : Fin cfg0.N) (h : t.val % 11 = 0) :
    outsAt0 m c t.val t.isLt = (k0_pay2 (k0_pay1 (iblk m c 0 t) (iblk m c 1 t)) (iblk m c 2 t), k0_pay1 (iblk m c 0 t) (iblk m c 1 t)) := by
  rw [outsAt0_A m c t h]
  frame_out

/-- What a later point of a run stores, over what the point before left in the scratch. -/
theorem outB (c : Dev nD) (t : Fin cfg0.N) (h : ¬t.val % 11 = 0) :
    outsAt0 m c t.val t.isLt
      = (k0_pay2 (outsAt0 m c (t.val - 1) (Nat.lt_of_le_of_lt (Nat.sub_le _ _) t.isLt)).2 (iblk m c 2 t),
        (outsAt0 m c (t.val - 1) (Nat.lt_of_le_of_lt (Nat.sub_le _ _) t.isLt)).2) := by
  rw [outsAt0_B m c t h]
  frame_out
  rw [(Memref.isWhole_whole _ : scM0_0.IsWhole).read_unread]
  rfl

/-- The first two input blocks do not move within a run. -/
theorem iblk_run (c : Dev nD) (t u : Fin cfg0.N) (h : t.val / 11 = u.val / 11) :
    k0_pay1 (iblk m c 0 t) (iblk m c 1 t) = k0_pay1 (iblk m c 0 u) (iblk m c 1 u) := by
  have e0 : iblk m c 0 t = iblk m c 0 u := by
    funext y; blk_ext [iblk, idx t, idx u, h]
  have e1 : iblk m c 1 t = iblk m c 1 u := by
    funext y; blk_ext [iblk, idx t, idx u]
  rw [e0, e1]

/-- The scratch holds the normalized rows of the point's own row block after every point. -/
theorem scratch (c : Dev nD) : ∀ (n : ℕ) (h : n < cfg0.N),
    (outsAt0 m c n h).2 = k0_pay1 (iblk m c 0 ⟨n, h⟩) (iblk m c 1 ⟨n, h⟩)
  | 0, h => by rw [outA m c ⟨0, h⟩ (Nat.zero_mod _)]
  | n + 1, h => by
    by_cases h0 : (n + 1) % 11 = 0
    · rw [outA m c ⟨n + 1, h⟩ h0]
    · rw [outB m c ⟨n + 1, h⟩ h0]
      exact (scratch c n (Nat.lt_of_succ_lt h)).trans
        (iblk_run m c ⟨n, Nat.lt_of_succ_lt h⟩ ⟨n + 1, h⟩ (show n / 11 = (n + 1) / 11 by omega))

/-- So every point stores the product of its normalized rows with its block of columns. -/
theorem out_eq (c : Dev nD) (t : Fin cfg0.N) :
    (outsAt0 m c t.val t.isLt).1 = k0_pay2 (k0_pay1 (iblk m c 0 t) (iblk m c 1 t)) (iblk m c 2 t) := by
  by_cases h0 : t.val % 11 = 0
  · rw [outA m c t h0]
  · have e := scratch m c t.val t.isLt
    rw [outB m c t h0] at e ⊢
    dsimp only at e ⊢
    rw [e]

/-- The row block, read in the argument. -/
theorem blk0 (c : Dev nD) (t : Fin cfg0.N) (y : S64x1024.Idx) (k : Fin 2048) (i : S64x11264.Idx)
    (hi : ((cfg0.win 3).blk t).view.emb y = i) :
    iblk m c 0 t (ix2 (y 0) k) = m ((c : Thread nD τ).loc main_arg0) (ix3 ⟨(i 0).val / 8, by have := (i 0).isLt; simp at this; omega⟩ ⟨(i 0).val % 8, Nat.mod_lt _ (by decide)⟩ k) := by
  subst hi
  blk_simp [iblk]
  entry_read
  pointwise
  blk_ext [idx t]

theorem blk1 (c : Dev nD) (t : Fin cfg0.N) (k : Fin 2048) :
    iblk m c 1 t (ix2 0 k) = m ((c : Thread nD τ).loc main_arg1) (ix2 0 k) := by
  blk_simp [iblk]
  entry_read
  pointwise
  blk_ext [idx t]

theorem blk2 (c : Dev nD) (t : Fin cfg0.N) (y : S64x1024.Idx) (k : Fin 2048) (i : S64x11264.Idx)
    (hi : ((cfg0.win 3).blk t).view.emb y = i) :
    iblk m c 2 t (ix2 k (y 1)) = m ((c : Thread nD τ).loc main_arg2) (ix3 0 k (i 1)) := by
  subst hi
  blk_simp [iblk]
  entry_read
  pointwise
  blk_ext [idx t]

/-- The stored block, read at an index, is the reference at the array index it sits at. -/
theorem point (c : Dev nD) (t : Fin cfg0.N) (y : S64x1024.Idx) :
    k0_pay2 (k0_pay1 (iblk m c 0 t) (iblk m c 1 t)) (iblk m c 2 t) y
      = Cert.RefProjSIdeal.Term.REF (m ((c : Thread nD τ).loc main_arg0)) (m ((c : Thread nD τ).loc main_arg1))
          (m ((c : Thread nD τ).loc main_arg2)) (((cfg0.win 3).blk t).view.emb y) := by
  generalize hi : ((cfg0.win 3).blk t).view.emb y = i
  pointwise [k0_pay2, k0_pay1, Cert.RefProjSIdeal.Term.REF]
  simp only [blk0 m c t y _ i hi, blk1 m c t, blk2 m c t y _ i hi]

/-- The result array is the plain projection of the arguments. -/
theorem final (c : Dev nD) : (dats m 0 c).arrAt 3 (cfgs 0).N
    = Cert.RefProjSIdeal.Term.REF (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3, out_eq]
  exact point m c t y

end Cert.ProjSIdeal.Final
-- ==== Proof.MergeValue.lean ====
module

public import proofs.«01_k».proof.Proof.Rows
public import proofs.«01_k».proof.Proof.Gen.MergeIdeal.Frame
public import Idealize.ShloMosaic.Lib.Pipeline.ValueKit
public import Idealize.ShloMosaic.Lib.Pointwise
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.MergeIdeal.Final

open Cert.MergeIdeal Cert.MergeIdeal.Gen Cert.Rows

/-- The row length and the epsilon of the norm, as printed. -/
abbrev len : EReal := Scalar.ofBits (F := Ideal) .f32 0x45000000#32
abbrev eps : EReal := Scalar.ofBits (F := Ideal) .f32 0x358637BD#32

/-- Entry `e` of row `r` of the two branches' products, each times the sigmoid of its gate column, added. -/
def blend (P Q : FVec Ideal S8192x1024 .bf16) (U : FVec Ideal S8192x11264 .f32) (V W : FVec Ideal S1x1024x2048 .f32)
    (r : Fin 8192) (e : Fin 2048) : EReal :=
  sigm (U (ix2 r ⟨7168 + e.val, by omega⟩)) * (∑ k, P (ix2 r k) * V (ix3 0 k e))
    + sigm (U (ix2 r ⟨9216 + e.val, by omega⟩)) * (∑ k, Q (ix2 r k) * W (ix3 0 k e))

/-- The whole merge: the row plus the norm of the blended row's product with the output weights. -/
def merge (P Q : FVec Ideal S8192x1024 .bf16) (U : FVec Ideal S8192x11264 .f32) (X : FVec Ideal S8192x2048 .f32)
    (V W : FVec Ideal S1x1024x2048 .f32) (O : FVec Ideal S1x2048x2048 .f32) (g : FVec Ideal S1x2048 .f32) :
    FVec Ideal S8192x2048 .f32 :=
  fun y => X (ix2 (y 0) (y 1)) + rmsEntry (fun d => ∑ e, blend P Q U V W (y 0) e * O (ix3 0 e d)) len eps (fun d => g (ix2 0 d)) (y 1)

/-- Two blocks of columns side by side. -/
def beside (a b : FVec Ideal S256x1024 .f32) (i : Fin 256) (e : Fin 2048) : EReal :=
  if h : e.val < 1024 then a (ix2 i ⟨e.val, h⟩) else b (ix2 i ⟨e.val - 1024, by omega⟩)

theorem pay2_at (a b s t : FVec Ideal S256x1024 .f32) (p q : FVec Ideal S256x1024 .bf16) (v w : FVec Ideal S1024x2048 .bf16)
    (i : Fin 256) (e : Fin 2048) :
    k0_pay2 (F := Ideal) a b s t p v q w (ix2 i e)
      = sigm (beside a b i e) * (∑ k, p (ix2 i k) * v (ix2 k e)) + sigm (beside s t i e) * (∑ k, q (ix2 i k) * w (ix2 k e)) := by
  pointwise! [k0_pay2, beside]
  simp only [sigm_sub]

theorem pay1_at (z : FVec Ideal S256x2048 .bf16) (o : FVec Ideal S2048x2048 .bf16) (x : FVec Ideal S256x2048 .f32)
    (g : FVec Ideal S1x2048 .f32) (i : Fin 256) (d : Fin 2048) :
    k0_pay1 (F := Ideal) z o x g (ix2 i d)
      = x (ix2 i d) + rmsEntry (fun d => ∑ e, z (ix2 i e) * o (ix2 e d)) len eps (fun d => g (ix2 0 d)) d := by
  pointwise! [k0_pay1, rmsEntry]

variable (m : (ℓ : Loc nD τ sig) → Buf (Elt Ideal) ℓ)

/-- The windows' block indices at a point. -/
theorem idx : ∀ t : Fin cfg0.N, win0_0.index t = ![t.val, 0] ∧ win0_1.index t = ![t.val, 0]
    ∧ win0_2.index t = ![t.val, 7] ∧ win0_3.index t = ![t.val, 8] ∧ win0_4.index t = ![t.val, 9] ∧ win0_5.index t = ![t.val, 10]
    ∧ win0_6.index t = ![t.val, 0] ∧ win0_7.index t = ![0, 0] ∧ win0_8.index t = ![0, 0] ∧ win0_9.index t = ![0, 0]
    ∧ win0_10.index t = ![0, 0] ∧ win0_11.index t = ![t.val, 0] :=
  (by decide +kernel : ∀ t : Fin grid0.N, _)

/-- The row of the array that row `i` of a point's row block is. -/
def row (t : Fin cfg0.N) (i : Fin 256) : Fin 8192 :=
  ⟨t.val * 256 + i.val, by have := lt_of_lt_of_eq t.isLt (show cfg0.N = 32 from N_0); omega⟩

theorem blk0 (c : Dev nD) (t : Fin cfg0.N) (i : Fin 256) (k : Fin 1024) :
    iblk m c 0 t (ix2 i k) = m ((c : Thread nD τ).loc main_arg0) (ix2 (row t i) k) := by
  blk_ext [iblk, V, idx t, row]

theorem blk1 (c : Dev nD) (t : Fin cfg0.N) (i : Fin 256) (k : Fin 1024) :
    iblk m c 1 t (ix2 i k) = m ((c : Thread nD τ).loc main_arg1) (ix2 (row t i) k) := by
  blk_ext [iblk, V, idx t, row]

theorem blk2 (c : Dev nD) (t : Fin cfg0.N) (i : Fin 256) (e : Fin 1024) :
    iblk m c 2 t (ix2 i e) = m ((c : Thread nD τ).loc main_arg2) (ix2 (row t i) ⟨7168 + e.val, by omega⟩) := by
  blk_ext [iblk, V, idx t, row]

theorem blk3 (c : Dev nD) (t : Fin cfg0.N) (i : Fin 256) (e : Fin 1024) :
    iblk m c 3 t (ix2 i e) = m ((c : Thread nD τ).loc main_arg2) (ix2 (row t i) ⟨8192 + e.val, by omega⟩) := by
  blk_ext [iblk, V, idx t, row]

theorem blk4 (c : Dev nD) (t : Fin cfg0.N) (i : Fin 256) (e : Fin 1024) :
    iblk m c 4 t (ix2 i e) = m ((c : Thread nD τ).loc main_arg2) (ix2 (row t i) ⟨9216 + e.val, by omega⟩) := by
  blk_ext [iblk, V, idx t, row]

theorem blk5 (c : Dev nD) (t : Fin cfg0.N) (i : Fin 256) (e : Fin 1024) :
    iblk m c 5 t (ix2 i e) = m ((c : Thread nD τ).loc main_arg2) (ix2 (row t i) ⟨10240 + e.val, by omega⟩) := by
  blk_ext [iblk, V, idx t, row]

theorem blk6 (c : Dev nD) (t : Fin cfg0.N) (i : Fin 256) (k : Fin 2048) :
    iblk m c 6 t (ix2 i k) = m ((c : Thread nD τ).loc main_arg3) (ix2 (row t i) k) := by
  blk_ext [iblk, V, idx t, row]

theorem blk7 (c : Dev nD) (t : Fin cfg0.N) (k : Fin 1024) (e : Fin 2048) :
    iblk m c 7 t (ix2 k e) = m ((c : Thread nD τ).loc main_arg4) (ix3 0 k e) := by
  blk_simp [iblk]; entry_read; pointwise; blk_ext [idx t]

theorem blk8 (c : Dev nD) (t : Fin cfg0.N) (k : Fin 1024) (e : Fin 2048) :
    iblk m c 8 t (ix2 k e) = m ((c : Thread nD τ).loc main_arg5) (ix3 0 k e) := by
  blk_simp [iblk]; entry_read; pointwise; blk_ext [idx t]

theorem blk9 (c : Dev nD) (t : Fin cfg0.N) (k : Fin 2048) (e : Fin 2048) :
    iblk m c 9 t (ix2 k e) = m ((c : Thread nD τ).loc main_arg6) (ix3 0 k e) := by
  blk_simp [iblk]; entry_read; pointwise; blk_ext [idx t]

theorem blk10 (c : Dev nD) (t : Fin cfg0.N) (d : Fin 2048) :
    iblk m c 10 t (ix2 0 d) = m ((c : Thread nD τ).loc main_arg7) (ix2 0 d) := by
  blk_simp [iblk]; entry_read; pointwise; blk_ext [idx t]

/-- Two blocks that are the columns from `o` and from `o + 1024` of a row are the columns from `o`. -/
theorem beside_eq (a b : FVec Ideal S256x1024 .f32) (U : FVec Ideal S8192x11264 .f32) (o : ℕ) (ho : o + 2048 ≤ 11264)
    (i : Fin 256) (r : Fin 8192)
    (ha : ∀ e : Fin 1024, a (ix2 i e) = U (ix2 r ⟨o + e.val, by omega⟩))
    (hb : ∀ e : Fin 1024, b (ix2 i e) = U (ix2 r ⟨o + 1024 + e.val, by omega⟩)) (e : Fin 2048) :
    beside a b i e = U (ix2 r ⟨o + e.val, by omega⟩) := by
  unfold beside
  split
  · rw [ha]
  · rw [hb]
    congr 3
    show o + 1024 + (e.val - 1024) = o + e.val
    omega

/-- What a point writes back, read at an index, is the merge at the row it sits at. -/
theorem point (c : Dev nD) (t : Fin cfg0.N) (i : Fin 256) (d : Fin 2048) :
    out0_11 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix2 i d)
      = merge (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (ix2 (row t i) d) := by
  unfold out0_11
  frame_open
  frame_out
  refine (pay1_at _ _ _ _ i d).trans ?_
  have hg := beside_eq (iblk m c 2 t) (iblk m c 3 t) (m ((c : Thread nD τ).loc main_arg2)) 7168 (by decide) i (row t i) (blk2 m c t i) (blk3 m c t i)
  have hh := beside_eq (iblk m c 4 t) (iblk m c 5 t) (m ((c : Thread nD τ).loc main_arg2)) 9216 (by decide) i (row t i) (blk4 m c t i) (blk5 m c t i)
  simp only [pay2_at, hg, hh, blk0, blk1, blk6, blk7, blk8, blk9, blk10]
  rfl

/-- The result array is the merge of the arguments. -/
theorem final (c : Dev nD) : (dats m 0 c).arrAt 11 (cfgs 0).N
    = merge (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 11 _ (by decide +kernel) fun t hf y => ?_
  blk_simp
  rw [after0_11]
  idx_vars y
  refine (point m c t y0 y1).trans ?_
  congr 1
  blk_ext [idx t, row]

end Cert.MergeIdeal.Final
-- ==== Proof.MergeRef.lean ====
module

public import proofs.«01_k».proof.Proof.MergeValue
public import proofs.«01_k».proof.Proof.Gen.RefMergeIdeal.Run
public import Idealize.ShloMosaic.Lib.Pipeline.ValueKit
public import Idealize.ShloMosaic.Lib.Pointwise
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.RefMergeIdeal.Final

open Cert.RefMergeIdeal Cert.RefMergeIdeal.Gen Cert.Rows

/-- The reference's sigmoid of the gate columns from 7168. -/
def gateH (U : FVec Ideal S8192x11264 .f32) : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 7168] U slices_S8192x11264_S8192x2048_0_7168))))

/-- The reference's sigmoid of the gate columns from 9216. -/
def gateD (U : FVec Ideal S8192x11264 .f32) : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 9216] U slices_S8192x11264_S8192x2048_0_9216))))

/-- A branch's product with its weights. -/
def branch (P : FVec Ideal S8192x1024 .bf16) (V : FVec Ideal S1x1024x2048 .f32) : FVec Ideal S8192x2048 .f32 :=
  Host.dotGeneral dot_S8192x1024_S1024x2048_S8192x2048_1_0_0_1_n_n none P (shapeCast _ V shapeCasts_S1x1024x2048_S1024x2048)

/-- The output product of the gated branches. -/
def mixed (A B C D : FVec Ideal S8192x2048 .f32) (O : FVec Ideal S1x2048x2048 .f32) : FVec Ideal S8192x2048 .f32 :=
  Host.dotGeneral dot_S8192x2048_S2048x2048_S8192x2048_1_0_0_1_n_n none (addf (mulf A B) (mulf C D)) (shapeCast _ O shapeCasts_S1x2048x2048_S2048x2048)

/-- The reference's norm of all rows. -/
def nrm (X : FVec Ideal S8192x2048 .f32) (g : FVec Ideal S1x2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ g shapeCasts_S1x2048_S2048)))

theorem gateH_at (U : FVec Ideal S8192x11264 .f32) (r : Fin 8192) (e : Fin 2048) :
    gateH U (ix2 r e) = sigm (U (ix2 r ⟨7168 + e.val, by omega⟩)) := by
  pointwise! [gateH, sigm]

theorem gateD_at (U : FVec Ideal S8192x11264 .f32) (r : Fin 8192) (e : Fin 2048) :
    gateD U (ix2 r e) = sigm (U (ix2 r ⟨9216 + e.val, by omega⟩)) := by
  pointwise! [gateD, sigm]

theorem branch_at (P : FVec Ideal S8192x1024 .bf16) (V : FVec Ideal S1x1024x2048 .f32) (r : Fin 8192) (e : Fin 2048) :
    branch P V (ix2 r e) = ∑ k, P (ix2 r k) * V (ix3 0 k e) := by
  pointwise! [branch]

theorem mixed_at (A B C D : FVec Ideal S8192x2048 .f32) (O : FVec Ideal S1x2048x2048 .f32) (r : Fin 8192) (d : Fin 2048) :
    mixed A B C D O (ix2 r d) = ∑ e, (A (ix2 r e) * B (ix2 r e) + C (ix2 r e) * D (ix2 r e)) * O (ix3 0 e d) := by
  pointwise! [mixed]

theorem nrm_at (X : FVec Ideal S8192x2048 .f32) (g : FVec Ideal S1x2048 .f32) (r : Fin 8192) (k : Fin 2048) :
    nrm X g (ix2 r k) = rmsEntry (fun k => X (ix2 r k)) Cert.MergeIdeal.Final.len Cert.MergeIdeal.Final.eps (fun k => g (ix2 0 k)) k := by
  pointwise! [nrm, rmsEntry]

/-- The reference's result is the row plus the norm of the output product of the gated branches. -/
theorem res_eq (m : (ℓ : Loc nD τ sig) → Buf (Elt Ideal) ℓ) (c : Dev nD) :
    Cert.RefMergeIdeal.Value.res_main_v37 m c = addf (F := Ideal) (φ := .f32) (m ((c : Thread nD τ).loc main_arg3))
      (nrm (mixed (gateH (m ((c : Thread nD τ).loc main_arg2))) (branch (m ((c : Thread nD τ).loc main_arg0)) (m ((c : Thread nD τ).loc main_arg4)))
        (gateD (m ((c : Thread nD τ).loc main_arg2))) (branch (m ((c : Thread nD τ).loc main_arg1)) (m ((c : Thread nD τ).loc main_arg5)))
        (m ((c : Thread nD τ).loc main_arg6))) (m ((c : Thread nD τ).loc main_arg7))) := rfl

/-- Read at an index, that is the whole merge. -/
theorem whole_eq (P Q : FVec Ideal S8192x1024 .bf16) (U : FVec Ideal S8192x11264 .f32) (X : FVec Ideal S8192x2048 .f32)
    (V W : FVec Ideal S1x1024x2048 .f32) (O : FVec Ideal S1x2048x2048 .f32) (g : FVec Ideal S1x2048 .f32) :
    addf X (nrm (mixed (gateH U) (branch P V) (gateD U) (branch Q W) O) g) = Cert.MergeIdeal.Final.merge P Q U X V W O g := by
  funext i
  idx_vars i
  show X (ix2 i0 i1) + nrm _ _ (ix2 i0 i1) = X (ix2 i0 i1)
    + rmsEntry (fun d => ∑ e, Cert.MergeIdeal.Final.blend P Q U V W i0 e * O (ix3 0 e d)) _ _ _ i1
  rw [nrm_at]
  simp only [mixed_at, gateH_at, gateD_at, branch_at]
  rfl

/-- The reference's result is the same merge of its arguments. -/
theorem ref_eq (m : (ℓ : Loc nD τ sig) → Buf (Elt Ideal) ℓ) (c : Dev nD) :
    Cert.RefMergeIdeal.Value.res_main_v37 m c = Cert.MergeIdeal.Final.merge (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) :=
  (res_eq m c).trans (whole_eq _ _ _ _ _ _ _ _)

end Cert.RefMergeIdeal.Final
-- ==== Proof.FfnValue.lean ====
module

public import proofs.«01_k».proof.Proof.Rows
public import proofs.«01_k».proof.Proof.Gen.FfnIdeal.Frame
public import Idealize.ShloMosaic.Lib.Pipeline.ValueKit
public import Idealize.ShloMosaic.Lib.Pointwise
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.FfnIdeal.Final

open Cert.FfnIdeal Cert.FfnIdeal.Gen Cert.Rows

/-- The row length and the epsilon of the two norms, as printed. -/
abbrev len : EReal := Ideal.ofBits .f32 0x45000000#32
abbrev eps : EReal := Ideal.ofBits .f32 0x358637BD#32

/-- Hidden unit `f` of row `r`: the first norm, the gate and up products, the gating. -/
def hidden (X : FVec Ideal S8192x2048 .f32) (g : FVec Ideal S1x2048 .f32) (U : FVec Ideal S1x2048x11264 .f32)
    (r : Fin 8192) (f : Fin 5632) : EReal :=
  act (rmsEntry (fun k => X (ix2 r k)) len eps (fun k => g (ix2 0 k)))
    (fun k => U (ix3 0 k ⟨f.val, by omega⟩)) (fun k => U (ix3 0 k ⟨5632 + f.val, by omega⟩))

/-- The down product of row `r`. -/
def down (X : FVec Ideal S8192x2048 .f32) (g : FVec Ideal S1x2048 .f32) (U : FVec Ideal S1x2048x11264 .f32)
    (D : FVec Ideal S1x5632x2048 .f32) (r : Fin 8192) (d : Fin 2048) : EReal :=
  ∑ f, hidden X g U r f * D (ix3 0 f d)

/-- The whole block at row `r`: the row plus the second norm of the down product. -/
def ffn (X : FVec Ideal S8192x2048 .f32) (g : FVec Ideal S1x2048 .f32) (U : FVec Ideal S1x2048x11264 .f32)
    (D : FVec Ideal S1x5632x2048 .f32) (q : FVec Ideal S1x2048 .f32) : FVec Ideal S8192x2048 .f32 := fun i =>
  X (ix2 (i 0) (i 1)) + rmsEntry (fun d => down X g U D (i 0) d) len eps (fun d => q (ix2 0 d)) (i 1)

theorem pay1_at (x : FVec Ideal S512x2048 .f32) (g : FVec Ideal S1x2048 .f32) (i : Fin 512) (k : Fin 2048) :
    k0_pay1 (F := Ideal) x g (ix2 i k) = rmsEntry (fun k => x (ix2 i k)) len eps (fun k => g (ix2 0 k)) k := by
  pointwise! [k0_pay1, rmsEntry]

/-- A tile's product at an index, in terms of the blocks. -/
theorem pay2_at (h : FVec Ideal S512x2048 .bf16) (wg wu : FVec Ideal S2048x512 .bf16) (wd : FVec Ideal S512x2048 .bf16)
    (i : Fin 512) (d : Fin 2048) :
    k0_pay2 (F := Ideal) h wg wu wd (ix2 i d)
      = ∑ f : Fin 512, act (fun k => h (ix2 i k)) (fun k => wg (ix2 k f)) (fun k => wu (ix2 k f)) * wd (ix2 f d) := by
  pointwise [k0_pay2, act]
  simp only [sigm_sub]

theorem k0_pay3_eq (h : FVec Ideal S512x2048 .bf16) (wg wu : FVec Ideal S2048x512 .bf16) (wd : FVec Ideal S512x2048 .bf16) :
    k0_pay3 (F := Ideal) h wg wu wd = k0_pay2 (F := Ideal) h wg wu wd := by
  unfold k0_pay3; rw [shapeCast_self]

theorem pay4_at (h : FVec Ideal S512x2048 .bf16) (wg wu : FVec Ideal S2048x512 .bf16) (wd : FVec Ideal S512x2048 .bf16)
    (a : FVec Ideal S512x2048 .f32) (i : Fin 512) (d : Fin 2048) :
    k0_pay4 (F := Ideal) h wg wu wd a (ix2 i d) = a (ix2 i d) + k0_pay2 (F := Ideal) h wg wu wd (ix2 i d) := by
  pointwise [k0_pay4]

theorem pay5_at (x a : FVec Ideal S512x2048 .f32) (q : FVec Ideal S1x2048 .f32) (i : Fin 512) (d : Fin 2048) :
    k0_pay5 (F := Ideal) x a q (ix2 i d) = x (ix2 i d) + rmsEntry (fun d => a (ix2 i d)) len eps (fun d => q (ix2 0 d)) d := by
  pointwise! [k0_pay5, rmsEntry]

variable (m : (ℓ : Loc nD τ sig) → Buf (Elt Ideal) ℓ)

/-- The windows' block indices at a point. -/
theorem idx : ∀ t : Fin cfg0.N, win0_0.index t = ![t.val / 11, 0] ∧ win0_1.index t = ![0, 0]
    ∧ win0_2.index t = ![0, t.val % 11] ∧ win0_3.index t = ![0, 11 + t.val % 11] ∧ win0_4.index t = ![t.val % 11, 0]
    ∧ win0_5.index t = ![0, 0] ∧ win0_6.index t = ![t.val / 11, 0] :=
  (by decide +kernel : ∀ t : Fin grid0.N, _)

/-- The row of the array that row `i` of a point's row block is. -/
def row (n : ℕ) (h : n < cfg0.N) (i : Fin 512) : Fin 8192 :=
  ⟨n / 11 * 512 + i.val, by have := lt_of_lt_of_eq h (show cfg0.N = 176 from N_0); omega⟩

theorem blk0 (c : Dev nD) (n : ℕ) (h : n < cfg0.N) (i : Fin 512) (k : Fin 2048) :
    iblk m c 0 ⟨n, h⟩ (ix2 i k) = m ((c : Thread nD τ).loc main_arg0) (ix2 (row n h i) k) := by
  blk_ext [iblk, V, idx ⟨n, h⟩, row]

theorem blk1 (c : Dev nD) (t : Fin cfg0.N) (k : Fin 2048) :
    iblk m c 1 t (ix2 0 k) = m ((c : Thread nD τ).loc main_arg1) (ix2 0 k) := by
  blk_simp [iblk]; entry_read; pointwise; blk_ext [idx t]

theorem blk2 (c : Dev nD) (n : ℕ) (h : n < cfg0.N) (k : Fin 2048) (f : Fin 512) :
    iblk m c 2 ⟨n, h⟩ (ix2 k f) = m ((c : Thread nD τ).loc main_arg2) (ix3 0 k ⟨(n % 11 * 512 + f.val) % 5632, by omega⟩) := by
  blk_simp [iblk]; entry_read; pointwise; blk_ext [idx ⟨n, h⟩]

theorem blk3 (c : Dev nD) (n : ℕ) (h : n < cfg0.N) (k : Fin 2048) (f : Fin 512) :
    iblk m c 3 ⟨n, h⟩ (ix2 k f) = m ((c : Thread nD τ).loc main_arg2) (ix3 0 k ⟨5632 + (n % 11 * 512 + f.val) % 5632, by omega⟩) := by
  blk_simp [iblk]; entry_read; pointwise; blk_ext [idx ⟨n, h⟩]

theorem blk4 (c : Dev nD) (n : ℕ) (h : n < cfg0.N) (f : Fin 512) (d : Fin 2048) :
    iblk m c 4 ⟨n, h⟩ (ix2 f d) = m ((c : Thread nD τ).loc main_arg3) (ix3 0 ⟨(n % 11 * 512 + f.val) % 5632, by omega⟩ d) := by
  blk_simp [iblk]; entry_read; pointwise; blk_ext [idx ⟨n, h⟩]

theorem blk5 (c : Dev nD) (t : Fin cfg0.N) (k : Fin 2048) :
    iblk m c 5 t (ix2 0 k) = m ((c : Thread nD τ).loc main_arg4) (ix2 0 k) := by
  blk_simp [iblk]; entry_read; pointwise; blk_ext [idx t]

/-- What a first point of a run leaves: the normalized rows and the first tile's product. -/
theorem outA (c : Dev nD) (t : Fin cfg0.N) (h : t.val % 11 = 0) :
    (outsAt0 m c t.val t.isLt).2 = (k0_pay1 (iblk m c 0 t) (iblk m c 1 t),
      k0_pay2 (k0_pay1 (iblk m c 0 t) (iblk m c 1 t)) (iblk m c 2 t) (iblk m c 3 t) (iblk m c 4 t)) := by
  rw [outsAt0_A m c t h h (by omega) (by omega)]
  frame_out
  rw [k0_pay3_eq]

/-- What a middle point leaves in the scratches. -/
theorem outB (c : Dev nD) (t : Fin cfg0.N) (h : ¬t.val % 11 = 0) (h' : ¬t.val % 11 = 10) :
    (outsAt0 m c t.val t.isLt).2
      = ((outsAt0 m c (t.val - 1) (Nat.lt_of_le_of_lt (Nat.sub_le _ _) t.isLt)).2.1,
        k0_pay4 (outsAt0 m c (t.val - 1) (Nat.lt_of_le_of_lt (Nat.sub_le _ _) t.isLt)).2.1 (iblk m c 2 t) (iblk m c 3 t) (iblk m c 4 t)
          (outsAt0 m c (t.val - 1) (Nat.lt_of_le_of_lt (Nat.sub_le _ _) t.isLt)).2.2) := by
  rw [outsAt0_B m c t h h (by omega) h']
  frame_out
  rw [(Memref.isWhole_whole _ : scM0_0.IsWhole).read_unread, (Memref.isWhole_whole _ : scM0_1.IsWhole).read_unread]
  rfl

/-- What a last point of a run leaves. -/
theorem outC (c : Dev nD) (t : Fin cfg0.N) (h' : t.val % 11 = 10) :
    (outsAt0 m c t.val t.isLt)
      = (k0_pay5 (iblk m c 0 t) (k0_pay4 (outsAt0 m c (t.val - 1) (Nat.lt_of_le_of_lt (Nat.sub_le _ _) t.isLt)).2.1 (iblk m c 2 t) (iblk m c 3 t) (iblk m c 4 t)
          (outsAt0 m c (t.val - 1) (Nat.lt_of_le_of_lt (Nat.sub_le _ _) t.isLt)).2.2) (iblk m c 5 t),
        (outsAt0 m c (t.val - 1) (Nat.lt_of_le_of_lt (Nat.sub_le _ _) t.isLt)).2.1,
        k0_pay4 (outsAt0 m c (t.val - 1) (Nat.lt_of_le_of_lt (Nat.sub_le _ _) t.isLt)).2.1 (iblk m c 2 t) (iblk m c 3 t) (iblk m c 4 t)
          (outsAt0 m c (t.val - 1) (Nat.lt_of_le_of_lt (Nat.sub_le _ _) t.isLt)).2.2) := by
  rw [outsAt0_C m c t (by omega) (by omega) (by omega) h']
  frame_out
  rw [(Memref.isWhole_whole _ : scM0_0.IsWhole).read_unread, (Memref.isWhole_whole _ : scM0_1.IsWhole).read_unread]
  rfl

/-- Tile `j`'s share of the down product of row `r`. -/
def tile (X : FVec Ideal S8192x2048 .f32) (g : FVec Ideal S1x2048 .f32) (U : FVec Ideal S1x2048x11264 .f32)
    (D : FVec Ideal S1x5632x2048 .f32) (r : Fin 8192) (d : Fin 2048) (j : ℕ) : EReal :=
  ∑ t : Fin 512, (fun f : Fin 5632 => hidden X g U r f * D (ix3 0 f d)) ⟨(j * 512 + t.val) % 5632, Nat.mod_lt _ (by decide)⟩

/-- A point's product, from the normalized rows, is its tile's share of the rows' down product. -/
theorem part_at (c : Dev nD) (n : ℕ) (h : n < cfg0.N) (i : Fin 512) (d : Fin 2048) (H : FVec Ideal S512x2048 .bf16)
    (hH : ∀ i k, H (ix2 i k) = rmsEntry (fun k => m ((c : Thread nD τ).loc main_arg0) (ix2 (row n h i) k)) len eps
      (fun k => m ((c : Thread nD τ).loc main_arg1) (ix2 0 k)) k) :
    k0_pay2 (F := Ideal) H (iblk m c 2 ⟨n, h⟩) (iblk m c 3 ⟨n, h⟩) (iblk m c 4 ⟨n, h⟩) (ix2 i d)
      = tile (m ((c : Thread nD τ).loc main_arg0)) (m ((c : Thread nD τ).loc main_arg1)) (m ((c : Thread nD τ).loc main_arg2))
          (m ((c : Thread nD τ).loc main_arg3)) (row n h i) d (n % 11) := by
  refine (pay2_at _ _ _ _ i d).trans ?_
  unfold tile hidden
  refine Finset.sum_congr rfl fun f _ => ?_
  simp only [hH, blk2 m c n h, blk3 m c n h, blk4 m c n h]

theorem normed_at (c : Dev nD) (n : ℕ) (h : n < cfg0.N) (i : Fin 512) (k : Fin 2048) :
    k0_pay1 (F := Ideal) (iblk m c 0 ⟨n, h⟩) (iblk m c 1 ⟨n, h⟩) (ix2 i k)
      = rmsEntry (fun k => m ((c : Thread nD τ).loc main_arg0) (ix2 (row n h i) k)) len eps
          (fun k => m ((c : Thread nD τ).loc main_arg1) (ix2 0 k)) k := by
  refine (pay1_at _ _ i k).trans ?_
  simp only [blk0 m c n h, blk1 m c ⟨n, h⟩]

/-- After every point the scratches hold the normalized rows and the sum of the tiles' shares so far. -/
theorem scratch (c : Dev nD) : ∀ (n : ℕ) (h : n < cfg0.N),
    (∀ i k, (outsAt0 m c n h).2.1 (ix2 i k) = rmsEntry (fun k => m ((c : Thread nD τ).loc main_arg0) (ix2 (row n h i) k)) len eps
      (fun k => m ((c : Thread nD τ).loc main_arg1) (ix2 0 k)) k)
    ∧ ∀ i d, (outsAt0 m c n h).2.2 (ix2 i d) = ∑ j ∈ Finset.range (n % 11 + 1),
        tile (m ((c : Thread nD τ).loc main_arg0)) (m ((c : Thread nD τ).loc main_arg1)) (m ((c : Thread nD τ).loc main_arg2))
          (m ((c : Thread nD τ).loc main_arg3)) (row n h i) d j := by
  intro n
  induction n with
  | zero =>
    intro h
    rw [outA m c ⟨0, h⟩ (Nat.zero_mod _)]
    refine ⟨fun i k => normed_at m c 0 h i k, fun i d => ?_⟩
    refine (part_at m c 0 h i d _ (fun i k => normed_at m c 0 h i k)).trans ?_
    rw [Nat.zero_mod, Finset.sum_range_one]
  | succ n ih =>
    intro h
    by_cases h0 : (n + 1) % 11 = 0
    · rw [outA m c ⟨n + 1, h⟩ h0]
      refine ⟨fun i k => normed_at m c (n + 1) h i k, fun i d => ?_⟩
      refine (part_at m c (n + 1) h i d _ (fun i k => normed_at m c (n + 1) h i k)).trans ?_
      rw [h0, Finset.sum_range_one]
    · obtain ⟨ih1, ih2⟩ := ih (Nat.lt_of_succ_lt h)
      have hr : ∀ i, row (n + 1) h i = row n (Nat.lt_of_succ_lt h) i := fun i =>
        Fin.ext (show (n + 1) / 11 * 512 + i.val = n / 11 * 512 + i.val by rw [show (n + 1) / 11 = n / 11 by omega])
      have e : (outsAt0 m c (n + 1) h).2 = ((outsAt0 m c n (Nat.lt_of_succ_lt h)).2.1,
          k0_pay4 (outsAt0 m c n (Nat.lt_of_succ_lt h)).2.1 (iblk m c 2 ⟨n + 1, h⟩) (iblk m c 3 ⟨n + 1, h⟩) (iblk m c 4 ⟨n + 1, h⟩)
            (outsAt0 m c n (Nat.lt_of_succ_lt h)).2.2) := by
        by_cases h' : (n + 1) % 11 = 10
        · rw [outC m c ⟨n + 1, h⟩ h']; rfl
        · rw [outB m c ⟨n + 1, h⟩ h0 h']; rfl
      have k1 : ∀ i k, (outsAt0 m c n (Nat.lt_of_succ_lt h)).2.1 (ix2 i k) = rmsEntry (fun k => m ((c : Thread nD τ).loc main_arg0) (ix2 (row (n + 1) h i) k)) len eps
          (fun k => m ((c : Thread nD τ).loc main_arg1) (ix2 0 k)) k := fun i k => by rw [ih1, hr]
      rw [e]
      refine ⟨k1, fun i d => ?_⟩
      refine (pay4_at _ _ _ _ _ i d).trans ?_
      rw [ih2, part_at m c (n + 1) h i d _ k1, hr, show n % 11 + 1 = (n + 1) % 11 by omega, Finset.sum_range_succ]

/-- What a last point of a run writes back, read at an index, is the whole block at the row it sits at. -/
theorem point (c : Dev nD) (t : Fin cfg0.N) (ht : t.val % 11 = 10) (i : Fin 512) (d : Fin 2048) :
    (outsAt0 m c t.val t.isLt).1 (ix2 i d)
      = ffn (m ((c : Thread nD τ).loc main_arg0)) (m ((c : Thread nD τ).loc main_arg1)) (m ((c : Thread nD τ).loc main_arg2))
          (m ((c : Thread nD τ).loc main_arg3)) (m ((c : Thread nD τ).loc main_arg4)) (ix2 (row t.val t.isLt i) d) := by
  have e := (scratch m c t.val t.isLt).2
  have o := outC m c t ht
  rw [o] at e
  rw [o]
  refine (pay5_at _ _ _ i d).trans ?_
  dsimp only at e
  have hs : ∀ d, ∑ j ∈ Finset.range (t.val % 11 + 1), tile (m ((c : Thread nD τ).loc main_arg0)) (m ((c : Thread nD τ).loc main_arg1)) (m ((c : Thread nD τ).loc main_arg2))
          (m ((c : Thread nD τ).loc main_arg3)) (row t.val t.isLt i) d j
      = down (m ((c : Thread nD τ).loc main_arg0)) (m ((c : Thread nD τ).loc main_arg1)) (m ((c : Thread nD τ).loc main_arg2))
          (m ((c : Thread nD τ).loc main_arg3)) (row t.val t.isLt i) d := fun d => by
    rw [ht]
    exact sum_tiles (N := 5632) 11 512 rfl (by decide) (fun f => hidden _ _ _ _ f * m ((c : Thread nD τ).loc main_arg3) (ix3 0 f d))
  simp only [e, hs, blk0 m c t.val t.isLt, blk5 m c t]
  rfl

/-- The result array is the whole block of the arguments. -/
theorem final (c : Dev nD) : (dats m 0 c).arrAt 6 (cfgs 0).N
    = ffn (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t hf y => ?_
  have ht := (flush0_6 t).mp hf
  blk_simp
  rw [after0_6]
  idx_vars y
  refine (point m c t ht y0 y1).trans ?_
  congr 1
  blk_ext [idx t, row]

end Cert.FfnIdeal.Final
-- ==== Proof.FfnRef.lean ====
module

public import proofs.«01_k».proof.Proof.FfnValue
public import proofs.«01_k».proof.Proof.Gen.RefFfnIdeal.Run
public import Idealize.ShloMosaic.Lib.Pipeline.ValueKit
public import Idealize.ShloMosaic.Lib.Pointwise
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.RefFfnIdeal.Final

open Cert.RefFfnIdeal Cert.RefFfnIdeal.Gen Cert.Rows

/-- The reference's norm of all rows. -/
def nrm (X : FVec Ideal S8192x2048 .f32) (g : FVec Ideal S1x2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ g shapeCasts_S1x2048_S2048)))

/-- Its up product, both halves. -/
def upProd (H : FVec Ideal S8192x2048 .f32) (U : FVec Ideal S1x2048x11264 .f32) : FVec Ideal S8192x11264 .f32 :=
  Host.dotGeneral dot_S8192x2048_S2048x11264_S8192x11264_1_0_0_1_n_n none H (shapeCast _ U shapeCasts_S1x2048x11264_S2048x11264)

/-- Its gated hidden units. -/
def gated (P : FVec Ideal S8192x11264 .f32) : FVec Ideal S8192x5632 .f32 :=
  mulf (mulf (extractStridedSlice S8192x5632 ![0, 0] P slices_S8192x11264_S8192x5632_0_0) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extractStridedSlice S8192x5632 ![0, 0] P slices_S8192x11264_S8192x5632_0_0)))))) (extractStridedSlice S8192x5632 ![0, 5632] P slices_S8192x11264_S8192x5632_0_5632)

/-- Its down product. -/
def downProd (A : FVec Ideal S8192x5632 .f32) (D : FVec Ideal S1x5632x2048 .f32) : FVec Ideal S8192x2048 .f32 :=
  Host.dotGeneral dot_S8192x5632_S5632x2048_S8192x2048_1_0_0_1_n_n none A (shapeCast _ D shapeCasts_S1x5632x2048_S5632x2048)

theorem nrm_at (X : FVec Ideal S8192x2048 .f32) (g : FVec Ideal S1x2048 .f32) (r : Fin 8192) (k : Fin 2048) :
    nrm X g (ix2 r k) = rmsEntry (fun k => X (ix2 r k)) Cert.FfnIdeal.Final.len Cert.FfnIdeal.Final.eps (fun k => g (ix2 0 k)) k := by
  pointwise! [nrm, rmsEntry]

theorem upProd_at (H : FVec Ideal S8192x2048 .f32) (U : FVec Ideal S1x2048x11264 .f32) (r : Fin 8192) (f : Fin 11264) :
    upProd H U (ix2 r f) = ∑ k, H (ix2 r k) * U (ix3 0 k f) := by
  pointwise! [upProd]

theorem gated_at (P : FVec Ideal S8192x11264 .f32) (r : Fin 8192) (f : Fin 5632) :
    gated P (ix2 r f) = P (ix2 r ⟨f.val, by omega⟩) * sigm (P (ix2 r ⟨f.val, by omega⟩)) * P (ix2 r ⟨5632 + f.val, by omega⟩) := by
  pointwise! [gated, sigm]

theorem downProd_at (A : FVec Ideal S8192x5632 .f32) (D : FVec Ideal S1x5632x2048 .f32) (r : Fin 8192) (d : Fin 2048) :
    downProd A D (ix2 r d) = ∑ f, A (ix2 r f) * D (ix3 0 f d) := by
  pointwise! [downProd]

/-- The reference's result is the row plus the norm of the down product of the gated up product of the normalized row. -/
theorem res_eq (m : (ℓ : Loc nD τ sig) → Buf (Elt Ideal) ℓ) (c : Dev nD) :
    Cert.RefFfnIdeal.Value.res_main_v36 m c = addf (F := Ideal) (φ := .f32) (m ((c : Thread nD τ).loc main_arg0))
      (nrm (downProd (gated (upProd (nrm (m ((c : Thread nD τ).loc main_arg0)) (m ((c : Thread nD τ).loc main_arg1)))
        (m ((c : Thread nD τ).loc main_arg2)))) (m ((c : Thread nD τ).loc main_arg3))) (m ((c : Thread nD τ).loc main_arg4))) := rfl

/-- Read at an index, that is the whole block. -/
theorem whole_eq (X : FVec Ideal S8192x2048 .f32) (g : FVec Ideal S1x2048 .f32) (U : FVec Ideal S1x2048x11264 .f32)
    (D : FVec Ideal S1x5632x2048 .f32) (q : FVec Ideal S1x2048 .f32) :
    addf X (nrm (downProd (gated (upProd (nrm X g) U)) D) q) = Cert.FfnIdeal.Final.ffn X g U D q := by
  funext i
  idx_vars i
  show X (ix2 i0 i1) + nrm _ _ (ix2 i0 i1) = X (ix2 i0 i1) + rmsEntry (fun d => Cert.FfnIdeal.Final.down X g U D i0 d) _ _ _ i1
  rw [nrm_at]
  simp only [downProd_at, gated_at, upProd_at, nrm_at]
  rfl

/-- The reference's result is the same block of its arguments. -/
theorem ref_eq (m : (ℓ : Loc nD τ sig) → Buf (Elt Ideal) ℓ) (c : Dev nD) :
    Cert.RefFfnIdeal.Value.res_main_v36 m c = Cert.FfnIdeal.Final.ffn (m ((c : Thread nD τ).loc main_arg0)) (m ((c : Thread nD τ).loc main_arg1))
      (m ((c : Thread nD τ).loc main_arg2)) (m ((c : Thread nD τ).loc main_arg3)) (m ((c : Thread nD τ).loc main_arg4)) :=
  (res_eq m c).trans (whole_eq _ _ _ _ _)

end Cert.RefFfnIdeal.Final
-- ==== Proof.FfnSValue.lean ====
module

public import proofs.«01_k».proof.Proof.Rows
public import proofs.«01_k».proof.Proof.Gen.FfnSIdeal.Frame
public import Idealize.ShloMosaic.Lib.Pipeline.ValueKit
public import Idealize.ShloMosaic.Lib.Pointwise
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.FfnSIdeal.Final

open Cert.FfnSIdeal Cert.FfnSIdeal.Gen Cert.Rows

/-- The row length and the epsilon of the two norms, as printed. -/
abbrev len : EReal := Ideal.ofBits .f32 0x45000000#32
abbrev eps : EReal := Ideal.ofBits .f32 0x358637BD#32

/-- Hidden unit `f` of row `r`: the first norm, the gate and up products, the gating. -/
def hidden (X : FVec Ideal S64x2048 .f32) (g : FVec Ideal S1x2048 .f32) (U : FVec Ideal S1x2048x11264 .f32)
    (r : Fin 64) (f : Fin 5632) : EReal :=
  act (rmsEntry (fun k => X (ix2 r k)) len eps (fun k => g (ix2 0 k)))
    (fun k => U (ix3 0 k ⟨f.val, by omega⟩)) (fun k => U (ix3 0 k ⟨5632 + f.val, by omega⟩))

/-- The down product of row `r`. -/
def down (X : FVec Ideal S64x2048 .f32) (g : FVec Ideal S1x2048 .f32) (U : FVec Ideal S1x2048x11264 .f32)
    (D : FVec Ideal S1x5632x2048 .f32) (r : Fin 64) (d : Fin 2048) : EReal :=
  ∑ f, hidden X g U r f * D (ix3 0 f d)

/-- The whole block at row `r`: the row plus the second norm of the down product. -/
def ffn (X : FVec Ideal S64x2048 .f32) (g : FVec Ideal S1x2048 .f32) (U : FVec Ideal S1x2048x11264 .f32)
    (D : FVec Ideal S1x5632x2048 .f32) (q : FVec Ideal S1x2048 .f32) : FVec Ideal S64x2048 .f32 := fun i =>
  X (ix2 (i 0) (i 1)) + rmsEntry (fun d => down X g U D (i 0) d) len eps (fun d => q (ix2 0 d)) (i 1)

theorem pay1_at (x : FVec Ideal S64x2048 .f32) (g : FVec Ideal S1x2048 .f32) (i : Fin 64) (k : Fin 2048) :
    k0_pay1 (F := Ideal) x g (ix2 i k) = rmsEntry (fun k => x (ix2 i k)) len eps (fun k => g (ix2 0 k)) k := by
  pointwise! [k0_pay1, rmsEntry]

/-- A tile's product at an index, in terms of the blocks. -/
theorem pay2_at (h : FVec Ideal S64x2048 .bf16) (wg wu : FVec Ideal S2048x512 .bf16) (wd : FVec Ideal S512x2048 .bf16)
    (i : Fin 64) (d : Fin 2048) :
    k0_pay2 (F := Ideal) h wg wu wd (ix2 i d)
      = ∑ f : Fin 512, act (fun k => h (ix2 i k)) (fun k => wg (ix2 k f)) (fun k => wu (ix2 k f)) * wd (ix2 f d) := by
  pointwise [k0_pay2, act]
  simp only [sigm_sub]

theorem k0_pay3_eq (h : FVec Ideal S64x2048 .bf16) (wg wu : FVec Ideal S2048x512 .bf16) (wd : FVec Ideal S512x2048 .bf16) :
    k0_pay3 (F := Ideal) h wg wu wd = k0_pay2 (F := Ideal) h wg wu wd := by
  unfold k0_pay3; rw [shapeCast_self]

theorem pay4_at (h : FVec Ideal S64x2048 .bf16) (wg wu : FVec Ideal S2048x512 .bf16) (wd : FVec Ideal S512x2048 .bf16)
    (a : FVec Ideal S64x2048 .f32) (i : Fin 64) (d : Fin 2048) :
    k0_pay4 (F := Ideal) h wg wu wd a (ix2 i d) = a (ix2 i d) + k0_pay2 (F := Ideal) h wg wu wd (ix2 i d) := by
  pointwise [k0_pay4]

theorem pay5_at (x a : FVec Ideal S64x2048 .f32) (q : FVec Ideal S1x2048 .f32) (i : Fin 64) (d : Fin 2048) :
    k0_pay5 (F := Ideal) x a q (ix2 i d) = x (ix2 i d) + rmsEntry (fun d => a (ix2 i d)) len eps (fun d => q (ix2 0 d)) d := by
  pointwise! [k0_pay5, rmsEntry]

variable (m : (ℓ : Loc nD τ sig) → Buf (Elt Ideal) ℓ)

/-- The windows' block indices at a point. -/
theorem idx : ∀ t : Fin cfg0.N, win0_0.index t = ![t.val / 11, 0] ∧ win0_1.index t = ![0, 0]
    ∧ win0_2.index t = ![0, t.val % 11] ∧ win0_3.index t = ![0, 11 + t.val % 11] ∧ win0_4.index t = ![t.val % 11, 0]
    ∧ win0_5.index t = ![0, 0] ∧ win0_6.index t = ![t.val / 11, 0] :=
  (by decide +kernel : ∀ t : Fin grid0.N, _)

/-- The row of the array that row `i` of a point's row block is. -/
def row (n : ℕ) (h : n < cfg0.N) (i : Fin 64) : Fin 64 :=
  ⟨n / 11 * 64 + i.val, by have := lt_of_lt_of_eq h (show cfg0.N = 11 from N_0); omega⟩

theorem blk0 (c : Dev nD) (n : ℕ) (h : n < cfg0.N) (i : Fin 64) (k : Fin 2048) :
    iblk m c 0 ⟨n, h⟩ (ix2 i k) = m ((c : Thread nD τ).loc main_arg0) (ix2 (row n h i) k) := by
  blk_ext [iblk, V, idx ⟨n, h⟩, row]

theorem blk1 (c : Dev nD) (t : Fin cfg0.N) (k : Fin 2048) :
    iblk m c 1 t (ix2 0 k) = m ((c : Thread nD τ).loc main_arg1) (ix2 0 k) := by
  blk_simp [iblk]; entry_read; pointwise; blk_ext [idx t]

theorem blk2 (c : Dev nD) (n : ℕ) (h : n < cfg0.N) (k : Fin 2048) (f : Fin 512) :
    iblk m c 2 ⟨n, h⟩ (ix2 k f) = m ((c : Thread nD τ).loc main_arg2) (ix3 0 k ⟨(n % 11 * 512 + f.val) % 5632, by omega⟩) := by
  blk_simp [iblk]; entry_read; pointwise; blk_ext [idx ⟨n, h⟩]

theorem blk3 (c : Dev nD) (n : ℕ) (h : n < cfg0.N) (k : Fin 2048) (f : Fin 512) :
    iblk m c 3 ⟨n, h⟩ (ix2 k f) = m ((c : Thread nD τ).loc main_arg2) (ix3 0 k ⟨5632 + (n % 11 * 512 + f.val) % 5632, by omega⟩) := by
  blk_simp [iblk]; entry_read; pointwise; blk_ext [idx ⟨n, h⟩]

theorem blk4 (c : Dev nD) (n : ℕ) (h : n < cfg0.N) (f : Fin 512) (d : Fin 2048) :
    iblk m c 4 ⟨n, h⟩ (ix2 f d) = m ((c : Thread nD τ).loc main_arg3) (ix3 0 ⟨(n % 11 * 512 + f.val) % 5632, by omega⟩ d) := by
  blk_simp [iblk]; entry_read; pointwise; blk_ext [idx ⟨n, h⟩]

theorem blk5 (c : Dev nD) (t : Fin cfg0.N) (k : Fin 2048) :
    iblk m c 5 t (ix2 0 k) = m ((c : Thread nD τ).loc main_arg4) (ix2 0 k) := by
  blk_simp [iblk]; entry_read; pointwise; blk_ext [idx t]

/-- What a first point of a run leaves: the normalized rows and the first tile's product. -/
theorem outA (c : Dev nD) (t : Fin cfg0.N) (h : t.val % 11 = 0) :
    (outsAt0 m c t.val t.isLt).2 = (k0_pay1 (iblk m c 0 t) (iblk m c 1 t),
      k0_pay2 (k0_pay1 (iblk m c 0 t) (iblk m c 1 t)) (iblk m c 2 t) (iblk m c 3 t) (iblk m c 4 t)) := by
  have hN := lt_of_lt_of_eq t.isLt (show cfg0.N = 11 from N_0)
  rw [outsAt0_A m c t h h (by omega) (by omega)]
  frame_out
  rw [k0_pay3_eq]

/-- What a middle point leaves in the scratches. -/
theorem outB (c : Dev nD) (t : Fin cfg0.N) (h : ¬t.val % 11 = 0) (h' : ¬t.val % 11 = 10) :
    (outsAt0 m c t.val t.isLt).2
      = ((outsAt0 m c (t.val - 1) (Nat.lt_of_le_of_lt (Nat.sub_le _ _) t.isLt)).2.1,
        k0_pay4 (outsAt0 m c (t.val - 1) (Nat.lt_of_le_of_lt (Nat.sub_le _ _) t.isLt)).2.1 (iblk m c 2 t) (iblk m c 3 t) (iblk m c 4 t)
          (outsAt0 m c (t.val - 1) (Nat.lt_of_le_of_lt (Nat.sub_le _ _) t.isLt)).2.2) := by
  rw [outsAt0_B m c t h h (by omega) h']
  frame_out
  rw [(Memref.isWhole_whole _ : scM0_0.IsWhole).read_unread, (Memref.isWhole_whole _ : scM0_1.IsWhole).read_unread]
  rfl

/-- What a last point of a run leaves. -/
theorem outC (c : Dev nD) (t : Fin cfg0.N) (h' : t.val % 11 = 10) :
    (outsAt0 m c t.val t.isLt)
      = (k0_pay5 (iblk m c 0 t) (k0_pay4 (outsAt0 m c (t.val - 1) (Nat.lt_of_le_of_lt (Nat.sub_le _ _) t.isLt)).2.1 (iblk m c 2 t) (iblk m c 3 t) (iblk m c 4 t)
          (outsAt0 m c (t.val - 1) (Nat.lt_of_le_of_lt (Nat.sub_le _ _) t.isLt)).2.2) (iblk m c 5 t),
        (outsAt0 m c (t.val - 1) (Nat.lt_of_le_of_lt (Nat.sub_le _ _) t.isLt)).2.1,
        k0_pay4 (outsAt0 m c (t.val - 1) (Nat.lt_of_le_of_lt (Nat.sub_le _ _) t.isLt)).2.1 (iblk m c 2 t) (iblk m c 3 t) (iblk m c 4 t)
          (outsAt0 m c (t.val - 1) (Nat.lt_of_le_of_lt (Nat.sub_le _ _) t.isLt)).2.2) := by
  rw [outsAt0_C m c t (by omega) (by omega) (by omega) h']
  frame_out
  rw [(Memref.isWhole_whole _ : scM0_0.IsWhole).read_unread, (Memref.isWhole_whole _ : scM0_1.IsWhole).read_unread]
  rfl

/-- Tile `j`'s share of the down product of row `r`. -/
def tile (X : FVec Ideal S64x2048 .f32) (g : FVec Ideal S1x2048 .f32) (U : FVec Ideal S1x2048x11264 .f32)
    (D : FVec Ideal S1x5632x2048 .f32) (r : Fin 64) (d : Fin 2048) (j : ℕ) : EReal :=
  ∑ t : Fin 512, (fun f : Fin 5632 => hidden X g U r f * D (ix3 0 f d)) ⟨(j * 512 + t.val) % 5632, Nat.mod_lt _ (by decide)⟩

/-- A point's product, from the normalized rows, is its tile's share of the rows' down product. -/
theorem part_at (c : Dev nD) (n : ℕ) (h : n < cfg0.N) (i : Fin 64) (d : Fin 2048) (H : FVec Ideal S64x2048 .bf16)
    (hH : ∀ i k, H (ix2 i k) = rmsEntry (fun k => m ((c : Thread nD τ).loc main_arg0) (ix2 (row n h i) k)) len eps
      (fun k => m ((c : Thread nD τ).loc main_arg1) (ix2 0 k)) k) :
    k0_pay2 (F := Ideal) H (iblk m c 2 ⟨n, h⟩) (iblk m c 3 ⟨n, h⟩) (iblk m c 4 ⟨n, h⟩) (ix2 i d)
      = tile (m ((c : Thread nD τ).loc main_arg0)) (m ((c : Thread nD τ).loc main_arg1)) (m ((c : Thread nD τ).loc main_arg2))
          (m ((c : Thread nD τ).loc main_arg3)) (row n h i) d (n % 11) := by
  refine (pay2_at _ _ _ _ i d).trans ?_
  unfold tile hidden
  refine Finset.sum_congr rfl fun f _ => ?_
  simp only [hH, blk2 m c n h, blk3 m c n h, blk4 m c n h]

theorem normed_at (c : Dev nD) (n : ℕ) (h : n < cfg0.N) (i : Fin 64) (k : Fin 2048) :
    k0_pay1 (F := Ideal) (iblk m c 0 ⟨n, h⟩) (iblk m c 1 ⟨n, h⟩) (ix2 i k)
      = rmsEntry (fun k => m ((c : Thread nD τ).loc main_arg0) (ix2 (row n h i) k)) len eps
          (fun k => m ((c : Thread nD τ).loc main_arg1) (ix2 0 k)) k := by
  refine (pay1_at _ _ i k).trans ?_
  simp only [blk0 m c n h, blk1 m c ⟨n, h⟩]

/-- After every point the scratches hold the normalized rows and the sum of the tiles' shares so far. -/
theorem scratch (c : Dev nD) : ∀ (n : ℕ) (h : n < cfg0.N),
    (∀ i k, (outsAt0 m c n h).2.1 (ix2 i k) = rmsEntry (fun k => m ((c : Thread nD τ).loc main_arg0) (ix2 (row n h i) k)) len eps
      (fun k => m ((c : Thread nD τ).loc main_arg1) (ix2 0 k)) k)
    ∧ ∀ i d, (outsAt0 m c n h).2.2 (ix2 i d) = ∑ j ∈ Finset.range (n % 11 + 1),
        tile (m ((c : Thread nD τ).loc main_arg0)) (m ((c : Thread nD τ).loc main_arg1)) (m ((c : Thread nD τ).loc main_arg2))
          (m ((c : Thread nD τ).loc main_arg3)) (row n h i) d j := by
  intro n
  induction n with
  | zero =>
    intro h
    rw [outA m c ⟨0, h⟩ (Nat.zero_mod _)]
    refine ⟨fun i k => normed_at m c 0 h i k, fun i d => ?_⟩
    refine (part_at m c 0 h i d _ (fun i k => normed_at m c 0 h i k)).trans ?_
    rw [Nat.zero_mod, Finset.sum_range_one]
  | succ n ih =>
    intro h
    by_cases h0 : (n + 1) % 11 = 0
    · rw [outA m c ⟨n + 1, h⟩ h0]
      refine ⟨fun i k => normed_at m c (n + 1) h i k, fun i d => ?_⟩
      refine (part_at m c (n + 1) h i d _ (fun i k => normed_at m c (n + 1) h i k)).trans ?_
      rw [h0, Finset.sum_range_one]
    · obtain ⟨ih1, ih2⟩ := ih (Nat.lt_of_succ_lt h)
      have hr : ∀ i, row (n + 1) h i = row n (Nat.lt_of_succ_lt h) i := fun i =>
        Fin.ext (show (n + 1) / 11 * 64 + i.val = n / 11 * 64 + i.val by rw [show (n + 1) / 11 = n / 11 by omega])
      have e : (outsAt0 m c (n + 1) h).2 = ((outsAt0 m c n (Nat.lt_of_succ_lt h)).2.1,
          k0_pay4 (outsAt0 m c n (Nat.lt_of_succ_lt h)).2.1 (iblk m c 2 ⟨n + 1, h⟩) (iblk m c 3 ⟨n + 1, h⟩) (iblk m c 4 ⟨n + 1, h⟩)
            (outsAt0 m c n (Nat.lt_of_succ_lt h)).2.2) := by
        by_cases h' : (n + 1) % 11 = 10
        · rw [outC m c ⟨n + 1, h⟩ h']; rfl
        · rw [outB m c ⟨n + 1, h⟩ h0 h']; rfl
      have k1 : ∀ i k, (outsAt0 m c n (Nat.lt_of_succ_lt h)).2.1 (ix2 i k) = rmsEntry (fun k => m ((c : Thread nD τ).loc main_arg0) (ix2 (row (n + 1) h i) k)) len eps
          (fun k => m ((c : Thread nD τ).loc main_arg1) (ix2 0 k)) k := fun i k => by rw [ih1, hr]
      rw [e]
      refine ⟨k1, fun i d => ?_⟩
      refine (pay4_at _ _ _ _ _ i d).trans ?_
      rw [ih2, part_at m c (n + 1) h i d _ k1, hr, show n % 11 + 1 = (n + 1) % 11 by omega, Finset.sum_range_succ]

/-- What a last point of a run writes back, read at an index, is the whole block at the row it sits at. -/
theorem point (c : Dev nD) (t : Fin cfg0.N) (ht : t.val % 11 = 10) (i : Fin 64) (d : Fin 2048) :
    (outsAt0 m c t.val t.isLt).1 (ix2 i d)
      = ffn (m ((c : Thread nD τ).loc main_arg0)) (m ((c : Thread nD τ).loc main_arg1)) (m ((c : Thread nD τ).loc main_arg2))
          (m ((c : Thread nD τ).loc main_arg3)) (m ((c : Thread nD τ).loc main_arg4)) (ix2 (row t.val t.isLt i) d) := by
  have e := (scratch m c t.val t.isLt).2
  have o := outC m c t ht
  rw [o] at e
  rw [o]
  refine (pay5_at _ _ _ i d).trans ?_
  dsimp only at e
  have hs : ∀ d, ∑ j ∈ Finset.range (t.val % 11 + 1), tile (m ((c : Thread nD τ).loc main_arg0)) (m ((c : Thread nD τ).loc main_arg1)) (m ((c : Thread nD τ).loc main_arg2))
          (m ((c : Thread nD τ).loc main_arg3)) (row t.val t.isLt i) d j
      = down (m ((c : Thread nD τ).loc main_arg0)) (m ((c : Thread nD τ).loc main_arg1)) (m ((c : Thread nD τ).loc main_arg2))
          (m ((c : Thread nD τ).loc main_arg3)) (row t.val t.isLt i) d := fun d => by
    rw [ht]
    exact sum_tiles (N := 5632) 11 512 rfl (by decide) (fun f => hidden _ _ _ _ f * m ((c : Thread nD τ).loc main_arg3) (ix3 0 f d))
  simp only [e, hs, blk0 m c t.val t.isLt, blk5 m c t]
  rfl

/-- The result array is the whole block of the arguments. -/
theorem final (c : Dev nD) : (dats m 0 c).arrAt 6 (cfgs 0).N
    = ffn (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t hf y => ?_
  have ht := (flush0_6 t).mp hf
  blk_simp
  rw [after0_6]
  idx_vars y
  refine (point m c t ht y0 y1).trans ?_
  congr 1
  blk_ext [idx t, row]

end Cert.FfnSIdeal.Final
-- ==== Proof.FfnSRef.lean ====
module

public import proofs.«01_k».proof.Proof.FfnSValue
public import proofs.«01_k».proof.Proof.Gen.RefFfnSIdeal.Run
public import Idealize.ShloMosaic.Lib.Pipeline.ValueKit
public import Idealize.ShloMosaic.Lib.Pointwise
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.RefFfnSIdeal.Final

open Cert.RefFfnSIdeal Cert.RefFfnSIdeal.Gen Cert.Rows

/-- The reference's norm of all rows. -/
def nrm (X : FVec Ideal S64x2048 .f32) (g : FVec Ideal S1x2048 .f32) : FVec Ideal S64x2048 .f32 :=
  mulf (mulf X (broadcastInDim S64x2048 ![0, 1] bcast_S64x1_S64x2048_0_1 (Host.rsqrt (addf (Host.divf (broadcastInDim S64x1 ![0] bcast_S64_S64x1_0 (Host.reduceAdd (mulf X X) (constant S_ .f32 0x00000000#32) reducesTo_S64x2048_S64_d1 h_S_)) (broadcastInDim S64x1 ![] bcast_S_S64x1 (constant S_ .f32 0x45000000#32))) (broadcastInDim S64x1 ![] bcast_S_S64x1 (constant S_ .f32 0x358637BD#32)))))) (broadcastInDim S64x2048 ![0, 1] bcast_S1x2048_S64x2048_0_1 (broadcastInDim S1x2048 ![1] bcast_S2048_S1x2048_1 (shapeCast _ g shapeCasts_S1x2048_S2048)))

/-- Its up product, both halves. -/
def upProd (H : FVec Ideal S64x2048 .f32) (U : FVec Ideal S1x2048x11264 .f32) : FVec Ideal S64x11264 .f32 :=
  Host.dotGeneral dot_S64x2048_S2048x11264_S64x11264_1_0_0_1_n_n none H (shapeCast _ U shapeCasts_S1x2048x11264_S2048x11264)

/-- Its gated hidden units. -/
def gated (P : FVec Ideal S64x11264 .f32) : FVec Ideal S64x5632 .f32 :=
  mulf (mulf (extractStridedSlice S64x5632 ![0, 0] P slices_S64x11264_S64x5632_0_0) (Host.divf (broadcastInDim S64x5632 ![] bcast_S_S64x5632 (constant S_ .f32 0x3F800000#32)) (addf (broadcastInDim S64x5632 ![] bcast_S_S64x5632 (constant S_ .f32 0x3F800000#32)) (Host.exp (Host.negf (extractStridedSlice S64x5632 ![0, 0] P slices_S64x11264_S64x5632_0_0)))))) (extractStridedSlice S64x5632 ![0, 5632] P slices_S64x11264_S64x5632_0_5632)

/-- Its down product. -/
def downProd (A : FVec Ideal S64x5632 .f32) (D : FVec Ideal S1x5632x2048 .f32) : FVec Ideal S64x2048 .f32 :=
  Host.dotGeneral dot_S64x5632_S5632x2048_S64x2048_1_0_0_1_n_n none A (shapeCast _ D shapeCasts_S1x5632x2048_S5632x2048)

theorem nrm_at (X : FVec Ideal S64x2048 .f32) (g : FVec Ideal S1x2048 .f32) (r : Fin 64) (k : Fin 2048) :
    nrm X g (ix2 r k) = rmsEntry (fun k => X (ix2 r k)) Cert.FfnSIdeal.Final.len Cert.FfnSIdeal.Final.eps (fun k => g (ix2 0 k)) k := by
  pointwise! [nrm, rmsEntry]

theorem upProd_at (H : FVec Ideal S64x2048 .f32) (U : FVec Ideal S1x2048x11264 .f32) (r : Fin 64) (f : Fin 11264) :
    upProd H U (ix2 r f) = ∑ k, H (ix2 r k) * U (ix3 0 k f) := by
  pointwise! [upProd]

theorem gated_at (P : FVec Ideal S64x11264 .f32) (r : Fin 64) (f : Fin 5632) :
    gated P (ix2 r f) = P (ix2 r ⟨f.val, by omega⟩) * sigm (P (ix2 r ⟨f.val, by omega⟩)) * P (ix2 r ⟨5632 + f.val, by omega⟩) := by
  pointwise! [gated, sigm]

theorem downProd_at (A : FVec Ideal S64x5632 .f32) (D : FVec Ideal S1x5632x2048 .f32) (r : Fin 64) (d : Fin 2048) :
    downProd A D (ix2 r d) = ∑ f, A (ix2 r f) * D (ix3 0 f d) := by
  pointwise! [downProd]

/-- The reference's result is the row plus the norm of the down product of the gated up product of the normalized row. -/
theorem res_eq (m : (ℓ : Loc nD τ sig) → Buf (Elt Ideal) ℓ) (c : Dev nD) :
    Cert.RefFfnSIdeal.Value.res_main_v36 m c = addf (F := Ideal) (φ := .f32) (m ((c : Thread nD τ).loc main_arg0))
      (nrm (downProd (gated (upProd (nrm (m ((c : Thread nD τ).loc main_arg0)) (m ((c : Thread nD τ).loc main_arg1)))
        (m ((c : Thread nD τ).loc main_arg2)))) (m ((c : Thread nD τ).loc main_arg3))) (m ((c : Thread nD τ).loc main_arg4))) := rfl

/-- Read at an index, that is the whole block. -/
theorem whole_eq (X : FVec Ideal S64x2048 .f32) (g : FVec Ideal S1x2048 .f32) (U : FVec Ideal S1x2048x11264 .f32)
    (D : FVec Ideal S1x5632x2048 .f32) (q : FVec Ideal S1x2048 .f32) :
    addf X (nrm (downProd (gated (upProd (nrm X g) U)) D) q) = Cert.FfnSIdeal.Final.ffn X g U D q := by
  funext i
  idx_vars i
  show X (ix2 i0 i1) + nrm _ _ (ix2 i0 i1) = X (ix2 i0 i1) + rmsEntry (fun d => Cert.FfnSIdeal.Final.down X g U D i0 d) _ _ _ i1
  rw [nrm_at]
  simp only [downProd_at, gated_at, upProd_at, nrm_at]
  rfl

/-- The reference's result is the same block of its arguments. -/
theorem ref_eq (m : (ℓ : Loc nD τ sig) → Buf (Elt Ideal) ℓ) (c : Dev nD) :
    Cert.RefFfnSIdeal.Value.res_main_v36 m c = Cert.FfnSIdeal.Final.ffn (m ((c : Thread nD τ).loc main_arg0)) (m ((c : Thread nD τ).loc main_arg1))
      (m ((c : Thread nD τ).loc main_arg2)) (m ((c : Thread nD τ).loc main_arg3)) (m ((c : Thread nD τ).loc main_arg4)) :=
  (res_eq m c).trans (whole_eq _ _ _ _ _)

end Cert.RefFfnSIdeal.Final
-- ==== Proof.lean ====
module

public import proofs.«01_k».proof.Defs
public import proofs.«01_k».proof.Proof.Gen.Hgrn.Frame
public import proofs.«01_k».proof.Proof.Gen.HgrnIdeal.Frame
public import proofs.«01_k».proof.Proof.Gen.RefHgrnIdeal.Run
public import proofs.«01_k».proof.Proof.HgrnClaim
public import proofs.«01_k».proof.Proof.Gen.HgrnS.Frame
public import proofs.«01_k».proof.Proof.Gen.HgrnSIdeal.Frame
public import proofs.«01_k».proof.Proof.Gen.RefHgrnSIdeal.Run
public import proofs.«01_k».proof.Proof.HgrnSClaim
public import proofs.«01_k».proof.Proof.Gen.Proj.Frame
public import proofs.«01_k».proof.Proof.Gen.ProjIdeal.Frame
public import proofs.«01_k».proof.Proof.Gen.RefProjIdeal.Run
public import proofs.«01_k».proof.Proof.ProjValue
public import proofs.«01_k».proof.Proof.Gen.ProjS.Frame
public import proofs.«01_k».proof.Proof.Gen.ProjSIdeal.Frame
public import proofs.«01_k».proof.Proof.Gen.RefProjSIdeal.Run
public import proofs.«01_k».proof.Proof.ProjSValue
public import proofs.«01_k».proof.Proof.Gen.Merge.Frame
public import proofs.«01_k».proof.Proof.Gen.MergeIdeal.Frame
public import proofs.«01_k».proof.Proof.Gen.RefMergeIdeal.Run
public import proofs.«01_k».proof.Proof.MergeValue
public import proofs.«01_k».proof.Proof.MergeRef
public import proofs.«01_k».proof.Proof.Gen.Ffn.Frame
public import proofs.«01_k».proof.Proof.Gen.FfnIdeal.Frame
public import proofs.«01_k».proof.Proof.Gen.RefFfnIdeal.Run
public import proofs.«01_k».proof.Proof.FfnValue
public import proofs.«01_k».proof.Proof.FfnRef
public import proofs.«01_k».proof.Proof.Gen.FfnS.Frame
public import proofs.«01_k».proof.Proof.Gen.FfnSIdeal.Frame
public import proofs.«01_k».proof.Proof.Gen.RefFfnSIdeal.Run
public import proofs.«01_k».proof.Proof.FfnSValue
public import proofs.«01_k».proof.Proof.FfnSRef
public import Idealize.ShloMosaic.Lib.Claim
public import Idealize.ShloMosaic.Lib.Quiescent
public import Idealize.ShloMosaic.Adequacy
public import Idealize.ShloMosaic.Init

@[expose] public section

set_option maxRecDepth 65536

noncomputable section

namespace Cert.Proof

open Idealize.ShloMosaic Idealize.SL.Sem

/-- The kernel's projection of the prompt rows and the reference's end equal, as extended reals. -/
theorem algebraic_Proj : Cert.algebraic_ProjIdeal_RefProjIdeal := by
  pair_intro
  · run_from Cert.ProjIdeal.Gen.run_main m g
  · run_from Cert.RefProjIdeal.Value.run m' g'
    exact (Cert.ProjIdeal.Final.final m c).symm

/-- The kernel's projection of the sample rows and the reference's end equal, as extended reals. -/
theorem algebraic_ProjS : Cert.algebraic_ProjSIdeal_RefProjSIdeal := by
  pair_intro
  · run_from Cert.ProjSIdeal.Gen.run_main m g
  · run_from Cert.RefProjSIdeal.Value.run m' g'
    exact (Cert.ProjSIdeal.Final.final m c).symm

/-- The kernel's merge of the two branches and the reference's end equal, as extended reals. -/
theorem algebraic_Merge : Cert.algebraic_MergeIdeal_RefMergeIdeal := by
  pair_intro
  · run_from Cert.MergeIdeal.Gen.run_main m g
  · run_from Cert.RefMergeIdeal.Value.run m' g'
    rw [Cert.RefMergeIdeal.Final.ref_eq, Cert.MergeIdeal.Final.final m c]
    simp only [hagree c]

/-- The kernel's feed-forward block and the reference's end equal, as extended reals. -/
theorem algebraic_Ffn : Cert.algebraic_FfnIdeal_RefFfnIdeal := by
  pair_intro
  · run_from Cert.FfnIdeal.Gen.run_main m g
  · run_from Cert.RefFfnIdeal.Value.run m' g'
    rw [Cert.RefFfnIdeal.Final.ref_eq, Cert.FfnIdeal.Final.final m c, (hagree c).1, (hagree c).2.1, (hagree c).2.2.1, (hagree c).2.2.2.1, (hagree c).2.2.2.2]

/-- The kernel's feed-forward block of the sample rows and the reference's end equal, as extended reals. -/
theorem algebraic_FfnS : Cert.algebraic_FfnSIdeal_RefFfnSIdeal := by
  pair_intro
  · run_from Cert.FfnSIdeal.Gen.run_main m g
  · run_from Cert.RefFfnSIdeal.Value.run m' g'
    rw [Cert.RefFfnSIdeal.Final.ref_eq, Cert.FfnSIdeal.Final.final m c, (hagree c).1, (hagree c).2.1, (hagree c).2.2.1, (hagree c).2.2.2.1, (hagree c).2.2.2.2]

/-- Every run of the reference of `HgrnS` ends with its arguments unchanged. -/
theorem frame_RefHgrnS : Cert.quiescent_RefHgrnSIdeal := by
  intro m g _
  hlo_run
  · intro c; simp
  exact sem_eq_zero_of_no_sems (sig := Cert.RefHgrnSIdeal.sig) rfl _

/-- Every run of the reference of `Proj` ends with its arguments unchanged. -/
theorem frame_RefProj : Cert.quiescent_RefProjIdeal := by
  intro m g _
  hlo_run
  · intro c; simp
  exact sem_eq_zero_of_no_sems (sig := Cert.RefProjIdeal.sig) rfl _

/-- Every run of the reference of `ProjS` ends with its arguments unchanged. -/
theorem frame_RefProjS : Cert.quiescent_RefProjSIdeal := by
  intro m g _
  hlo_run
  · intro c; simp
  exact sem_eq_zero_of_no_sems (sig := Cert.RefProjSIdeal.sig) rfl _

/-- Every run of the reference of `Merge` ends with its arguments unchanged. -/
theorem frame_RefMerge : Cert.quiescent_RefMergeIdeal := by
  intro m g _
  hlo_run
  · intro c; simp
  exact sem_eq_zero_of_no_sems (sig := Cert.RefMergeIdeal.sig) rfl _

/-- Every run of the reference of `Ffn` ends with its arguments unchanged. -/
theorem frame_RefFfn : Cert.quiescent_RefFfnIdeal := by
  intro m g _
  hlo_run
  · intro c; simp
  exact sem_eq_zero_of_no_sems (sig := Cert.RefFfnIdeal.sig) rfl _

/-- Every run of the reference of `FfnS` ends with its arguments unchanged. -/
theorem frame_RefFfnS : Cert.quiescent_RefFfnSIdeal := by
  intro m g _
  hlo_run
  · intro c; simp
  exact sem_eq_zero_of_no_sems (sig := Cert.RefFfnSIdeal.sig) rfl _

theorem claim : Cert.Claim := ⟨Cert.Hgrn.Gen.facts, Cert.HgrnIdeal.Gen.facts, Cert.RefHgrnIdeal.Gen.facts, Cert.HgrnS.Gen.facts, Cert.HgrnSIdeal.Gen.facts, Cert.RefHgrnSIdeal.Gen.facts, Cert.Proj.Gen.facts, Cert.ProjIdeal.Gen.facts, Cert.RefProjIdeal.Gen.facts, Cert.ProjS.Gen.facts, Cert.ProjSIdeal.Gen.facts, Cert.RefProjSIdeal.Gen.facts, Cert.Merge.Gen.facts, Cert.MergeIdeal.Gen.facts, Cert.RefMergeIdeal.Gen.facts, Cert.Ffn.Gen.facts, Cert.FfnIdeal.Gen.facts, Cert.RefFfnIdeal.Gen.facts, Cert.FfnS.Gen.facts, Cert.FfnSIdeal.Gen.facts, Cert.RefFfnSIdeal.Gen.facts,
  fun m ρ _ => Cert.Hgrn.Gen.frame m ρ,
  fun m ρ _ => Cert.HgrnIdeal.Gen.frame m ρ,
  frame_RefHgrn,
  fun m ρ _ => Cert.HgrnS.Gen.frame m ρ,
  fun m ρ _ => Cert.HgrnSIdeal.Gen.frame m ρ,
  frame_RefHgrnS,
  fun m ρ _ => Cert.Proj.Gen.frame m ρ,
  fun m ρ _ => Cert.ProjIdeal.Gen.frame m ρ,
  frame_RefProj,
  fun m ρ _ => Cert.ProjS.Gen.frame m ρ,
  fun m ρ _ => Cert.ProjSIdeal.Gen.frame m ρ,
  frame_RefProjS,
  fun m ρ _ => Cert.Merge.Gen.frame m ρ,
  fun m ρ _ => Cert.MergeIdeal.Gen.frame m ρ,
  frame_RefMerge,
  fun m ρ _ => Cert.Ffn.Gen.frame m ρ,
  fun m ρ _ => Cert.FfnIdeal.Gen.frame m ρ,
  frame_RefFfn,
  fun m ρ _ => Cert.FfnS.Gen.frame m ρ,
  fun m ρ _ => Cert.FfnSIdeal.Gen.frame m ρ,
  frame_RefFfnS,
  trivial,
  algebraic_Hgrn,
  trivial,
  algebraic_HgrnS,
  trivial,
  algebraic_Proj,
  trivial,
  algebraic_ProjS,
  trivial,
  algebraic_Merge,
  trivial,
  algebraic_Ffn,
  trivial,
  algebraic_FfnS⟩

end Cert.Proof

end
